-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S64x64x2 : Shape := ⟨3, ![64, 64, 2]⟩
abbrev S4096x3 : Shape := ⟨2, ![4096, 3]⟩
abbrev S2048x4 : Shape := ⟨2, ![2048, 4]⟩
abbrev S4096 : Shape := ⟨1, ![4096]⟩
abbrev S2048 : Shape := ⟨1, ![2048]⟩
abbrev S_ : Shape := ⟨0, ![]⟩
abbrev S2048x1 : Shape := ⟨2, ![2048, 1]⟩

class Facts : Prop where
  bcast_S_S64x64x2 : S_.BroadcastsInDim S64x64x2 (![] : Fin 0 → Fin S64x64x2.rank)
  reducesTo_S64x64x2_S_d0_1_2 : S64x64x2.ReducesTo [0, 1, 2] S_
  h_S_ : 0 < S_.numel
  bcast_S_S4096x3 : S_.BroadcastsInDim S4096x3 (![] : Fin 0 → Fin S4096x3.rank)
  reducesTo_S4096x3_S_d0_1 : S4096x3.ReducesTo [0, 1] S_
  bcast_S_S2048x4 : S_.BroadcastsInDim S2048x4 (![] : Fin 0 → Fin S2048x4.rank)
  reducesTo_S2048x4_S_d0_1 : S2048x4.ReducesTo [0, 1] S_
  slices_S2048x4_S2048x1_0_0 : S2048x4.Slices ![0, 0] S2048x1
  shapeCasts_S2048x1_S2048 : S2048x1.ShapeCasts S2048
  bcast_S_S2048 : S_.BroadcastsInDim S2048 (![] : Fin 0 → Fin S2048.rank)
  reducesTo_S2048_S_d0 : S2048.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg3 : IVec S4096 32) (main_arg4 : IVec S2048 32) (main_v13 : IVec S_ 1) (main_v15 : FVec F S2048 .f32) (main_v16 : FVec F S2048 .f32) : IVec S_ 1 :=
  let main_v17 : IVec S2048 1 := cmpf .ogt main_v15 main_v16
  let main_c_5 : IVec S_ 1 := constantI S_ 1 1#1
  let main_v18 : IVec S_ 1 := (fun x v => Host.reduce IntOp.andi x v reducesTo_S2048_S_d0 h_S_) main_v17 main_c_5
  let main_v19 : IVec S_ 1 := andi main_v13 main_v18
  let main_c_6 : IVec S_ 32 := constantI S_ 32 0#32
  let main_v20 : IVec S4096 32 := broadcastInDim S4096 ![] bcast_S_S4096 main_c_6
  let main_v21 : IVec S4096 1 := cmpi .sge main_arg3 main_v20
  let main_c_7 : IVec S_ 32 := constantI S_ 32 2048#32
  let main_v22 : IVec S4096 32 := broadcastInDim S4096 ![] bcast_S_S4096 main_c_7
  let main_v23 : IVec S4096 1 := cmpi .slt main_arg3 main_v22
  let main_v24 : IVec S4096 1 := andi main_v21 main_v23
  let main_c_8 : IVec S_ 1 := constantI S_ 1 1#1
  let main_v25 : IVec S_ 1 := (fun x v => Host.reduce IntOp.andi x v reducesTo_S4096_S_d0 h_S_) main_v24 main_c_8
  let main_v26 : IVec S_ 1 := andi main_v19 main_v25
  let main_c_9 : IVec S_ 32 := constantI S_ 32 0#32
  let main_v27 : IVec S2048 32 := broadcastInDim S2048 ![] bcast_S_S2048 main_c_9
  let main_v28 : IVec S2048 1 := cmpi .sge main_arg4 main_v27
  let main_c_10 : IVec S_ 32 := constantI S_ 32 2048#32
  let main_v29 : IVec S2048 32 := broadcastInDim S2048 ![] bcast_S_S2048 main_c_10
  let main_v30 : IVec S2048 1 := cmpi .slt main_arg4 main_v29
  let main_v31 : IVec S2048 1 := andi main_v28 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v26 main_v32
  main_v33

def fn {F : FTy → Type} [FloatOps F] (main_arg0 : FVec F S64x64x2 .f32) (main_arg1 : FVec F S4096x3 .f32) (main_arg2 : FVec F S2048x4 .f32) (main_arg3 : IVec S4096 32) (main_arg4 : IVec S2048 32) : IVec S_ 1 :=
  let main_v0 : FVec F S64x64x2 .f32 := Host.absf main_arg0
  let main_cst : FVec F S_ .f32 := constant S_ .f32 0x7F800000#32
  let main_v1 : FVec F S64x64x2 .f32 := broadcastInDim S64x64x2 ![] bcast_S_S64x64x2 main_cst
  let main_v2 : IVec S64x64x2 1 := cmpf .olt main_v0 main_v1
  let main_c : IVec S_ 1 := constantI S_ 1 1#1
  let main_v3 : IVec S_ 1 := (fun x v => Host.reduce IntOp.andi x v reducesTo_S64x64x2_S_d0_1_2 h_S_) main_v2 main_c
  let main_v4 : FVec F S4096x3 .f32 := Host.absf main_arg1
  let main_cst_0 : FVec F S_ .f32 := constant S_ .f32 0x7F800000#32
  let main_v5 : FVec F S4096x3 .f32 := broadcastInDim S4096x3 ![] bcast_S_S4096x3 main_cst_0
  let main_v6 : IVec S4096x3 1 := cmpf .olt main_v4 main_v5
  let main_c_1 : IVec S_ 1 := constantI S_ 1 1#1
  let main_v7 : IVec S_ 1 := (fun x v => Host.reduce IntOp.andi x v reducesTo_S4096x3_S_d0_1 h_S_) main_v6 main_c_1
  let main_v8 : IVec S_ 1 := andi main_v3 main_v7
  let main_v9 : FVec F S2048x4 .f32 := Host.absf main_arg2
  let main_cst_2 : FVec F S_ .f32 := constant S_ .f32 0x7F800000#32
  let main_v10 : FVec F S2048x4 .f32 := broadcastInDim S2048x4 ![] bcast_S_S2048x4 main_cst_2
  let main_v11 : IVec S2048x4 1 := cmpf .olt main_v9 main_v10
  let main_c_3 : IVec S_ 1 := constantI S_ 1 1#1
  let main_v12 : IVec S_ 1 := (fun x v => Host.reduce IntOp.andi x v reducesTo_S2048x4_S_d0_1 h_S_) main_v11 main_c_3
  let main_v13 : IVec S_ 1 := andi main_v8 main_v12
  let main_v14 : FVec F S2048x1 .f32 := (extractStridedSlice S2048x1 ![0, 0] · slices_S2048x4_S2048x1_0_0) main_arg2
  let main_v15 : FVec F S2048 .f32 := shapeCast S2048 main_v14 shapeCasts_S2048x1_S2048
  let main_cst_4 : FVec F S_ .f32 := constant S_ .f32 0x00000000#32
  let main_v16 : FVec F S2048 .f32 := broadcastInDim S2048 ![] bcast_S_S2048 main_cst_4
  fn_part1 (F := F) main_arg3 main_arg4 main_v13 main_v15 main_v16
-- ==== Kernel.lean ====
abbrev S64x64x2 : Shape := ⟨3, ![64, 64, 2]⟩
abbrev S4096x3 : Shape := ⟨2, ![4096, 3]⟩
abbrev S2048x4 : Shape := ⟨2, ![2048, 4]⟩
abbrev S4096 : Shape := ⟨1, ![4096]⟩
abbrev S2048 : Shape := ⟨1, ![2048]⟩
abbrev S64x64x1 : Shape := ⟨3, ![64, 64, 1]⟩
abbrev S64x64 : Shape := ⟨2, ![64, 64]⟩
abbrev S32x128 : Shape := ⟨2, ![32, 128]⟩
abbrev S_ : Shape := ⟨0, ![]⟩
abbrev S4096x1 : Shape := ⟨2, ![4096, 1]⟩
abbrev S1 : Shape := ⟨1, ![1]⟩
abbrev S2049 : Shape := ⟨1, ![2049]⟩
abbrev S128 : Shape := ⟨1, ![128]⟩
abbrev S129 : Shape := ⟨1, ![129]⟩
abbrev S2048x1 : Shape := ⟨2, ![2048, 1]⟩
abbrev S2048x2x32x128 : Shape := ⟨4, ![2048, 2, 32, 128]⟩
abbrev S2048x2x64x64 : Shape := ⟨4, ![2048, 2, 64, 64]⟩
abbrev S2048x64x64x2 : Shape := ⟨4, ![2048, 64, 64, 2]⟩
abbrev S16x2x32x128 : Shape := ⟨4, ![16, 2, 32, 128]⟩
abbrev S16x32x128 : Shape := ⟨3, ![16, 32, 128]⟩
abbrev S1x32x128 : Shape := ⟨3, ![1, 32, 128]⟩
abbrev S1x1x32x128 : Shape := ⟨4, ![1, 1, 32, 128]⟩

abbrev nBuf : Space → Nat
  | .hbm => 357
  | .vmem => 8
  | .smem => 17
  | _ => 0

abbrev hbmTy0_0 (i : Nat) : BufTy := match i % 128 with
  | 0 => ⟨S64x64x2, .f32⟩
  | 1 => ⟨S4096x3, .f32⟩
  | 2 => ⟨S2048x4, .f32⟩
  | 3 => ⟨S4096, .i32⟩
  | 4 => ⟨S2048, .i32⟩
  | 5 => ⟨S64x64x1, .f32⟩
  | 6 => ⟨S64x64, .f32⟩
  | 7 => ⟨S32x128, .f32⟩
  | 8 => ⟨S64x64x1, .f32⟩
  | 9 => ⟨S64x64, .f32⟩
  | 10 => ⟨S32x128, .f32⟩
  | 11 => ⟨S32x128, .f32⟩
  | 12 => ⟨S32x128, .f32⟩
  | 13 => ⟨S32x128, .f32⟩
  | 14 => ⟨S_, .f32⟩
  | 15 => ⟨S32x128, .f32⟩
  | 16 => ⟨S32x128, .f32⟩
  | 17 => ⟨S4096, .i32⟩
  | 18 => ⟨S4096, .i32⟩
  | 19 => ⟨S4096, .i32⟩
  | 20 => ⟨S_, .i32⟩
  | 21 => ⟨S4096, .i32⟩
  | 22 => ⟨S4096, .i1⟩
  | 23 => ⟨S_, .i32⟩
  | 24 => ⟨S4096, .i32⟩
  | 25 => ⟨S4096, .i32⟩
  | 26 => ⟨S4096, .i32⟩
  | 27 => ⟨S4096x1, .i32⟩
  | 28 => ⟨S4096, .i32⟩
  | 29 => ⟨S_, .i32⟩
  | 30 => ⟨S2048, .i32⟩
  | 31 => ⟨S_, .i32⟩
  | 32 => ⟨S_, .i32⟩
  | 33 => ⟨S4096, .i32⟩
  | 34 => ⟨S4096, .i32⟩
  | 35 => ⟨S_, .i32⟩
  | 36 => ⟨S4096, .i32⟩
  | 37 => ⟨S4096, .i1⟩
  | 38 => ⟨S_, .i32⟩
  | 39 => ⟨S4096, .i32⟩
  | 40 => ⟨S4096, .i32⟩
  | 41 => ⟨S4096, .i32⟩
  | 42 => ⟨S4096x1, .i32⟩
  | 43 => ⟨S_, .i32⟩
  | 44 => ⟨S4096, .i32⟩
  | 45 => ⟨S2048, .i32⟩
  | 46 => ⟨S_, .i32⟩
  | 47 => ⟨S1, .i32⟩
  | 48 => ⟨S_, .i32⟩
  | 49 => ⟨S_, .i32⟩
  | 50 => ⟨S2048, .i32⟩
  | 51 => ⟨S2049, .i32⟩
  | 52 => ⟨S4096, .i32⟩
  | 53 => ⟨S_, .i32⟩
  | 54 => ⟨S4096, .i32⟩
  | 55 => ⟨S4096, .i1⟩
  | 56 => ⟨S_, .i32⟩
  | 57 => ⟨S4096, .i32⟩
  | 58 => ⟨S4096, .i32⟩
  | 59 => ⟨S4096, .i32⟩
  | 60 => ⟨S4096x1, .i32⟩
  | 61 => ⟨S4096, .i32⟩
  | 62 => ⟨S4096, .i32⟩
  | 63 => ⟨S_, .i32⟩
  | 64 => ⟨S_, .i32⟩
  | 65 => ⟨S4096, .i32⟩
  | 66 => ⟨S4096, .i32⟩
  | 67 => ⟨S4096, .i32⟩
  | 68 => ⟨S_, .i32⟩
  | 69 => ⟨S4096, .i32⟩
  | 70 => ⟨S4096, .i1⟩
  | 71 => ⟨S4096, .i32⟩
  | 72 => ⟨S4096, .i32⟩
  | 73 => ⟨S_, .i32⟩
  | 74 => ⟨S4096, .i32⟩
  | 75 => ⟨S4096, .i1⟩
  | 76 => ⟨S4096, .i1⟩
  | 77 => ⟨S_, .i32⟩
  | 78 => ⟨S4096, .i32⟩
  | 79 => ⟨S4096, .i32⟩
  | 80 => ⟨S4096, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S4096, .i32⟩
  | 88 => ⟨S4096, .i32⟩
  | 89 => ⟨S_, .i32⟩
  | 90 => ⟨S4096, .i32⟩
  | 91 => ⟨S4096, .i1⟩
  | 92 => ⟨S_, .i32⟩
  | 93 => ⟨S4096, .i32⟩
  | 94 => ⟨S4096, .i1⟩
  | 95 => ⟨S_, .i32⟩
  | 96 => ⟨S_, .i1⟩
  | 97 => ⟨S4096, .i1⟩
  | 98 => ⟨S4096, .i1⟩
  | 99 => ⟨S4096, .i1⟩
  | 100 => ⟨S4096, .i32⟩
  | 101 => ⟨S4096, .i32⟩
  | 102 => ⟨S4096, .i32⟩
  | 103 => ⟨S_, .i32⟩
  | 104 => ⟨S4096, .i32⟩
  | 105 => ⟨S4096, .i32⟩
  | 106 => ⟨S4096, .i32⟩
  | 107 => ⟨S_, .i32⟩
  | 108 => ⟨S4096, .i32⟩
  | 109 => ⟨S4096, .i32⟩
  | 110 => ⟨S4096, .i32⟩
  | 111 => ⟨S4096, .i32⟩
  | 112 => ⟨S4096, .i32⟩
  | 113 => ⟨S4096, .i32⟩
  | 114 => ⟨S_, .i32⟩
  | 115 => ⟨S4096, .i32⟩
  | 116 => ⟨S4096, .i1⟩
  | 117 => ⟨S_, .i32⟩
  | 118 => ⟨S4096, .i32⟩
  | 119 => ⟨S4096, .i32⟩
  | 120 => ⟨S4096, .i32⟩
  | 121 => ⟨S4096x1, .i32⟩
  | 122 => ⟨S4096, .i32⟩
  | 123 => ⟨S_, .i32⟩
  | 124 => ⟨S128, .i32⟩
  | 125 => ⟨S_, .i32⟩
  | 126 => ⟨S_, .i32⟩
  | 127 => ⟨S4096, .i32⟩
  | _ => ⟨S64x64x2, .f32⟩

abbrev hbmTy0_1 (i : Nat) : BufTy := match i % 128 with
  | 0 => ⟨S4096, .i32⟩
  | 1 => ⟨S_, .i32⟩
  | 2 => ⟨S4096, .i32⟩
  | 3 => ⟨S4096, .i1⟩
  | 4 => ⟨S_, .i32⟩
  | 5 => ⟨S4096, .i32⟩
  | 6 => ⟨S4096, .i32⟩
  | 7 => ⟨S4096, .i32⟩
  | 8 => ⟨S4096x1, .i32⟩
  | 9 => ⟨S_, .i32⟩
  | 10 => ⟨S4096, .i32⟩
  | 11 => ⟨S128, .i32⟩
  | 12 => ⟨S_, .i32⟩
  | 13 => ⟨S1, .i32⟩
  | 14 => ⟨S_, .i32⟩
  | 15 => ⟨S_, .i32⟩
  | 16 => ⟨S128, .i32⟩
  | 17 => ⟨S129, .i32⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S4096, .i32⟩
  | 25 => ⟨S4096x1, .i32⟩
  | 26 => ⟨S4096, .i32⟩
  | 27 => ⟨S_, .i32⟩
  | 28 => ⟨S4096, .i32⟩
  | 29 => ⟨S4096, .i1⟩
  | 30 => ⟨S_, .i32⟩
  | 31 => ⟨S4096, .i32⟩
  | 32 => ⟨S4096, .i32⟩
  | 33 => ⟨S4096, .i32⟩
  | 34 => ⟨S4096x1, .i32⟩
  | 35 => ⟨S4096x3, .f32⟩
  | 36 => ⟨S4096x1, .f32⟩
  | 37 => ⟨S4096, .f32⟩
  | 38 => ⟨S4096x1, .f32⟩
  | 39 => ⟨S4096, .f32⟩
  | 40 => ⟨S4096x1, .f32⟩
  | 41 => ⟨S4096, .f32⟩
  | 42 => ⟨S_, .f32⟩
  | 43 => ⟨S4096, .f32⟩
  | 44 => ⟨S4096, .f32⟩
  | 45 => ⟨S_, .f32⟩
  | 46 => ⟨S4096, .f32⟩
  | 47 => ⟨S4096, .f32⟩
  | 48 => ⟨S4096, .f32⟩
  | 49 => ⟨S4096, .f32⟩
  | 50 => ⟨S4096, .f32⟩
  | 51 => ⟨S2048, .i32⟩
  | 52 => ⟨S2048, .i32⟩
  | 53 => ⟨S2048, .i32⟩
  | 54 => ⟨S_, .i32⟩
  | 55 => ⟨S2048, .i32⟩
  | 56 => ⟨S2048, .i1⟩
  | 57 => ⟨S_, .i32⟩
  | 58 => ⟨S2048, .i32⟩
  | 59 => ⟨S2048, .i32⟩
  | 60 => ⟨S2048, .i32⟩
  | 61 => ⟨S2048x1, .i32⟩
  | 62 => ⟨S2048, .i32⟩
  | 63 => ⟨S_, .i32⟩
  | 64 => ⟨S2048, .i32⟩
  | 65 => ⟨S_, .i32⟩
  | 66 => ⟨S_, .i32⟩
  | 67 => ⟨S2048, .i32⟩
  | 68 => ⟨S2048, .i32⟩
  | 69 => ⟨S_, .i32⟩
  | 70 => ⟨S2048, .i32⟩
  | 71 => ⟨S2048, .i1⟩
  | 72 => ⟨S_, .i32⟩
  | 73 => ⟨S2048, .i32⟩
  | 74 => ⟨S2048, .i32⟩
  | 75 => ⟨S2048, .i32⟩
  | 76 => ⟨S2048x1, .i32⟩
  | 77 => ⟨S_, .i32⟩
  | 78 => ⟨S2048, .i32⟩
  | 79 => ⟨S2048, .i32⟩
  | 80 => ⟨S_, .i32⟩
  | 81 => ⟨S1, .i32⟩
  | 82 => ⟨S_, .i32⟩
  | 83 => ⟨S_, .i32⟩
  | 84 => ⟨S2048, .i32⟩
  | 85 => ⟨S2049, .i32⟩
  | 86 => ⟨S2048, .i32⟩
  | 87 => ⟨S_, .i32⟩
  | 88 => ⟨S2048, .i32⟩
  | 89 => ⟨S2048, .i1⟩
  | 90 => ⟨S_, .i32⟩
  | 91 => ⟨S2048, .i32⟩
  | 92 => ⟨S2048, .i32⟩
  | 93 => ⟨S2048, .i32⟩
  | 94 => ⟨S2048x1, .i32⟩
  | 95 => ⟨S2048, .i32⟩
  | 96 => ⟨S2048, .i32⟩
  | 97 => ⟨S_, .i32⟩
  | 98 => ⟨S_, .i32⟩
  | 99 => ⟨S2048, .i32⟩
  | 100 => ⟨S2048, .i32⟩
  | 101 => ⟨S2048, .i32⟩
  | 102 => ⟨S_, .i32⟩
  | 103 => ⟨S2048, .i32⟩
  | 104 => ⟨S2048, .i1⟩
  | 105 => ⟨S2048, .i32⟩
  | 106 => ⟨S2048, .i32⟩
  | 107 => ⟨S_, .i32⟩
  | 108 => ⟨S2048, .i32⟩
  | 109 => ⟨S2048, .i1⟩
  | 110 => ⟨S2048, .i1⟩
  | 111 => ⟨S_, .i32⟩
  | 112 => ⟨S2048, .i32⟩
  | 113 => ⟨S2048, .i32⟩
  | 114 => ⟨S2048, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S2048, .i32⟩
  | 122 => ⟨S2048, .i32⟩
  | 123 => ⟨S_, .i32⟩
  | 124 => ⟨S2048, .i32⟩
  | 125 => ⟨S2048, .i1⟩
  | 126 => ⟨S_, .i32⟩
  | 127 => ⟨S2048, .i32⟩
  | _ => ⟨S64x64x2, .f32⟩

abbrev hbmTy0_2 (i : Nat) : BufTy := match i % 128 with
  | 0 => ⟨S2048, .i1⟩
  | 1 => ⟨S_, .i32⟩
  | 2 => ⟨S_, .i1⟩
  | 3 => ⟨S2048, .i1⟩
  | 4 => ⟨S2048, .i1⟩
  | 5 => ⟨S2048, .i1⟩
  | 6 => ⟨S2048, .i32⟩
  | 7 => ⟨S2048, .i32⟩
  | 8 => ⟨S2048, .i32⟩
  | 9 => ⟨S_, .i32⟩
  | 10 => ⟨S2048, .i32⟩
  | 11 => ⟨S2048, .i32⟩
  | 12 => ⟨S2048, .i32⟩
  | 13 => ⟨S_, .i32⟩
  | 14 => ⟨S2048, .i32⟩
  | 15 => ⟨S2048, .i32⟩
  | 16 => ⟨S2048, .i32⟩
  | 17 => ⟨S2048, .i32⟩
  | 18 => ⟨S2048, .i32⟩
  | 19 => ⟨S2048, .i32⟩
  | 20 => ⟨S_, .i32⟩
  | 21 => ⟨S2048, .i32⟩
  | 22 => ⟨S2048, .i1⟩
  | 23 => ⟨S_, .i32⟩
  | 24 => ⟨S2048, .i32⟩
  | 25 => ⟨S2048, .i32⟩
  | 26 => ⟨S2048, .i32⟩
  | 27 => ⟨S2048x1, .i32⟩
  | 28 => ⟨S2048, .i32⟩
  | 29 => ⟨S_, .i32⟩
  | 30 => ⟨S128, .i32⟩
  | 31 => ⟨S_, .i32⟩
  | 32 => ⟨S_, .i32⟩
  | 33 => ⟨S2048, .i32⟩
  | 34 => ⟨S2048, .i32⟩
  | 35 => ⟨S_, .i32⟩
  | 36 => ⟨S2048, .i32⟩
  | 37 => ⟨S2048, .i1⟩
  | 38 => ⟨S_, .i32⟩
  | 39 => ⟨S2048, .i32⟩
  | 40 => ⟨S2048, .i32⟩
  | 41 => ⟨S2048, .i32⟩
  | 42 => ⟨S2048x1, .i32⟩
  | 43 => ⟨S_, .i32⟩
  | 44 => ⟨S2048, .i32⟩
  | 45 => ⟨S128, .i32⟩
  | 46 => ⟨S_, .i32⟩
  | 47 => ⟨S1, .i32⟩
  | 48 => ⟨S_, .i32⟩
  | 49 => ⟨S_, .i32⟩
  | 50 => ⟨S128, .i32⟩
  | 51 => ⟨S129, .i32⟩
  | 52 => ⟨S_, .i32⟩
  | 53 => ⟨S2048, .i32⟩
  | 54 => ⟨S2048, .i1⟩
  | 55 => ⟨S_, .i32⟩
  | 56 => ⟨S2048, .i32⟩
  | 57 => ⟨S2048, .i32⟩
  | 58 => ⟨S2048, .i32⟩
  | 59 => ⟨S2048x1, .i32⟩
  | 60 => ⟨S2048, .i32⟩
  | 61 => ⟨S_, .i32⟩
  | 62 => ⟨S2048, .i32⟩
  | 63 => ⟨S2048, .i1⟩
  | 64 => ⟨S_, .i32⟩
  | 65 => ⟨S2048, .i32⟩
  | 66 => ⟨S2048, .i32⟩
  | 67 => ⟨S2048, .i32⟩
  | 68 => ⟨S2048x1, .i32⟩
  | 69 => ⟨S2048x4, .f32⟩
  | 70 => ⟨S2048x1, .f32⟩
  | 71 => ⟨S2048, .f32⟩
  | 72 => ⟨S2048x1, .f32⟩
  | 73 => ⟨S2048, .f32⟩
  | 74 => ⟨S2048x1, .f32⟩
  | 75 => ⟨S2048, .f32⟩
  | 76 => ⟨S2048x1, .f32⟩
  | 77 => ⟨S2048, .f32⟩
  | 78 => ⟨S_, .f32⟩
  | 79 => ⟨S2048, .f32⟩
  | 80 => ⟨S2048, .f32⟩
  | 81 => ⟨S2048, .f32⟩
  | 82 => ⟨S2048, .f32⟩
  | 83 => ⟨S_, .f32⟩
  | 84 => ⟨S2048, .f32⟩
  | 85 => ⟨S2048, .f32⟩
  | 86 => ⟨S_, .f32⟩
  | 87 => ⟨S2048, .f32⟩
  | 88 => ⟨S2048, .f32⟩
  | 89 => ⟨S_, .f32⟩
  | 90 => ⟨S2048, .f32⟩
  | 91 => ⟨S2048, .f32⟩
  | 92 => ⟨S_, .f32⟩
  | 93 => ⟨S2048, .f32⟩
  | 94 => ⟨S2048, .f32⟩
  | 95 => ⟨S2048, .f32⟩
  | 96 => ⟨S2048, .f32⟩
  | 97 => ⟨S2048, .f32⟩
  | 98 => ⟨S2048x2x32x128, .f32⟩
  | 99 => ⟨S2048x2x64x64, .f32⟩
  | 100 => ⟨S2048x64x64x2, .f32⟩
  | _ => ⟨S64x64x2, .f32⟩

abbrev hbmTy (i : Nat) : BufTy := match i / 128 with
  | 0 => hbmTy0_0 i
  | 1 => hbmTy0_1 i
  | 2 => hbmTy0_2 i
  | _ => ⟨S64x64x2, .f32⟩

abbrev bufTy : (tb : Table) → Fin (tcTables nBuf tb) → BufTy
  | .hbm, ⟨i, _⟩ => hbmTy i
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S16x2x32x128, .f32⟩
  | .local _ .vmem, ⟨4, _⟩ => ⟨S16x2x32x128, .f32⟩
  | .local _ .vmem, ⟨5, _⟩ => ⟨S16x32x128, .f32⟩
  | .local _ .vmem, ⟨6, _⟩ => ⟨S16x32x128, .f32⟩
  | .local _ .vmem, ⟨7, _⟩ => ⟨S16x32x128, .f32⟩
  | .local _ .smem, ⟨0, _⟩ => ⟨S129, .i32⟩
  | .local _ .smem, ⟨1, _⟩ => ⟨S129, .i32⟩
  | .local _ .smem, ⟨2, _⟩ => ⟨S4096, .i32⟩
  | .local _ .smem, ⟨3, _⟩ => ⟨S4096, .f32⟩
  | .local _ .smem, ⟨4, _⟩ => ⟨S4096, .f32⟩
  | .local _ .smem, ⟨5, _⟩ => ⟨S4096, .f32⟩
  | .local _ .smem, ⟨6, _⟩ => ⟨S4096, .f32⟩
  | .local _ .smem, ⟨7, _⟩ => ⟨S4096, .f32⟩
  | .local _ .smem, ⟨8, _⟩ => ⟨S4096, .f32⟩
  | .local _ .smem, ⟨9, _⟩ => ⟨S2048, .i32⟩
  | .local _ .smem, ⟨10, _⟩ => ⟨S2048, .f32⟩
  | .local _ .smem, ⟨11, _⟩ => ⟨S2048, .f32⟩
  | .local _ .smem, ⟨12, _⟩ => ⟨S2048, .f32⟩
  | .local _ .smem, ⟨13, _⟩ => ⟨S2048, .f32⟩
  | .local _ .smem, ⟨14, _⟩ => ⟨S2048, .f32⟩
  | .local _ .smem, ⟨15, _⟩ => ⟨S2048, .f32⟩
  | .local _ .smem, ⟨16, _⟩ => ⟨S2048, .f32⟩
  | _, _ => ⟨S64x64x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | .smem, ⟨10, _⟩ => true
  | .smem, ⟨11, _⟩ => true
  | .smem, ⟨12, _⟩ => true
  | .smem, ⟨13, _⟩ => true
  | .smem, ⟨14, _⟩ => true
  | .smem, ⟨15, _⟩ => true
  | .smem, ⟨16, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_cst : Ref sig .tc := ⟨.hbm, 14, rfl⟩
abbrev main_call0_v9 : Ref sig .tc := ⟨.hbm, 15, rfl⟩
abbrev main_call0_v10 : Ref sig .tc := ⟨.hbm, 16, rfl⟩
abbrev main_call0_call0_v0 : Ref sig .tc := ⟨.hbm, 17, rfl⟩
abbrev main_call0_call0_v1_0 : Ref sig .tc := ⟨.hbm, 18, rfl⟩
abbrev main_call0_v11 : Ref sig .tc := ⟨.hbm, 19, rfl⟩
abbrev main_call0_c : Ref sig .tc := ⟨.hbm, 20, rfl⟩
abbrev main_call0_v12 : Ref sig .tc := ⟨.hbm, 21, rfl⟩
abbrev main_call0_v13 : Ref sig .tc := ⟨.hbm, 22, rfl⟩
abbrev main_call0_c_0 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_c_1 : Ref sig .tc := ⟨.hbm, 29, rfl⟩
abbrev main_call0_v19 : Ref sig .tc := ⟨.hbm, 30, rfl⟩
abbrev main_call0_c_2 : Ref sig .tc := ⟨.hbm, 31, rfl⟩
abbrev main_call0_call1_v0 : Ref sig .tc := ⟨.hbm, 32, rfl⟩
abbrev main_call0_call1_v1 : Ref sig .tc := ⟨.hbm, 33, rfl⟩
abbrev main_call0_v20 : Ref sig .tc := ⟨.hbm, 34, rfl⟩
abbrev main_call0_c_3 : Ref sig .tc := ⟨.hbm, 35, rfl⟩
abbrev main_call0_v21 : Ref sig .tc := ⟨.hbm, 36, rfl⟩
abbrev main_call0_v22 : Ref sig .tc := ⟨.hbm, 37, rfl⟩
abbrev main_call0_c_4 : Ref sig .tc := ⟨.hbm, 38, rfl⟩
abbrev main_call0_v23 : Ref sig .tc := ⟨.hbm, 39, rfl⟩
abbrev main_call0_v24 : Ref sig .tc := ⟨.hbm, 40, rfl⟩
abbrev main_call0_v25 : Ref sig .tc := ⟨.hbm, 41, rfl⟩
abbrev main_call0_v26 : Ref sig .tc := ⟨.hbm, 42, rfl⟩
abbrev main_call0_c_5 : Ref sig .tc := ⟨.hbm, 43, rfl⟩
abbrev main_call0_v27 : Ref sig .tc := ⟨.hbm, 44, rfl⟩
abbrev main_call0_v28 : Ref sig .tc := ⟨.hbm, 45, rfl⟩
abbrev main_call0_c_6 : Ref sig .tc := ⟨.hbm, 46, rfl⟩
abbrev main_call0_v29 : Ref sig .tc := ⟨.hbm, 47, rfl⟩
abbrev main_call0_call2_call0_c : Ref sig .tc := ⟨.hbm, 48, rfl⟩
abbrev main_call0_call2_call0_v0 : Ref sig .tc := ⟨.hbm, 49, rfl⟩
abbrev main_call0_v30 : Ref sig .tc := ⟨.hbm, 50, rfl⟩
abbrev main_call0_v31 : Ref sig .tc := ⟨.hbm, 51, rfl⟩
abbrev main_call0_v32 : Ref sig .tc := ⟨.hbm, 52, rfl⟩
abbrev main_call0_c_7 : Ref sig .tc := ⟨.hbm, 53, rfl⟩
abbrev main_call0_v33 : Ref sig .tc := ⟨.hbm, 54, rfl⟩
abbrev main_call0_v34 : Ref sig .tc := ⟨.hbm, 55, rfl⟩
abbrev main_call0_c_8 : Ref sig .tc := ⟨.hbm, 56, rfl⟩
abbrev main_call0_v35 : Ref sig .tc := ⟨.hbm, 57, rfl⟩
abbrev main_call0_v36 : Ref sig .tc := ⟨.hbm, 58, rfl⟩
abbrev main_call0_v37 : Ref sig .tc := ⟨.hbm, 59, rfl⟩
abbrev main_call0_v38 : Ref sig .tc := ⟨.hbm, 60, rfl⟩
abbrev main_call0_v39 : Ref sig .tc := ⟨.hbm, 61, rfl⟩
abbrev main_call0_v40 : Ref sig .tc := ⟨.hbm, 62, rfl⟩
abbrev main_call0_c_9 : Ref sig .tc := ⟨.hbm, 63, rfl⟩
abbrev main_call0_call3_v0 : Ref sig .tc := ⟨.hbm, 64, rfl⟩
abbrev main_call0_call3_v1 : Ref sig .tc := ⟨.hbm, 65, rfl⟩
abbrev main_call0_call3_v2 : Ref sig .tc := ⟨.hbm, 66, rfl⟩
abbrev main_call0_call3_v3 : Ref sig .tc := ⟨.hbm, 67, rfl⟩
abbrev main_call0_call3_v4 : Ref sig .tc := ⟨.hbm, 68, rfl⟩
abbrev main_call0_call3_v5 : Ref sig .tc := ⟨.hbm, 69, rfl⟩
abbrev main_call0_call3_v6 : Ref sig .tc := ⟨.hbm, 70, rfl⟩
abbrev main_call0_call3_v7 : Ref sig .tc := ⟨.hbm, 71, rfl⟩
abbrev main_call0_call3_v8 : Ref sig .tc := ⟨.hbm, 72, rfl⟩
abbrev main_call0_call3_c : Ref sig .tc := ⟨.hbm, 73, rfl⟩
abbrev main_call0_call3_v9 : Ref sig .tc := ⟨.hbm, 74, rfl⟩
abbrev main_call0_call3_v10 : Ref sig .tc := ⟨.hbm, 75, rfl⟩
abbrev main_call0_call3_v11 : Ref sig .tc := ⟨.hbm, 76, rfl⟩
abbrev main_call0_call3_c_0 : Ref sig .tc := ⟨.hbm, 77, rfl⟩
abbrev main_call0_call3_v12 : Ref sig .tc := ⟨.hbm, 78, rfl⟩
abbrev main_call0_call3_v13 : Ref sig .tc := ⟨.hbm, 79, rfl⟩
abbrev main_call0_v41 : Ref sig .tc := ⟨.hbm, 80, rfl⟩
abbrev main_call0_c_10 : Ref sig .tc := ⟨.hbm, 81, rfl⟩
abbrev main_call0_call4_v0 : Ref sig .tc := ⟨.hbm, 82, rfl⟩
abbrev main_call0_call4_c : Ref sig .tc := ⟨.hbm, 83, rfl⟩
abbrev main_call0_call4_v1 : Ref sig .tc := ⟨.hbm, 84, rfl⟩
abbrev main_call0_call4_c_0 : Ref sig .tc := ⟨.hbm, 85, rfl⟩
abbrev main_call0_call4_v2 : Ref sig .tc := ⟨.hbm, 86, rfl⟩
abbrev main_call0_call4_v3 : Ref sig .tc := ⟨.hbm, 87, rfl⟩
abbrev main_call0_call4_v4 : Ref sig .tc := ⟨.hbm, 88, rfl⟩
abbrev main_call0_call4_c_1 : Ref sig .tc := ⟨.hbm, 89, rfl⟩
abbrev main_call0_call4_v5 : Ref sig .tc := ⟨.hbm, 90, rfl⟩
abbrev main_call0_call4_v6 : Ref sig .tc := ⟨.hbm, 91, rfl⟩
abbrev main_call0_call4_c_2 : Ref sig .tc := ⟨.hbm, 92, rfl⟩
abbrev main_call0_call4_v7 : Ref sig .tc := ⟨.hbm, 93, rfl⟩
abbrev main_call0_call4_v8 : Ref sig .tc := ⟨.hbm, 94, rfl⟩
abbrev main_call0_call4_c_3 : Ref sig .tc := ⟨.hbm, 95, rfl⟩
abbrev main_call0_call4_v9 : Ref sig .tc := ⟨.hbm, 96, rfl⟩
abbrev main_call0_call4_v10 : Ref sig .tc := ⟨.hbm, 97, rfl⟩
abbrev main_call0_call4_v11 : Ref sig .tc := ⟨.hbm, 98, rfl⟩
abbrev main_call0_call4_v12 : Ref sig .tc := ⟨.hbm, 99, rfl⟩
abbrev main_call0_call4_v13 : Ref sig .tc := ⟨.hbm, 100, rfl⟩
abbrev main_call0_call4_v14 : Ref sig .tc := ⟨.hbm, 101, rfl⟩
abbrev main_call0_v42 : Ref sig .tc := ⟨.hbm, 102, rfl⟩
abbrev main_call0_c_11 : Ref sig .tc := ⟨.hbm, 103, rfl⟩
abbrev main_call0_v43 : Ref sig .tc := ⟨.hbm, 104, rfl⟩
abbrev main_call0_v44 : Ref sig .tc := ⟨.hbm, 105, rfl⟩
abbrev main_call0_v45 : Ref sig .tc := ⟨.hbm, 106, rfl⟩
abbrev main_call0_c_12 : Ref sig .tc := ⟨.hbm, 107, rfl⟩
abbrev main_call0_v46 : Ref sig .tc := ⟨.hbm, 108, rfl⟩
abbrev main_call0_v47 : Ref sig .tc := ⟨.hbm, 109, rfl⟩
abbrev main_call0_v48 : Ref sig .tc := ⟨.hbm, 110, rfl⟩
abbrev main_call0_call5_v0 : Ref sig .tc := ⟨.hbm, 111, rfl⟩
abbrev main_call0_call5_v1_0 : Ref sig .tc := ⟨.hbm, 112, rfl⟩
abbrev main_call0_v49 : Ref sig .tc := ⟨.hbm, 113, rfl⟩
abbrev main_call0_c_13 : Ref sig .tc := ⟨.hbm, 114, rfl⟩
abbrev main_call0_v50 : Ref sig .tc := ⟨.hbm, 115, rfl⟩
abbrev main_call0_v51 : Ref sig .tc := ⟨.hbm, 116, rfl⟩
abbrev main_call0_c_14 : Ref sig .tc := ⟨.hbm, 117, rfl⟩
abbrev main_call0_v52 : Ref sig .tc := ⟨.hbm, 118, rfl⟩
abbrev main_call0_v53 : Ref sig .tc := ⟨.hbm, 119, rfl⟩
abbrev main_call0_v54 : Ref sig .tc := ⟨.hbm, 120, rfl⟩
abbrev main_call0_v55 : Ref sig .tc := ⟨.hbm, 121, rfl⟩
abbrev main_call0_v56 : Ref sig .tc := ⟨.hbm, 122, rfl⟩
abbrev main_call0_c_15 : Ref sig .tc := ⟨.hbm, 123, rfl⟩
abbrev main_call0_v57 : Ref sig .tc := ⟨.hbm, 124, rfl⟩
abbrev main_call0_c_16 : Ref sig .tc := ⟨.hbm, 125, rfl⟩
abbrev main_call0_call6_v0 : Ref sig .tc := ⟨.hbm, 126, rfl⟩
abbrev main_call0_call6_v1 : Ref sig .tc := ⟨.hbm, 127, rfl⟩
abbrev main_call0_v58 : Ref sig .tc := ⟨.hbm, 128, rfl⟩
abbrev main_call0_c_17 : Ref sig .tc := ⟨.hbm, 129, rfl⟩
abbrev main_call0_v59 : Ref sig .tc := ⟨.hbm, 130, rfl⟩
abbrev main_call0_v60 : Ref sig .tc := ⟨.hbm, 131, rfl⟩
abbrev main_call0_c_18 : Ref sig .tc := ⟨.hbm, 132, rfl⟩
abbrev main_call0_v61 : Ref sig .tc := ⟨.hbm, 133, rfl⟩
abbrev main_call0_v62 : Ref sig .tc := ⟨.hbm, 134, rfl⟩
abbrev main_call0_v63 : Ref sig .tc := ⟨.hbm, 135, rfl⟩
abbrev main_call0_v64 : Ref sig .tc := ⟨.hbm, 136, rfl⟩
abbrev main_call0_c_19 : Ref sig .tc := ⟨.hbm, 137, rfl⟩
abbrev main_call0_v65 : Ref sig .tc := ⟨.hbm, 138, rfl⟩
abbrev main_call0_v66 : Ref sig .tc := ⟨.hbm, 139, rfl⟩
abbrev main_call0_c_20 : Ref sig .tc := ⟨.hbm, 140, rfl⟩
abbrev main_call0_v67 : Ref sig .tc := ⟨.hbm, 141, rfl⟩
abbrev main_call0_call7_call0_c : Ref sig .tc := ⟨.hbm, 142, rfl⟩
abbrev main_call0_call7_call0_v0 : Ref sig .tc := ⟨.hbm, 143, rfl⟩
abbrev main_call0_v68 : Ref sig .tc := ⟨.hbm, 144, rfl⟩
abbrev main_call0_v69 : Ref sig .tc := ⟨.hbm, 145, rfl⟩
abbrev main_call0_c_21 : Ref sig .tc := ⟨.hbm, 146, rfl⟩
abbrev main_call0_v70 : Ref sig .tc := ⟨.hbm, 147, rfl⟩
abbrev main_call0_v71 : Ref sig .tc := ⟨.hbm, 148, rfl⟩
abbrev main_call0_c_22 : Ref sig .tc := ⟨.hbm, 149, rfl⟩
abbrev main_call0_v72 : Ref sig .tc := ⟨.hbm, 150, rfl⟩
abbrev main_call0_v73 : Ref sig .tc := ⟨.hbm, 151, rfl⟩
abbrev main_call0_v74 : Ref sig .tc := ⟨.hbm, 152, rfl⟩
abbrev main_call0_v75 : Ref sig .tc := ⟨.hbm, 153, rfl⟩
abbrev main_call0_v76 : Ref sig .tc := ⟨.hbm, 154, rfl⟩
abbrev main_call0_c_23 : Ref sig .tc := ⟨.hbm, 155, rfl⟩
abbrev main_call0_v77 : Ref sig .tc := ⟨.hbm, 156, rfl⟩
abbrev main_call0_v78 : Ref sig .tc := ⟨.hbm, 157, rfl⟩
abbrev main_call0_c_24 : Ref sig .tc := ⟨.hbm, 158, rfl⟩
abbrev main_call0_v79 : Ref sig .tc := ⟨.hbm, 159, rfl⟩
abbrev main_call0_v80 : Ref sig .tc := ⟨.hbm, 160, rfl⟩
abbrev main_call0_v81 : Ref sig .tc := ⟨.hbm, 161, rfl⟩
abbrev main_call0_v82 : Ref sig .tc := ⟨.hbm, 162, rfl⟩
abbrev main_call0_v83 : Ref sig .tc := ⟨.hbm, 163, rfl⟩
abbrev main_call0_v84 : Ref sig .tc := ⟨.hbm, 164, rfl⟩
abbrev main_call0_v85 : Ref sig .tc := ⟨.hbm, 165, rfl⟩
abbrev main_call0_v86 : Ref sig .tc := ⟨.hbm, 166, rfl⟩
abbrev main_call0_v87 : Ref sig .tc := ⟨.hbm, 167, rfl⟩
abbrev main_call0_v88 : Ref sig .tc := ⟨.hbm, 168, rfl⟩
abbrev main_call0_v89 : Ref sig .tc := ⟨.hbm, 169, rfl⟩
abbrev main_call0_cst_25 : Ref sig .tc := ⟨.hbm, 170, rfl⟩
abbrev main_call0_v90 : Ref sig .tc := ⟨.hbm, 171, rfl⟩
abbrev main_call0_v91 : Ref sig .tc := ⟨.hbm, 172, rfl⟩
abbrev main_call0_cst_26 : Ref sig .tc := ⟨.hbm, 173, rfl⟩
abbrev main_call0_v92 : Ref sig .tc := ⟨.hbm, 174, rfl⟩
abbrev main_call0_v93 : Ref sig .tc := ⟨.hbm, 175, rfl⟩
abbrev main_call0_v94 : Ref sig .tc := ⟨.hbm, 176, rfl⟩
abbrev main_call0_v95 : Ref sig .tc := ⟨.hbm, 177, rfl⟩
abbrev main_call0_v96 : Ref sig .tc := ⟨.hbm, 178, rfl⟩
abbrev main_call0_call8_v0 : Ref sig .tc := ⟨.hbm, 179, rfl⟩
abbrev main_call0_call8_v1_0 : Ref sig .tc := ⟨.hbm, 180, rfl⟩
abbrev main_call0_v97 : Ref sig .tc := ⟨.hbm, 181, rfl⟩
abbrev main_call0_c_27 : Ref sig .tc := ⟨.hbm, 182, rfl⟩
abbrev main_call0_v98 : Ref sig .tc := ⟨.hbm, 183, rfl⟩
abbrev main_call0_v99 : Ref sig .tc := ⟨.hbm, 184, rfl⟩
abbrev main_call0_c_28 : Ref sig .tc := ⟨.hbm, 185, rfl⟩
abbrev main_call0_v100 : Ref sig .tc := ⟨.hbm, 186, rfl⟩
abbrev main_call0_v101 : Ref sig .tc := ⟨.hbm, 187, rfl⟩
abbrev main_call0_v102 : Ref sig .tc := ⟨.hbm, 188, rfl⟩
abbrev main_call0_v103 : Ref sig .tc := ⟨.hbm, 189, rfl⟩
abbrev main_call0_v104 : Ref sig .tc := ⟨.hbm, 190, rfl⟩
abbrev main_call0_c_29 : Ref sig .tc := ⟨.hbm, 191, rfl⟩
abbrev main_call0_v105 : Ref sig .tc := ⟨.hbm, 192, rfl⟩
abbrev main_call0_c_30 : Ref sig .tc := ⟨.hbm, 193, rfl⟩
abbrev main_call0_call9_v0 : Ref sig .tc := ⟨.hbm, 194, rfl⟩
abbrev main_call0_call9_v1 : Ref sig .tc := ⟨.hbm, 195, rfl⟩
abbrev main_call0_v106 : Ref sig .tc := ⟨.hbm, 196, rfl⟩
abbrev main_call0_c_31 : Ref sig .tc := ⟨.hbm, 197, rfl⟩
abbrev main_call0_v107 : Ref sig .tc := ⟨.hbm, 198, rfl⟩
abbrev main_call0_v108 : Ref sig .tc := ⟨.hbm, 199, rfl⟩
abbrev main_call0_c_32 : Ref sig .tc := ⟨.hbm, 200, rfl⟩
abbrev main_call0_v109 : Ref sig .tc := ⟨.hbm, 201, rfl⟩
abbrev main_call0_v110 : Ref sig .tc := ⟨.hbm, 202, rfl⟩
abbrev main_call0_v111 : Ref sig .tc := ⟨.hbm, 203, rfl⟩
abbrev main_call0_v112 : Ref sig .tc := ⟨.hbm, 204, rfl⟩
abbrev main_call0_c_33 : Ref sig .tc := ⟨.hbm, 205, rfl⟩
abbrev main_call0_v113 : Ref sig .tc := ⟨.hbm, 206, rfl⟩
abbrev main_call0_v114 : Ref sig .tc := ⟨.hbm, 207, rfl⟩
abbrev main_call0_c_34 : Ref sig .tc := ⟨.hbm, 208, rfl⟩
abbrev main_call0_v115 : Ref sig .tc := ⟨.hbm, 209, rfl⟩
abbrev main_call0_call10_call0_c : Ref sig .tc := ⟨.hbm, 210, rfl⟩
abbrev main_call0_call10_call0_v0 : Ref sig .tc := ⟨.hbm, 211, rfl⟩
abbrev main_call0_v116 : Ref sig .tc := ⟨.hbm, 212, rfl⟩
abbrev main_call0_v117 : Ref sig .tc := ⟨.hbm, 213, rfl⟩
abbrev main_call0_v118 : Ref sig .tc := ⟨.hbm, 214, rfl⟩
abbrev main_call0_c_35 : Ref sig .tc := ⟨.hbm, 215, rfl⟩
abbrev main_call0_v119 : Ref sig .tc := ⟨.hbm, 216, rfl⟩
abbrev main_call0_v120 : Ref sig .tc := ⟨.hbm, 217, rfl⟩
abbrev main_call0_c_36 : Ref sig .tc := ⟨.hbm, 218, rfl⟩
abbrev main_call0_v121 : Ref sig .tc := ⟨.hbm, 219, rfl⟩
abbrev main_call0_v122 : Ref sig .tc := ⟨.hbm, 220, rfl⟩
abbrev main_call0_v123 : Ref sig .tc := ⟨.hbm, 221, rfl⟩
abbrev main_call0_v124 : Ref sig .tc := ⟨.hbm, 222, rfl⟩
abbrev main_call0_v125 : Ref sig .tc := ⟨.hbm, 223, rfl⟩
abbrev main_call0_v126 : Ref sig .tc := ⟨.hbm, 224, rfl⟩
abbrev main_call0_c_37 : Ref sig .tc := ⟨.hbm, 225, rfl⟩
abbrev main_call0_call11_v0 : Ref sig .tc := ⟨.hbm, 226, rfl⟩
abbrev main_call0_call11_v1 : Ref sig .tc := ⟨.hbm, 227, rfl⟩
abbrev main_call0_call11_v2 : Ref sig .tc := ⟨.hbm, 228, rfl⟩
abbrev main_call0_call11_v3 : Ref sig .tc := ⟨.hbm, 229, rfl⟩
abbrev main_call0_call11_v4 : Ref sig .tc := ⟨.hbm, 230, rfl⟩
abbrev main_call0_call11_v5 : Ref sig .tc := ⟨.hbm, 231, rfl⟩
abbrev main_call0_call11_v6 : Ref sig .tc := ⟨.hbm, 232, rfl⟩
abbrev main_call0_call11_v7 : Ref sig .tc := ⟨.hbm, 233, rfl⟩
abbrev main_call0_call11_v8 : Ref sig .tc := ⟨.hbm, 234, rfl⟩
abbrev main_call0_call11_c : Ref sig .tc := ⟨.hbm, 235, rfl⟩
abbrev main_call0_call11_v9 : Ref sig .tc := ⟨.hbm, 236, rfl⟩
abbrev main_call0_call11_v10 : Ref sig .tc := ⟨.hbm, 237, rfl⟩
abbrev main_call0_call11_v11 : Ref sig .tc := ⟨.hbm, 238, rfl⟩
abbrev main_call0_call11_c_0 : Ref sig .tc := ⟨.hbm, 239, rfl⟩
abbrev main_call0_call11_v12 : Ref sig .tc := ⟨.hbm, 240, rfl⟩
abbrev main_call0_call11_v13 : Ref sig .tc := ⟨.hbm, 241, rfl⟩
abbrev main_call0_v127 : Ref sig .tc := ⟨.hbm, 242, rfl⟩
abbrev main_call0_c_38 : Ref sig .tc := ⟨.hbm, 243, rfl⟩
abbrev main_call0_call12_v0 : Ref sig .tc := ⟨.hbm, 244, rfl⟩
abbrev main_call0_call12_c : Ref sig .tc := ⟨.hbm, 245, rfl⟩
abbrev main_call0_call12_v1 : Ref sig .tc := ⟨.hbm, 246, rfl⟩
abbrev main_call0_call12_c_0 : Ref sig .tc := ⟨.hbm, 247, rfl⟩
abbrev main_call0_call12_v2 : Ref sig .tc := ⟨.hbm, 248, rfl⟩
abbrev main_call0_call12_v3 : Ref sig .tc := ⟨.hbm, 249, rfl⟩
abbrev main_call0_call12_v4 : Ref sig .tc := ⟨.hbm, 250, rfl⟩
abbrev main_call0_call12_c_1 : Ref sig .tc := ⟨.hbm, 251, rfl⟩
abbrev main_call0_call12_v5 : Ref sig .tc := ⟨.hbm, 252, rfl⟩
abbrev main_call0_call12_v6 : Ref sig .tc := ⟨.hbm, 253, rfl⟩
abbrev main_call0_call12_c_2 : Ref sig .tc := ⟨.hbm, 254, rfl⟩
abbrev main_call0_call12_v7 : Ref sig .tc := ⟨.hbm, 255, rfl⟩
abbrev main_call0_call12_v8 : Ref sig .tc := ⟨.hbm, 256, rfl⟩
abbrev main_call0_call12_c_3 : Ref sig .tc := ⟨.hbm, 257, rfl⟩
abbrev main_call0_call12_v9 : Ref sig .tc := ⟨.hbm, 258, rfl⟩
abbrev main_call0_call12_v10 : Ref sig .tc := ⟨.hbm, 259, rfl⟩
abbrev main_call0_call12_v11 : Ref sig .tc := ⟨.hbm, 260, rfl⟩
abbrev main_call0_call12_v12 : Ref sig .tc := ⟨.hbm, 261, rfl⟩
abbrev main_call0_call12_v13 : Ref sig .tc := ⟨.hbm, 262, rfl⟩
abbrev main_call0_call12_v14 : Ref sig .tc := ⟨.hbm, 263, rfl⟩
abbrev main_call0_v128 : Ref sig .tc := ⟨.hbm, 264, rfl⟩
abbrev main_call0_c_39 : Ref sig .tc := ⟨.hbm, 265, rfl⟩
abbrev main_call0_v129 : Ref sig .tc := ⟨.hbm, 266, rfl⟩
abbrev main_call0_v130 : Ref sig .tc := ⟨.hbm, 267, rfl⟩
abbrev main_call0_v131 : Ref sig .tc := ⟨.hbm, 268, rfl⟩
abbrev main_call0_c_40 : Ref sig .tc := ⟨.hbm, 269, rfl⟩
abbrev main_call0_v132 : Ref sig .tc := ⟨.hbm, 270, rfl⟩
abbrev main_call0_v133 : Ref sig .tc := ⟨.hbm, 271, rfl⟩
abbrev main_call0_v134 : Ref sig .tc := ⟨.hbm, 272, rfl⟩
abbrev main_call0_call13_v0 : Ref sig .tc := ⟨.hbm, 273, rfl⟩
abbrev main_call0_call13_v1_0 : Ref sig .tc := ⟨.hbm, 274, rfl⟩
abbrev main_call0_v135 : Ref sig .tc := ⟨.hbm, 275, rfl⟩
abbrev main_call0_c_41 : Ref sig .tc := ⟨.hbm, 276, rfl⟩
abbrev main_call0_v136 : Ref sig .tc := ⟨.hbm, 277, rfl⟩
abbrev main_call0_v137 : Ref sig .tc := ⟨.hbm, 278, rfl⟩
abbrev main_call0_c_42 : Ref sig .tc := ⟨.hbm, 279, rfl⟩
abbrev main_call0_v138 : Ref sig .tc := ⟨.hbm, 280, rfl⟩
abbrev main_call0_v139 : Ref sig .tc := ⟨.hbm, 281, rfl⟩
abbrev main_call0_v140 : Ref sig .tc := ⟨.hbm, 282, rfl⟩
abbrev main_call0_v141 : Ref sig .tc := ⟨.hbm, 283, rfl⟩
abbrev main_call0_v142 : Ref sig .tc := ⟨.hbm, 284, rfl⟩
abbrev main_call0_c_43 : Ref sig .tc := ⟨.hbm, 285, rfl⟩
abbrev main_call0_v143 : Ref sig .tc := ⟨.hbm, 286, rfl⟩
abbrev main_call0_c_44 : Ref sig .tc := ⟨.hbm, 287, rfl⟩
abbrev main_call0_call14_v0 : Ref sig .tc := ⟨.hbm, 288, rfl⟩
abbrev main_call0_call14_v1 : Ref sig .tc := ⟨.hbm, 289, rfl⟩
abbrev main_call0_v144 : Ref sig .tc := ⟨.hbm, 290, rfl⟩
abbrev main_call0_c_45 : Ref sig .tc := ⟨.hbm, 291, rfl⟩
abbrev main_call0_v145 : Ref sig .tc := ⟨.hbm, 292, rfl⟩
abbrev main_call0_v146 : Ref sig .tc := ⟨.hbm, 293, rfl⟩
abbrev main_call0_c_46 : Ref sig .tc := ⟨.hbm, 294, rfl⟩
abbrev main_call0_v147 : Ref sig .tc := ⟨.hbm, 295, rfl⟩
abbrev main_call0_v148 : Ref sig .tc := ⟨.hbm, 296, rfl⟩
abbrev main_call0_v149 : Ref sig .tc := ⟨.hbm, 297, rfl⟩
abbrev main_call0_v150 : Ref sig .tc := ⟨.hbm, 298, rfl⟩
abbrev main_call0_c_47 : Ref sig .tc := ⟨.hbm, 299, rfl⟩
abbrev main_call0_v151 : Ref sig .tc := ⟨.hbm, 300, rfl⟩
abbrev main_call0_v152 : Ref sig .tc := ⟨.hbm, 301, rfl⟩
abbrev main_call0_c_48 : Ref sig .tc := ⟨.hbm, 302, rfl⟩
abbrev main_call0_v153 : Ref sig .tc := ⟨.hbm, 303, rfl⟩
abbrev main_call0_call15_call0_c : Ref sig .tc := ⟨.hbm, 304, rfl⟩
abbrev main_call0_call15_call0_v0 : Ref sig .tc := ⟨.hbm, 305, rfl⟩
abbrev main_call0_v154 : Ref sig .tc := ⟨.hbm, 306, rfl⟩
abbrev main_call0_v155 : Ref sig .tc := ⟨.hbm, 307, rfl⟩
abbrev main_call0_c_49 : Ref sig .tc := ⟨.hbm, 308, rfl⟩
abbrev main_call0_v156 : Ref sig .tc := ⟨.hbm, 309, rfl⟩
abbrev main_call0_v157 : Ref sig .tc := ⟨.hbm, 310, rfl⟩
abbrev main_call0_c_50 : Ref sig .tc := ⟨.hbm, 311, rfl⟩
abbrev main_call0_v158 : Ref sig .tc := ⟨.hbm, 312, rfl⟩
abbrev main_call0_v159 : Ref sig .tc := ⟨.hbm, 313, rfl⟩
abbrev main_call0_v160 : Ref sig .tc := ⟨.hbm, 314, rfl⟩
abbrev main_call0_v161 : Ref sig .tc := ⟨.hbm, 315, rfl⟩
abbrev main_call0_v162 : Ref sig .tc := ⟨.hbm, 316, rfl⟩
abbrev main_call0_c_51 : Ref sig .tc := ⟨.hbm, 317, rfl⟩
abbrev main_call0_v163 : Ref sig .tc := ⟨.hbm, 318, rfl⟩
abbrev main_call0_v164 : Ref sig .tc := ⟨.hbm, 319, rfl⟩
abbrev main_call0_c_52 : Ref sig .tc := ⟨.hbm, 320, rfl⟩
abbrev main_call0_v165 : Ref sig .tc := ⟨.hbm, 321, rfl⟩
abbrev main_call0_v166 : Ref sig .tc := ⟨.hbm, 322, rfl⟩
abbrev main_call0_v167 : Ref sig .tc := ⟨.hbm, 323, rfl⟩
abbrev main_call0_v168 : Ref sig .tc := ⟨.hbm, 324, rfl⟩
abbrev main_call0_v169 : Ref sig .tc := ⟨.hbm, 325, rfl⟩
abbrev main_call0_v170 : Ref sig .tc := ⟨.hbm, 326, rfl⟩
abbrev main_call0_v171 : Ref sig .tc := ⟨.hbm, 327, rfl⟩
abbrev main_call0_v172 : Ref sig .tc := ⟨.hbm, 328, rfl⟩
abbrev main_call0_v173 : Ref sig .tc := ⟨.hbm, 329, rfl⟩
abbrev main_call0_v174 : Ref sig .tc := ⟨.hbm, 330, rfl⟩
abbrev main_call0_v175 : Ref sig .tc := ⟨.hbm, 331, rfl⟩
abbrev main_call0_v176 : Ref sig .tc := ⟨.hbm, 332, rfl⟩
abbrev main_call0_v177 : Ref sig .tc := ⟨.hbm, 333, rfl⟩
abbrev main_call0_cst_53 : Ref sig .tc := ⟨.hbm, 334, rfl⟩
abbrev main_call0_v178 : Ref sig .tc := ⟨.hbm, 335, rfl⟩
abbrev main_call0_v179 : Ref sig .tc := ⟨.hbm, 336, rfl⟩
abbrev main_call0_v180 : Ref sig .tc := ⟨.hbm, 337, rfl⟩
abbrev main_call0_v181 : Ref sig .tc := ⟨.hbm, 338, rfl⟩
abbrev main_call0_cst_54 : Ref sig .tc := ⟨.hbm, 339, rfl⟩
abbrev main_call0_v182 : Ref sig .tc := ⟨.hbm, 340, rfl⟩
abbrev main_call0_v183 : Ref sig .tc := ⟨.hbm, 341, rfl⟩
abbrev main_call0_cst_55 : Ref sig .tc := ⟨.hbm, 342, rfl⟩
abbrev main_call0_v184 : Ref sig .tc := ⟨.hbm, 343, rfl⟩
abbrev main_call0_v185 : Ref sig .tc := ⟨.hbm, 344, rfl⟩
abbrev main_call0_cst_56 : Ref sig .tc := ⟨.hbm, 345, rfl⟩
abbrev main_call0_v186 : Ref sig .tc := ⟨.hbm, 346, rfl⟩
abbrev main_call0_v187 : Ref sig .tc := ⟨.hbm, 347, rfl⟩
abbrev main_call0_cst_57 : Ref sig .tc := ⟨.hbm, 348, rfl⟩
abbrev main_call0_v188 : Ref sig .tc := ⟨.hbm, 349, rfl⟩
abbrev main_call0_v189 : Ref sig .tc := ⟨.hbm, 350, rfl⟩
abbrev main_call0_v190 : Ref sig .tc := ⟨.hbm, 351, rfl⟩
abbrev main_call0_v191 : Ref sig .tc := ⟨.hbm, 352, rfl⟩
abbrev main_call0_v192 : Ref sig .tc := ⟨.hbm, 353, rfl⟩
abbrev main_call0_v193 : Ref sig .tc := ⟨.hbm, 354, rfl⟩
abbrev main_call0_v194 : Ref sig .tc := ⟨.hbm, 355, rfl⟩
abbrev main_v0 : Ref sig .tc := ⟨.hbm, 356, rfl⟩
abbrev cc0_stg17_0 : Ref sig .tc := ⟨.vmem, 0, rfl⟩
abbrev cc0_stg18_0 : Ref sig .tc := ⟨.vmem, 1, rfl⟩
abbrev cc0_stg19_0 : Ref sig .tc := ⟨.vmem, 2, rfl⟩
abbrev cc0_stg20_0 : Ref sig .tc := ⟨.vmem, 3, rfl⟩
abbrev cc0_stg20_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg5_0 : Ref sig .tc := ⟨.smem, 5, rfl⟩
abbrev cc0_stg6_0 : Ref sig .tc := ⟨.smem, 6, rfl⟩
abbrev cc0_stg7_0 : Ref sig .tc := ⟨.smem, 7, rfl⟩
abbrev cc0_stg8_0 : Ref sig .tc := ⟨.smem, 8, rfl⟩
abbrev cc0_stg9_0 : Ref sig .tc := ⟨.smem, 9, rfl⟩
abbrev cc0_stg10_0 : Ref sig .tc := ⟨.smem, 10, rfl⟩
abbrev cc0_stg11_0 : Ref sig .tc := ⟨.smem, 11, rfl⟩
abbrev cc0_stg12_0 : Ref sig .tc := ⟨.smem, 12, rfl⟩
abbrev cc0_stg13_0 : Ref sig .tc := ⟨.smem, 13, rfl⟩
abbrev cc0_stg14_0 : Ref sig .tc := ⟨.smem, 14, rfl⟩
abbrev cc0_stg15_0 : Ref sig .tc := ⟨.smem, 15, rfl⟩
abbrev cc0_stg16_0 : Ref sig .tc := ⟨.smem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem20_1 : DmaSem sig := 21

abbrev nD : Nat := 1
abbrev τ : Topo := Topo.v7x

variable {F : FTy → Type} [FloatOps F]

abbrev grid0 : Pipeline.Grid := ⟨1, ![128], ![false]⟩

def k0_off1 (i : grid0.Coords) : Fin 1 → Nat :=
  let arg0 : BitVec 32 := BitVec.ofNat 32 (i 0).val
  let v151 : Index := Scalar.indexCast arg0
  ![v151.toNat]
def k0_off2 (i : grid0.Coords) : Fin 1 → Nat :=
  let arg0 : BitVec 32 := BitVec.ofNat 32 (i 0).val
  let c1_i32 : BitVec 32 := 1#32
  let v153 : BitVec 32 := Scalar.addi arg0 c1_i32
  let v154 : Index := Scalar.indexCast v153
  ![v154.toNat]
@[reducible] def k0_t1_loop (v152 : BitVec 32) (v155 : BitVec 32) : Scf.Loop 32 :=
  let v156 : BitVec 32 := Scalar.subi v155 v152
  let c1_i32_134 : BitVec 32 := 1#32
  let v158 : BitVec 32 := Scalar.divsi v156 c1_i32_134
  let v159 : BitVec 32 := Scalar.muli v158 c1_i32_134
  let v160 : BitVec 32 := Scalar.addi v152 v159
  let c1_i32_135 : BitVec 32 := 1#32
  ⟨v152, v160, c1_i32_135⟩

def k0_off3 (v152 : BitVec 32) (v155 : BitVec 32) (k0_t1 : Fin (k0_t1_loop v152 v155).trips) : Fin 1 → Nat :=
  let c1_i32_135 : BitVec 32 := 1#32
  let arg25 : BitVec 32 := Scf.iv v152 c1_i32_135 k0_t1
  let v459 : Index := Scalar.indexCast arg25
  ![v459.toNat]
def k0_off4 (v460 : BitVec 32) : Fin 3 → Nat :=
  let v480 : Index := Scalar.indexCast v460
  let c0_430 : Index := 0#32
  let c0_431 : Index := 0#32
  ![v480.toNat, 0, 0]

def k0_chk2 (v460 : BitVec 32) : Prop :=
  (∀ a, (k0_off4 v460) a + S1x32x128.size a ≤ S16x32x128.size a)
theorem k0_off4_inb : ∀ (v460 : BitVec 32) (k0_hw2 : k0_chk2 v460), ∀ a, (k0_off4 v460) a + S1x32x128.size a ≤ S16x32x128.size a := fun v460 k0_hw2 => k0_hw2

def k0_off5 (v152 : BitVec 32) (v155 : BitVec 32) (k0_t1 : Fin (k0_t1_loop v152 v155).trips) : Fin 1 → Nat :=
  let c1_i32_135 : BitVec 32 := 1#32
  let arg25 : BitVec 32 := Scf.iv v152 c1_i32_135 k0_t1
  let v491 : Index := Scalar.indexCast arg25
  ![v491.toNat]
@[reducible] def k0_t2_loop (v152 : BitVec 32) (v155 : BitVec 32) : Scf.Loop 32 :=
  let v156 : BitVec 32 := Scalar.subi v155 v152
  let c1_i32_134 : BitVec 32 := 1#32
  let v158 : BitVec 32 := Scalar.divsi v156 c1_i32_134
  let v159 : BitVec 32 := Scalar.muli v158 c1_i32_134
  let v160 : BitVec 32 := Scalar.addi v152 v159
  let v157 : BitVec 32 := Scalar.addi v152 v156
  let c1_i32_136 : BitVec 32 := 1#32
  ⟨v160, v157, c1_i32_136⟩
def k0_off6 (v152 : BitVec 32) (v155 : BitVec 32) (k0_t2 : Fin (k0_t2_loop v152 v155).trips) : Fin 1 → Nat :=
  let v156 : BitVec 32 := Scalar.subi v155 v152
  let c1_i32_134 : BitVec 32 := 1#32
  let v158 : BitVec 32 := Scalar.divsi v156 c1_i32_134
  let v159 : BitVec 32 := Scalar.muli v158 c1_i32_134
  let v160 : BitVec 32 := Scalar.addi v152 v159
  let c1_i32_136 : BitVec 32 := 1#32
  let arg25 : BitVec 32 := Scf.iv v160 c1_i32_136 k0_t2
  let v459 : Index := Scalar.indexCast arg25
  ![v459.toNat]
def k0_off7 (v460 : BitVec 32) : Fin 3 → Nat :=
  let v480 : Index := Scalar.indexCast v460
  let c0_430 : Index := 0#32
  let c0_431 : Index := 0#32
  ![v480.toNat, 0, 0]

def k0_chk3 (v460 : BitVec 32) : Prop :=
  (∀ a, (k0_off7 v460) a + S1x32x128.size a ≤ S16x32x128.size a)
theorem k0_off7_inb : ∀ (v460 : BitVec 32) (k0_hw3 : k0_chk3 v460), ∀ a, (k0_off7 v460) a + S1x32x128.size a ≤ S16x32x128.size a := fun v460 k0_hw3 => k0_hw3

def k0_off8 (v152 : BitVec 32) (v155 : BitVec 32) (k0_t2 : Fin (k0_t2_loop v152 v155).trips) : Fin 1 → Nat :=
  let v156 : BitVec 32 := Scalar.subi v155 v152
  let c1_i32_134 : BitVec 32 := 1#32
  let v158 : BitVec 32 := Scalar.divsi v156 c1_i32_134
  let v159 : BitVec 32 := Scalar.muli v158 c1_i32_134
  let v160 : BitVec 32 := Scalar.addi v152 v159
  let c1_i32_136 : BitVec 32 := 1#32
  let arg25 : BitVec 32 := Scf.iv v160 c1_i32_136 k0_t2
  let v491 : Index := Scalar.indexCast arg25
  ![v491.toNat]

def k0_chk1 (v152 : BitVec 32) (v155 : BitVec 32) : Prop :=
  ((k0_t1_loop v152 v155).OK) ∧
  (∀ k0_t1 : Fin (k0_t1_loop v152 v155).trips, ∀ a, (k0_off3 v152 v155 k0_t1) a + S1.size a ≤ S4096.size a) ∧
  (∀ k0_t1 : Fin (k0_t1_loop v152 v155).trips, ∀ a, (k0_off5 v152 v155 k0_t1) a + S1.size a ≤ S4096.size a) ∧
  ((k0_t2_loop v152 v155).OK) ∧
  (∀ k0_t2 : Fin (k0_t2_loop v152 v155).trips, ∀ a, (k0_off6 v152 v155 k0_t2) a + S1.size a ≤ S4096.size a) ∧
  (∀ k0_t2 : Fin (k0_t2_loop v152 v155).trips, ∀ a, (k0_off8 v152 v155 k0_t2) a + S1.size a ≤ S4096.size a)
theorem k0_t1_ok : ∀ (v152 : BitVec 32) (v155 : BitVec 32) (k0_hw1 : k0_chk1 v152 v155), (k0_t1_loop v152 v155).OK := fun v152 v155 k0_hw1 => k0_hw1.1
theorem k0_off3_inb : ∀ (v152 : BitVec 32) (v155 : BitVec 32) (k0_hw1 : k0_chk1 v152 v155) (k0_t1 : Fin (k0_t1_loop v152 v155).trips), ∀ a, (k0_off3 v152 v155 k0_t1) a + S1.size a ≤ S4096.size a := fun v152 v155 k0_hw1 k0_t1 => k0_hw1.2.1 k0_t1
theorem k0_off5_inb : ∀ (v152 : BitVec 32) (v155 : BitVec 32) (k0_hw1 : k0_chk1 v152 v155) (k0_t1 : Fin (k0_t1_loop v152 v155).trips), ∀ a, (k0_off5 v152 v155 k0_t1) a + S1.size a ≤ S4096.size a := fun v152 v155 k0_hw1 k0_t1 => k0_hw1.2.2.1 k0_t1
theorem k0_t2_ok : ∀ (v152 : BitVec 32) (v155 : BitVec 32) (k0_hw1 : k0_chk1 v152 v155), (k0_t2_loop v152 v155).OK := fun v152 v155 k0_hw1 => k0_hw1.2.2.2.1
theorem k0_off6_inb : ∀ (v152 : BitVec 32) (v155 : BitVec 32) (k0_hw1 : k0_chk1 v152 v155) (k0_t2 : Fin (k0_t2_loop v152 v155).trips), ∀ a, (k0_off6 v152 v155 k0_t2) a + S1.size a ≤ S4096.size a := fun v152 v155 k0_hw1 k0_t2 => k0_hw1.2.2.2.2.1 k0_t2
theorem k0_off8_inb : ∀ (v152 : BitVec 32) (v155 : BitVec 32) (k0_hw1 : k0_chk1 v152 v155) (k0_t2 : Fin (k0_t2_loop v152 v155).trips), ∀ a, (k0_off8 v152 v155 k0_t2) a + S1.size a ≤ S4096.size a := fun v152 v155 k0_hw1 k0_t2 => k0_hw1.2.2.2.2.2 k0_t2

def k0_off9 (i : grid0.Coords) : Fin 1 → Nat :=
  let arg0 : BitVec 32 := BitVec.ofNat 32 (i 0).val
  let v161 : Index := Scalar.indexCast arg0
  ![v161.toNat]
def k0_off10 (i : grid0.Coords) : Fin 1 → Nat :=
  let arg0 : BitVec 32 := BitVec.ofNat 32 (i 0).val
  let c1_i32_137 : BitVec 32 := 1#32
  let v163 : BitVec 32 := Scalar.addi arg0 c1_i32_137
  let v164 : Index := Scalar.indexCast v163
  ![v164.toNat]
@[reducible] def k0_t3_loop (v162 : BitVec 32) (v165 : BitVec 32) : Scf.Loop 32 :=
  let v166 : BitVec 32 := Scalar.subi v165 v162
  let c1_i32_139 : BitVec 32 := 1#32
  let v168 : BitVec 32 := Scalar.divsi v166 c1_i32_139
  let v169 : BitVec 32 := Scalar.muli v168 c1_i32_139
  let v170 : BitVec 32 := Scalar.addi v162 v169
  let c1_i32_140 : BitVec 32 := 1#32
  ⟨v162, v170, c1_i32_140⟩

def k0_off11 (v162 : BitVec 32) (v165 : BitVec 32) (k0_t3 : Fin (k0_t3_loop v162 v165).trips) : Fin 1 → Nat :=
  let c1_i32_140 : BitVec 32 := 1#32
  let arg25 : BitVec 32 := Scf.iv v162 c1_i32_140 k0_t3
  let v459 : Index := Scalar.indexCast arg25
  ![v459.toNat]
def k0_off12 (v460 : BitVec 32) : Fin 3 → Nat :=
  let v487 : Index := Scalar.indexCast v460
  let c0_430 : Index := 0#32
  let c0_431 : Index := 0#32
  ![v487.toNat, 0, 0]

def k0_chk5 (v460 : BitVec 32) : Prop :=
  (∀ a, (k0_off12 v460) a + S1x32x128.size a ≤ S16x32x128.size a)
theorem k0_off12_inb : ∀ (v460 : BitVec 32) (k0_hw5 : k0_chk5 v460), ∀ a, (k0_off12 v460) a + S1x32x128.size a ≤ S16x32x128.size a := fun v460 k0_hw5 => k0_hw5

def k0_off13 (v162 : BitVec 32) (v165 : BitVec 32) (k0_t3 : Fin (k0_t3_loop v162 v165).trips) : Fin 1 → Nat :=
  let c1_i32_140 : BitVec 32 := 1#32
  let arg25 : BitVec 32 := Scf.iv v162 c1_i32_140 k0_t3
  let v498 : Index := Scalar.indexCast arg25
  ![v498.toNat]
@[reducible] def k0_t4_loop (v162 : BitVec 32) (v165 : BitVec 32) : Scf.Loop 32 :=
  let v166 : BitVec 32 := Scalar.subi v165 v162
  let c1_i32_139 : BitVec 32 := 1#32
  let v168 : BitVec 32 := Scalar.divsi v166 c1_i32_139
  let v169 : BitVec 32 := Scalar.muli v168 c1_i32_139
  let v170 : BitVec 32 := Scalar.addi v162 v169
  let v167 : BitVec 32 := Scalar.addi v162 v166
  let c1_i32_141 : BitVec 32 := 1#32
  ⟨v170, v167, c1_i32_141⟩
def k0_off14 (v162 : BitVec 32) (v165 : BitVec 32) (k0_t4 : Fin (k0_t4_loop v162 v165).trips) : Fin 1 → Nat :=
  let v166 : BitVec 32 := Scalar.subi v165 v162
  let c1_i32_139 : BitVec 32 := 1#32
  let v168 : BitVec 32 := Scalar.divsi v166 c1_i32_139
  let v169 : BitVec 32 := Scalar.muli v168 c1_i32_139
  let v170 : BitVec 32 := Scalar.addi v162 v169
  let c1_i32_141 : BitVec 32 := 1#32
  let arg25 : BitVec 32 := Scf.iv v170 c1_i32_141 k0_t4
  let v459 : Index := Scalar.indexCast arg25
  ![v459.toNat]
def k0_off15 (v460 : BitVec 32) : Fin 3 → Nat :=
  let v487 : Index := Scalar.indexCast v460
  let c0_430 : Index := 0#32
  let c0_431 : Index := 0#32
  ![v487.toNat, 0, 0]

def k0_chk6 (v460 : BitVec 32) : Prop :=
  (∀ a, (k0_off15 v460) a + S1x32x128.size a ≤ S16x32x128.size a)
theorem k0_off15_inb : ∀ (v460 : BitVec 32) (k0_hw6 : k0_chk6 v460), ∀ a, (k0_off15 v460) a + S1x32x128.size a ≤ S16x32x128.size a := fun v460 k0_hw6 => k0_hw6

def k0_off16 (v162 : BitVec 32) (v165 : BitVec 32) (k0_t4 : Fin (k0_t4_loop v162 v165).trips) : Fin 1 → Nat :=
  let v166 : BitVec 32 := Scalar.subi v165 v162
  let c1_i32_139 : BitVec 32 := 1#32
  let v168 : BitVec 32 := Scalar.divsi v166 c1_i32_139
  let v169 : BitVec 32 := Scalar.muli v168 c1_i32_139
  let v170 : BitVec 32 := Scalar.addi v162 v169
  let c1_i32_141 : BitVec 32 := 1#32
  let arg25 : BitVec 32 := Scf.iv v170 c1_i32_141 k0_t4
  let v498 : Index := Scalar.indexCast arg25
  ![v498.toNat]

def k0_chk4 (v162 : BitVec 32) (v165 : BitVec 32) : Prop :=
  ((k0_t3_loop v162 v165).OK) ∧
  (∀ k0_t3 : Fin (k0_t3_loop v162 v165).trips, ∀ a, (k0_off11 v162 v165 k0_t3) a + S1.size a ≤ S2048.size a) ∧
  (∀ k0_t3 : Fin (k0_t3_loop v162 v165).trips, ∀ a, (k0_off13 v162 v165 k0_t3) a + S1.size a ≤ S2048.size a) ∧
  ((k0_t4_loop v162 v165).OK) ∧
  (∀ k0_t4 : Fin (k0_t4_loop v162 v165).trips, ∀ a, (k0_off14 v162 v165 k0_t4) a + S1.size a ≤ S2048.size a) ∧
  (∀ k0_t4 : Fin (k0_t4_loop v162 v165).trips, ∀ a, (k0_off16 v162 v165 k0_t4) a + S1.size a ≤ S2048.size a)
theorem k0_t3_ok : ∀ (v162 : BitVec 32) (v165 : BitVec 32) (k0_hw4 : k0_chk4 v162 v165), (k0_t3_loop v162 v165).OK := fun v162 v165 k0_hw4 => k0_hw4.1
theorem k0_off11_inb : ∀ (v162 : BitVec 32) (v165 : BitVec 32) (k0_hw4 : k0_chk4 v162 v165) (k0_t3 : Fin (k0_t3_loop v162 v165).trips), ∀ a, (k0_off11 v162 v165 k0_t3) a + S1.size a ≤ S2048.size a := fun v162 v165 k0_hw4 k0_t3 => k0_hw4.2.1 k0_t3
theorem k0_off13_inb : ∀ (v162 : BitVec 32) (v165 : BitVec 32) (k0_hw4 : k0_chk4 v162 v165) (k0_t3 : Fin (k0_t3_loop v162 v165).trips), ∀ a, (k0_off13 v162 v165 k0_t3) a + S1.size a ≤ S2048.size a := fun v162 v165 k0_hw4 k0_t3 => k0_hw4.2.2.1 k0_t3
theorem k0_t4_ok : ∀ (v162 : BitVec 32) (v165 : BitVec 32) (k0_hw4 : k0_chk4 v162 v165), (k0_t4_loop v162 v165).OK := fun v162 v165 k0_hw4 => k0_hw4.2.2.2.1
theorem k0_off14_inb : ∀ (v162 : BitVec 32) (v165 : BitVec 32) (k0_hw4 : k0_chk4 v162 v165) (k0_t4 : Fin (k0_t4_loop v162 v165).trips), ∀ a, (k0_off14 v162 v165 k0_t4) a + S1.size a ≤ S2048.size a := fun v162 v165 k0_hw4 k0_t4 => k0_hw4.2.2.2.2.1 k0_t4
theorem k0_off16_inb : ∀ (v162 : BitVec 32) (v165 : BitVec 32) (k0_hw4 : k0_chk4 v162 v165) (k0_t4 : Fin (k0_t4_loop v162 v165).trips), ∀ a, (k0_off16 v162 v165 k0_t4) a + S1.size a ≤ S2048.size a := fun v162 v165 k0_hw4 k0_t4 => k0_hw4.2.2.2.2.2 k0_t4

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S129 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S129 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S2048 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .smem S2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .smem S2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .smem S2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .smem S2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .smem S2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .smem S2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S32x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S16x2x32x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceIdeal.lean ====
abbrev S64x64x2 : Shape := ⟨3, ![64, 64, 2]⟩
abbrev S4096x3 : Shape := ⟨2, ![4096, 3]⟩
abbrev S2048x4 : Shape := ⟨2, ![2048, 4]⟩
abbrev S4096 : Shape := ⟨1, ![4096]⟩
abbrev S2048 : Shape := ⟨1, ![2048]⟩
abbrev S_ : Shape := ⟨0, ![]⟩
abbrev S2048x64x64x2 : Shape := ⟨4, ![2048, 64, 64, 2]⟩
abbrev S4096x1 : Shape := ⟨2, ![4096, 1]⟩
abbrev S4096x1x1 : Shape := ⟨3, ![4096, 1, 1]⟩
abbrev S4096x2 : Shape := ⟨2, ![4096, 2]⟩
abbrev S4096x1x1x2 : Shape := ⟨4, ![4096, 1, 1, 2]⟩
abbrev S1x64x64x2 : Shape := ⟨4, ![1, 64, 64, 2]⟩
abbrev S4096x64x64x2 : Shape := ⟨4, ![4096, 64, 64, 2]⟩
abbrev S4096x64x64 : Shape := ⟨3, ![4096, 64, 64]⟩
abbrev S4096x64x64x1 : Shape := ⟨4, ![4096, 64, 64, 1]⟩
abbrev S2048x1 : Shape := ⟨2, ![2048, 1]⟩
abbrev S2048x1x1 : Shape := ⟨3, ![2048, 1, 1]⟩
abbrev S2048x2 : Shape := ⟨2, ![2048, 2]⟩
abbrev S2048x1x1x2 : Shape := ⟨4, ![2048, 1, 1, 2]⟩
abbrev S2048x64x64 : Shape := ⟨3, ![2048, 64, 64]⟩
abbrev S2048x64x64x1 : Shape := ⟨4, ![2048, 64, 64, 1]⟩

abbrev nBuf : Space → Nat
  | .hbm => 81
  | .vmem => 0
  | .smem => 0
  | _ => 0

abbrev bufTy : (tb : Table) → Fin (tcTables nBuf tb) → BufTy
  | .hbm, ⟨0, _⟩ => ⟨S64x64x2, .f32⟩
  | .hbm, ⟨1, _⟩ => ⟨S4096x3, .f32⟩
  | .hbm, ⟨2, _⟩ => ⟨S2048x4, .f32⟩
  | .hbm, ⟨3, _⟩ => ⟨S4096, .i32⟩
  | .hbm, ⟨4, _⟩ => ⟨S2048, .i32⟩
  | .hbm, ⟨5, _⟩ => ⟨S_, .f32⟩
  | .hbm, ⟨6, _⟩ => ⟨S2048x64x64x2, .f32⟩
  | .hbm, ⟨7, _⟩ => ⟨S4096x1, .f32⟩
  | .hbm, ⟨8, _⟩ => ⟨S4096, .f32⟩
  | .hbm, ⟨9, _⟩ => ⟨S4096x1x1, .f32⟩
  | .hbm, ⟨10, _⟩ => ⟨S4096x2, .f32⟩
  | .hbm, ⟨11, _⟩ => ⟨S4096x1x1x2, .f32⟩
  | .hbm, ⟨12, _⟩ => ⟨S1x64x64x2, .f32⟩
  | .hbm, ⟨13, _⟩ => ⟨S4096x64x64x2, .f32⟩
  | .hbm, ⟨14, _⟩ => ⟨S4096x64x64x2, .f32⟩
  | .hbm, ⟨15, _⟩ => ⟨S4096x64x64x2, .f32⟩
  | .hbm, ⟨16, _⟩ => ⟨S4096x64x64x2, .f32⟩
  | .hbm, ⟨17, _⟩ => ⟨S_, .f32⟩
  | .hbm, ⟨18, _⟩ => ⟨S4096x64x64, .f32⟩
  | .hbm, ⟨19, _⟩ => ⟨S_, .f32⟩
  | .hbm, ⟨20, _⟩ => ⟨S4096x64x64, .f32⟩
  | .hbm, ⟨21, _⟩ => ⟨S4096x64x64, .f32⟩
  | .hbm, ⟨22, _⟩ => ⟨S4096x64x64, .f32⟩
  | .hbm, ⟨23, _⟩ => ⟨S4096x64x64, .f32⟩
  | .hbm, ⟨24, _⟩ => ⟨S4096x64x64, .f32⟩
  | .hbm, ⟨25, _⟩ => ⟨S4096x64x64x1, .f32⟩
  | .hbm, ⟨26, _⟩ => ⟨S4096x64x64x2, .f32⟩
  | .hbm, ⟨27, _⟩ => ⟨S4096x64x64x2, .f32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S4096x1, .i32⟩
  | .hbm, ⟨36, _⟩ => ⟨S2048x64x64x2, .f32⟩
  | .hbm, ⟨37, _⟩ => ⟨S2048x1, .f32⟩
  | .hbm, ⟨38, _⟩ => ⟨S2048, .f32⟩
  | .hbm, ⟨39, _⟩ => ⟨S2048x1x1, .f32⟩
  | .hbm, ⟨40, _⟩ => ⟨S2048x1, .f32⟩
  | .hbm, ⟨41, _⟩ => ⟨S2048, .f32⟩
  | .hbm, ⟨42, _⟩ => ⟨S2048x1x1, .f32⟩
  | .hbm, ⟨43, _⟩ => ⟨S2048x2, .f32⟩
  | .hbm, ⟨44, _⟩ => ⟨S2048x1x1x2, .f32⟩
  | .hbm, ⟨45, _⟩ => ⟨S1x64x64x2, .f32⟩
  | .hbm, ⟨46, _⟩ => ⟨S2048x64x64x2, .f32⟩
  | .hbm, ⟨47, _⟩ => ⟨S2048x64x64x2, .f32⟩
  | .hbm, ⟨48, _⟩ => ⟨S2048x64x64x2, .f32⟩
  | .hbm, ⟨49, _⟩ => ⟨S2048x64x64x2, .f32⟩
  | .hbm, ⟨50, _⟩ => ⟨S_, .f32⟩
  | .hbm, ⟨51, _⟩ => ⟨S2048x64x64, .f32⟩
  | .hbm, ⟨52, _⟩ => ⟨S_, .f32⟩
  | .hbm, ⟨53, _⟩ => ⟨S2048x64x64, .f32⟩
  | .hbm, ⟨54, _⟩ => ⟨S2048x64x64, .f32⟩
  | .hbm, ⟨55, _⟩ => ⟨S2048x64x64, .f32⟩
  | .hbm, ⟨56, _⟩ => ⟨S2048x64x64, .f32⟩
  | .hbm, ⟨57, _⟩ => ⟨S2048x64x64, .f32⟩
  | .hbm, ⟨58, _⟩ => ⟨S_, .f32⟩
  | .hbm, ⟨59, _⟩ => ⟨S2048x1x1, .f32⟩
  | .hbm, ⟨60, _⟩ => ⟨S2048x1x1, .f32⟩
  | .hbm, ⟨61, _⟩ => ⟨S2048x64x64, .f32⟩
  | .hbm, ⟨62, _⟩ => ⟨S2048x64x64, .f32⟩
  | .hbm, ⟨63, _⟩ => ⟨S2048x64x64, .f32⟩
  | .hbm, ⟨64, _⟩ => ⟨S2048x64x64, .f32⟩
  | .hbm, ⟨65, _⟩ => ⟨S2048x64x64, .f32⟩
  | .hbm, ⟨66, _⟩ => ⟨S2048x64x64x1, .f32⟩
  | .hbm, ⟨67, _⟩ => ⟨S2048x64x64x2, .f32⟩
  | .hbm, ⟨68, _⟩ => ⟨S2048x64x64x2, .f32⟩
  | .hbm, ⟨69, _⟩ => ⟨S_, .i32⟩
  | .hbm, ⟨70, _⟩ => ⟨S2048, .i32⟩
  | .hbm, ⟨71, _⟩ => ⟨S2048, .i1⟩
  | .hbm, ⟨72, _⟩ => ⟨S_, .i32⟩
  | .hbm, ⟨73, _⟩ => ⟨S2048, .i32⟩
  | .hbm, ⟨74, _⟩ => ⟨S2048, .i32⟩
  | .hbm, ⟨75, _⟩ => ⟨S2048, .i32⟩
  | .hbm, ⟨76, _⟩ => ⟨S2048x1, .i32⟩
  | .hbm, ⟨77, _⟩ => ⟨S2048x64x64x2, .f32⟩
  | .hbm, ⟨78, _⟩ => ⟨S1x64x64x2, .f32⟩
  | .hbm, ⟨79, _⟩ => ⟨S2048x64x64x2, .f32⟩
  | .hbm, ⟨80, _⟩ => ⟨S2048x64x64x2, .f32⟩
  | _, _ => ⟨S64x64x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_c_6 : Ref sig .tc := ⟨.hbm, 69, rfl⟩
abbrev main_v56 : Ref sig .tc := ⟨.hbm, 70, rfl⟩
abbrev main_v57 : Ref sig .tc := ⟨.hbm, 71, rfl⟩
abbrev main_c_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩

abbrev nD : Nat := 1
abbrev τ : Topo := Topo.v7x

variable {F : FTy → Type} [FloatOps F]
-- ==== Proof.Trip.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.LoopRemainder
public import Idealize.ShloMosaic.Lib.WritesUnit
public import Idealize.ShloMosaic.Lib.ValueLayout
public import Idealize.ShloMosaic.Lib.ValueIdx
public import Idealize.ShloMosaic.Adequacy
public import Idealize.ShloMosaic.Init

@[expose] public section

set_option maxRecDepth 16384

noncomputable section

namespace Cert.Proof.KernelIdeal

open Cert.KernelIdeal
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none
local notation "𝕄" => MT nD τ sig Unit (Elt F) ℕ (UU nD τ) ℕ

/-! ## What one trip does to an accumulator -/

/-- Plane `j` of a stack of 16 planes. -/
def slab (A : FVec F S16x32x128 .f32) (j : Fin 16) : FVec F S32x128 .f32 := fun y => A (ix3 j (y 0) (y 1))

/-- The stack with the plane `p` added to plane `s`, every other plane as it was. -/
def addRow (A : FVec F S16x32x128 .f32) (s : ℕ) (p : FVec F S32x128 .f32) : FVec F S16x32x128 .f32 :=
  fun x => if (x 0).val = s then addf (slab A (x 0)) p (ix2 (x 1) (x 2)) else A x

/-- `n` steps from `A`, step `k` only taken while `k < n`. -/
def accum {V : Type} (n : ℕ) (step : Fin n → V → V) (A : V) : ℕ → V
  | 0 => A
  | k + 1 => if h : k < n then step ⟨k, h⟩ (accum n step A k) else accum n step A k

theorem accum_succ {V : Type} (n : ℕ) (step : Fin n → V → V) (A : V) (k : Fin n) :
    accum n step A (k.val + 1) = step k (accum n step A k.val) := by
  rw [accum, dif_pos k.isLt]

/-- A load of plane `s`, the plane `p` added to it and the sum stored back is `addRow`. -/
theorem store_row {κ : Kind} {sp : Space} (v : View sig κ sp S16x32x128 .f32) (f : v.ty.Contents (Elt F)) (off : Fin 3 → ℕ) (s : ℕ)
    (hoff : off = ![s, 0, 0]) (inb : ∀ a, off a + S1x32x128.size a ≤ S16x32x128.size a) (p : FVec F S32x128 .f32)
    (h₁ : S1x32x128.ShapeCasts S32x128) (h₂ : S32x128.ShapeCasts S1x32x128) :
    v.read (Elt F) (v.writes (Elt F) f [⟨Rect.unit (s := S16x32x128) off S1x32x128.size inb,
      shapeCast S1x32x128 (addf (shapeCast S32x128 (v.readAt (Elt F) (Rect.unit (s := S16x32x128) off S1x32x128.size inb).toLoadRect f) h₁) p) h₂⟩])
      = addRow (v.read (Elt F) f) s p := by
  subst hoff
  have hs : s < 16 := by have := inb 0; simp at this; omega
  funext x
  obtain ⟨a, b, d, rfl⟩ : ∃ a b d, x = ix3 a b d := ⟨x 0, x 1, x 2, by funext i; fin_cases i <;> rfl⟩
  by_cases ha : a.val = s
  · have := View.read_writes_cons_unit_of_mem v f inb (shapeCast S1x32x128 (addf (shapeCast S32x128 (v.readAt (Elt F) (Rect.unit (s := S16x32x128) ![s,0,0] S1x32x128.size inb).toLoadRect f) h₁) p) h₂) [] (ix3 a b d) (ix3 (0 : Fin 1) b d) rfl
      (by intro i; fin_cases i <;> simp [ix3, ha])
    refine this.trans ?_
    rw [show shapeCast S1x32x128 (addf (shapeCast S32x128 (v.readAt (Elt F) (Rect.unit (s := S16x32x128) ![s,0,0] S1x32x128.size inb).toLoadRect f) h₁) p) h₂ (ix3 (0 : Fin 1) b d) = _ from
      shapeCast_ab_1ab_apply _ _ _ _ _]
    unfold addRow
    rw [if_pos (by exact ha)]
    have e : shapeCast S32x128 (v.readAt (Elt F) (Rect.unit (s := S16x32x128) ![s,0,0] S1x32x128.size inb).toLoadRect f) h₁ = slab (v.read (Elt F) f) a := by
      funext y
      obtain ⟨b', d', rfl⟩ : ∃ b d, y = ix2 b d := ⟨y 0, y 1, by funext i; fin_cases i <;> rfl⟩
      refine (shapeCast_1ab_ab_apply _ _ _ _).trans ?_
      rw [View.readAt_apply]
      unfold slab
      congr 1
      funext i; apply Fin.ext; fin_cases i <;> simp [ix3, ix2, ha, Rect.toLoadRect, Rect.unit, LoadRect.idx]
    rw [e]
  · refine (View.read_writes_cons_unit_of_not_mem v f inb _ [] (ix3 a b d) rfl 0 ?_).trans ?_
    · simp [ix3]; omega
    · unfold addRow; rw [if_neg (by exact ha)]; rfl

/-- A word read out of a table. -/
theorem word_eq {κ : Kind} {sp : Space} {n : ℕ} {e : EltTy} (v : View sig κ sp ⟨1, ![n]⟩ e) (f : v.ty.Contents (Elt F)) (off : Fin 1 → ℕ)
    (inb : ∀ a, off a + S1.size a ≤ (⟨1, ![n]⟩ : Shape).size a) (j : (Rect.unit (s := ⟨1, ![n]⟩) off S1.size inb).shape.Idx) (q : Fin n) (hq : off 0 = q.val) :
    v.readAt (Elt F) (Rect.unit (s := ⟨1, ![n]⟩) off S1.size inb).toLoadRect f j = v.read (Elt F) f (ix1 q) := by
  rw [View.readAt_apply]
  congr 1
  funext i; apply Fin.ext; fin_cases i
  have hj : (j 0).val < 1 := (j 0).isLt
  simp [Rect.toLoadRect, Rect.unit, LoadRect.idx, ix1]
  omega

variable (c : Dev nD) (i : grid0.Coords)
  (arg1 : Memref sig .tc .smem S129 .i32) (harg1 : arg1.IsWhole)
  (arg2 : Memref sig .tc .smem S129 .i32) (harg2 : arg2.IsWhole)
  (arg3 : Memref sig .tc .smem S4096 .i32) (harg3 : arg3.IsWhole)
  (arg4 : Memref sig .tc .smem S4096 .f32) (harg4 : arg4.IsWhole)
  (arg5 : Memref sig .tc .smem S4096 .f32) (harg5 : arg5.IsWhole)
  (arg6 : Memref sig .tc .smem S4096 .f32) (harg6 : arg6.IsWhole)
  (arg7 : Memref sig .tc .smem S4096 .f32) (harg7 : arg7.IsWhole)
  (arg8 : Memref sig .tc .smem S4096 .f32) (harg8 : arg8.IsWhole)
  (arg9 : Memref sig .tc .smem S4096 .f32) (harg9 : arg9.IsWhole)
  (arg10 : Memref sig .tc .smem S2048 .i32) (harg10 : arg10.IsWhole)
  (arg11 : Memref sig .tc .smem S2048 .f32) (harg11 : arg11.IsWhole)
  (arg12 : Memref sig .tc .smem S2048 .f32) (harg12 : arg12.IsWhole)
  (arg13 : Memref sig .tc .smem S2048 .f32) (harg13 : arg13.IsWhole)
  (arg14 : Memref sig .tc .smem S2048 .f32) (harg14 : arg14.IsWhole)
  (arg15 : Memref sig .tc .smem S2048 .f32) (harg15 : arg15.IsWhole)
  (arg16 : Memref sig .tc .smem S2048 .f32) (harg16 : arg16.IsWhole)
  (arg17 : Memref sig .tc .smem S2048 .f32) (harg17 : arg17.IsWhole)
  (arg18 : Memref sig .tc .vmem S32x128 .f32) (harg18 : arg18.IsWhole)
  (arg19 : Memref sig .tc .vmem S32x128 .f32) (harg19 : arg19.IsWhole)
  (arg20 : Memref sig .tc .vmem S32x128 .f32) (harg20 : arg20.IsWhole)
  (arg21 : Memref sig .tc .vmem S16x2x32x128 .f32) (harg21 : arg21.IsWhole)
  (arg22 : Memref sig .tc .vmem S16x32x128 .f32) (harg22 : arg22.IsWhole)
  (arg23 : Memref sig .tc .vmem S16x32x128 .f32) (harg23 : arg23.IsWhole)
  (arg24 : Memref sig .tc .vmem S16x32x128 .f32) (harg24 : arg24.IsWhole)
  (arg0 : BitVec 32) (v1 v3 v5 : FVec F S32x128 .f32)

/-- A memref of the body, held whole at the contents `f`. -/
abbrev own {sp : Space} {s : Shape} {e : EltTy} (c : Dev nD) (a : Memref sig .tc sp s e)
    (f : Buf (Elt F) (a.view.loc (c : Thread nD τ))) : sProp 𝕄 :=
  a.view.loc (c : Thread nD τ) ↦[a.view.set]{fullShare} f

/-- A memref of the body, held whole at contents that read `x`. -/
abbrev holds {sp : Space} {s : Shape} {e : EltTy} (c : Dev nD) (a : Memref sig .tc sp s e)
    (x : s.Idx → Elt F e) : sProp 𝕄 :=
  iprop(∃ f : Buf (Elt F) (a.view.loc (c : Thread nD τ)), own c a f ∗ ⌜a.view.read (Elt F) f = x⌝)

/-- Every word read out of a table whose words are below 16 is. -/
theorem word_lt {κ : Kind} {sp : Space} {s : Shape} {v : View sig κ sp s .i32} {g : v.ty.Contents (Elt F)}
    (h : ∀ q, (v.read (Elt F) g q : BitVec 32).toNat < 16) (r : LoadRect s) (j : r.shape.Idx) :
    (v.readAt (Elt F) r g j : BitVec 32).toNat < 16 := by
  rw [View.readAt_apply]; exact h _

theorem chk2_of (v : BitVec 32) (h : v.toNat < 16) : k0_chk2 v := by
  unfold k0_chk2 k0_off4
  intro a; fin_cases a <;> simp [Scalar.indexCast] <;> omega

theorem chk5_of (v : BitVec 32) (h : v.toNat < 16) : k0_chk5 v := by
  unfold k0_chk5 k0_off12
  intro a; fin_cases a <;> simp [Scalar.indexCast] <;> omega

/-- The table position that trip `k` of the first loop reads. -/
def ixS (v152 v155 : BitVec 32) (hw : k0_chk1 v152 v155) (k : Fin (k0_t1_loop v152 v155).trips) : Fin 4096 :=
  ⟨k0_off3 v152 v155 k 0, by have := k0_off3_inb v152 v155 hw k 0; simp at this; omega⟩

/-- The table position that trip `k` of the second loop reads. -/
def ixP (v162 v165 : BitVec 32) (hw : k0_chk4 v162 v165) (k : Fin (k0_t3_loop v162 v165).trips) : Fin 2048 :=
  ⟨k0_off11 v162 v165 k 0, by have := k0_off11_inb v162 v165 hw k 0; simp at this; omega⟩

/-- The plane a single isothermal sphere adds: `θ` over the distance, from the table's words at `q`. -/
def coefS (v1 v3 v5 : FVec F S32x128 .f32) (w4 w5 w6 w7 : S4096.Idx → F .f32) (q : Fin 4096) : FVec F S32x128 .f32 :=
  Gen.k0_pay4 v1 v3 v5 (w6 (ix1 q)) (w4 (ix1 q)) (w5 (ix1 q)) (w7 (ix1 q))

/-- The plane a power law adds, from the table's words at `q`. -/
def coefP (v1 v3 v5 : FVec F S32x128 .f32) (w11 w12 w13 w14 w15 : S2048.Idx → F .f32) (q : Fin 2048) : FVec F S32x128 .f32 :=
  Gen.k0_pay12 v1 v3 v5 (w13 (ix1 q)) (w11 (ix1 q)) (w12 (ix1 q)) (w14 (ix1 q)) (w15 (ix1 q))

/-- A plane times a number. -/
def scaled (x : F .f32) (p : FVec F S32x128 .f32) : FVec F S32x128 .f32 := mulf (broadcast S32x128 x) p

/-- The accumulator before trip `k` of the first loop, when trip `q` adds the plane `P q` at its slot. -/
def accS (v152 v155 : BitVec 32) (hw : k0_chk1 v152 v155) (w3 : S4096.Idx → BitVec 32) (P : Fin 4096 → FVec F S32x128 .f32)
    (A : FVec F S16x32x128 .f32) (k : ℕ) : FVec F S16x32x128 .f32 :=
  accum (k0_t1_loop v152 v155).trips (fun k A => addRow A (w3 (ix1 (ixS v152 v155 hw k))).toNat (P (ixS v152 v155 hw k))) A k

/-- The accumulator before trip `k` of the second loop, when trip `q` adds the plane `P q` at its slot. -/
def accP (v162 v165 : BitVec 32) (hw : k0_chk4 v162 v165) (w10 : S2048.Idx → BitVec 32) (P : Fin 2048 → FVec F S32x128 .f32)
    (A : FVec F S16x32x128 .f32) (k : ℕ) : FVec F S16x32x128 .f32 :=
  accum (k0_t3_loop v162 v165).trips (fun k A => addRow A (w10 (ix1 (ixP v162 v165 hw k))).toNat (P (ixP v162 v165 hw k))) A k

theorem addRow_congr {A A' : FVec F S16x32x128 .f32} {s s' : ℕ} {p p' : FVec F S32x128 .f32} (hA : A = A') (hs : s = s') (hp : p = p') :
    addRow A s p = addRow A' s' p' := by rw [hA, hs, hp]

set_option warn.classDefReducibility false in
/-- The first loop: before trip `k` the tables hold what they held and the three accumulators the sums of the
    trips before `k`. -/
@[sl_loop] def loopInv1
    (v152 v155 : Elt F .i32) (k0_hw1 : k0_chk1 v152 v155) (v156 : BitVec 32)
    (g3 : Buf (Elt F) (arg3.view.loc (c : Thread nD τ))) (g4 : Buf (Elt F) (arg4.view.loc (c : Thread nD τ)))
    (g5 : Buf (Elt F) (arg5.view.loc (c : Thread nD τ))) (g6 : Buf (Elt F) (arg6.view.loc (c : Thread nD τ)))
    (g7 : Buf (Elt F) (arg7.view.loc (c : Thread nD τ))) (g8 : Buf (Elt F) (arg8.view.loc (c : Thread nD τ)))
    (g9 : Buf (Elt F) (arg9.view.loc (c : Thread nD τ))) (A22 A23 A24 : FVec F S16x32x128 .f32) :
    Gen.LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1 v3 v5 v152 v155 k0_hw1 v156 where
  inv k _ := iprop(⌜∀ q, (arg3.view.read (Elt F) g3 q : BitVec 32).toNat < 16⌝
     ∗ own c arg3 g3 ∗ own c arg4 g4 ∗ own c arg5 g5 ∗ own c arg6 g6 ∗ own c arg7 g7 ∗ own c arg8 g8 ∗ own c arg9 g9
     ∗ holds c arg22 (accS v152 v155 k0_hw1 (arg3.view.read (Elt F) g3) (coefS v1 v3 v5 (arg4.view.read (Elt F) g4) (arg5.view.read (Elt F) g5) (arg6.view.read (Elt F) g6) (arg7.view.read (Elt F) g7)) A22 k)
     ∗ holds c arg23 (accS v152 v155 k0_hw1 (arg3.view.read (Elt F) g3) (fun q => scaled (arg8.view.read (Elt F) g8 (ix1 q)) (coefS v1 v3 v5 (arg4.view.read (Elt F) g4) (arg5.view.read (Elt F) g5) (arg6.view.read (Elt F) g6) (arg7.view.read (Elt F) g7) q)) A23 k)
     ∗ holds c arg24 (accS v152 v155 k0_hw1 (arg3.view.read (Elt F) g3) (fun q => scaled (arg9.view.read (Elt F) g9 (ix1 q)) (coefS v1 v3 v5 (arg4.view.read (Elt F) g4) (arg5.view.read (Elt F) g5) (arg6.view.read (Elt F) g6) (arg7.view.read (Elt F) g7) q)) A24 k))
  step k _ := by
    unfold Gen.k0_t1_body holds own
    iintro ⟨%hs, H3, H4, H5, H6, H7, H8, H9, ⟨%f22, H22, %h22⟩, ⟨%f23, H23, %h23⟩, ⟨%f24, H24, %h24⟩⟩
    sl_exec (disch := exact chk2_of _ (word_lt hs _ _))
    sl_step
    isplitr; · ipureintro; exact hs
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H22]
    · iexists _
      isplitl [H22]; · iexact H22
      ipureintro
      refine (store_row arg22.view f22 _ _ rfl _ _ _ _).trans ?_
      unfold accS; rw [accum_succ]
      refine addRow_congr h22 ?_ ?_
      · exact congrArg BitVec.toNat (word_eq _ _ _ _ _ (ixS v152 v155 k0_hw1 k) rfl)
      · unfold coefS
        exact congr (congr (congr (congrArg (Gen.k0_pay4 v1 v3 v5) (word_eq _ _ _ _ _ _ rfl)) (word_eq _ _ _ _ _ _ rfl)) (word_eq _ _ _ _ _ _ rfl)) (word_eq _ _ _ _ _ _ rfl)
    isplitl [H23]
    · iexists _
      isplitl [H23]; · iexact H23
      ipureintro
      refine (store_row arg23.view f23 _ _ rfl _ _ _ _).trans ?_
      unfold accS; rw [accum_succ]
      refine addRow_congr h23 ?_ ?_
      · exact congrArg BitVec.toNat (word_eq _ _ _ _ _ (ixS v152 v155 k0_hw1 k) rfl)
      · unfold coefS
        refine congr (congrArg scaled (word_eq _ _ _ _ _ _ rfl)) ?_
        exact congr (congr (congr (congrArg (Gen.k0_pay4 v1 v3 v5) (word_eq _ _ _ _ _ _ rfl)) (word_eq _ _ _ _ _ _ rfl)) (word_eq _ _ _ _ _ _ rfl)) (word_eq _ _ _ _ _ _ rfl)
    · iexists _
      isplitl [H24]; · iexact H24
      ipureintro
      refine (store_row arg24.view f24 _ _ rfl _ _ _ _).trans ?_
      unfold accS; rw [accum_succ]
      refine addRow_congr h24 ?_ ?_
      · exact congrArg BitVec.toNat (word_eq _ _ _ _ _ (ixS v152 v155 k0_hw1 k) rfl)
      · unfold coefS
        refine congr (congrArg scaled (word_eq _ _ _ _ _ _ rfl)) ?_
        show Gen.k0_pay4 v1 v3 v5 _ _ _ _ = _
        exact congr (congr (congr (congrArg (Gen.k0_pay4 v1 v3 v5) (word_eq _ _ _ _ _ _ rfl)) (word_eq _ _ _ _ _ _ rfl)) (word_eq _ _ _ _ _ _ rfl)) (word_eq _ _ _ _ _ _ rfl)

set_option warn.classDefReducibility false in
/-- The second loop: before trip `k` the tables hold what they held and the three accumulators the sums of the
    trips before `k`. -/
@[sl_loop] def loopInv3
    (v152 v155 : Elt F .i32) (k0_hw1 : k0_chk1 v152 v155) (v156 : BitVec 32)
    (v162 v165 : Elt F .i32) (k0_hw4 : k0_chk4 v162 v165)
    (g10 : Buf (Elt F) (arg10.view.loc (c : Thread nD τ)))
    (g11 : Buf (Elt F) (arg11.view.loc (c : Thread nD τ)))
    (g12 : Buf (Elt F) (arg12.view.loc (c : Thread nD τ)))
    (g13 : Buf (Elt F) (arg13.view.loc (c : Thread nD τ)))
    (g14 : Buf (Elt F) (arg14.view.loc (c : Thread nD τ)))
    (g15 : Buf (Elt F) (arg15.view.loc (c : Thread nD τ)))
    (g16 : Buf (Elt F) (arg16.view.loc (c : Thread nD τ)))
    (g17 : Buf (Elt F) (arg17.view.loc (c : Thread nD τ))) (A22 A23 A24 : FVec F S16x32x128 .f32) :
    Gen.LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v1 v3 v5 v152 v155 k0_hw1 v156 v162 v165 k0_hw4 where
  inv k _ := iprop(⌜∀ q, (arg10.view.read (Elt F) g10 q : BitVec 32).toNat < 16⌝
     ∗ own c arg10 g10 ∗ own c arg11 g11 ∗ own c arg12 g12 ∗ own c arg13 g13 ∗ own c arg14 g14 ∗ own c arg15 g15 ∗ own c arg16 g16 ∗ own c arg17 g17
     ∗ holds c arg22 (accP v162 v165 k0_hw4 (arg10.view.read (Elt F) g10) (coefP v1 v3 v5 (arg11.view.read (Elt F) g11) (arg12.view.read (Elt F) g12) (arg13.view.read (Elt F) g13) (arg14.view.read (Elt F) g14) (arg15.view.read (Elt F) g15)) A22 k)
     ∗ holds c arg23 (accP v162 v165 k0_hw4 (arg10.view.read (Elt F) g10) (fun q => scaled (arg16.view.read (Elt F) g16 (ix1 q)) (coefP v1 v3 v5 (arg11.view.read (Elt F) g11) (arg12.view.read (Elt F) g12) (arg13.view.read (Elt F) g13) (arg14.view.read (Elt F) g14) (arg15.view.read (Elt F) g15) q)) A23 k)
     ∗ holds c arg24 (accP v162 v165 k0_hw4 (arg10.view.read (Elt F) g10) (fun q => scaled (arg17.view.read (Elt F) g17 (ix1 q)) (coefP v1 v3 v5 (arg11.view.read (Elt F) g11) (arg12.view.read (Elt F) g12) (arg13.view.read (Elt F) g13) (arg14.view.read (Elt F) g14) (arg15.view.read (Elt F) g15) q)) A24 k))
  step k _ := by
    unfold Gen.k0_t3_body holds own
    iintro ⟨%hs, H10, H11, H12, H13, H14, H15, H16, H17, ⟨%f22, H22, %h22⟩, ⟨%f23, H23, %h23⟩, ⟨%f24, H24, %h24⟩⟩
    sl_exec (disch := exact chk5_of _ (word_lt hs _ _))
    sl_step
    isplitr; · ipureintro; exact hs
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H22]
    · iexists _
      isplitl [H22]; · iexact H22
      ipureintro
      refine (store_row arg22.view f22 _ _ rfl _ _ _ _).trans ?_
      unfold accP; rw [accum_succ]
      refine addRow_congr h22 ?_ ?_
      · exact congrArg BitVec.toNat (word_eq _ _ _ _ _ (ixP v162 v165 k0_hw4 k) rfl)
      · unfold coefP
        exact congr (congr (congr (congr (congrArg (Gen.k0_pay12 v1 v3 v5) (word_eq _ _ _ _ _ _ rfl)) (word_eq _ _ _ _ _ _ rfl)) (word_eq _ _ _ _ _ _ rfl)) (word_eq _ _ _ _ _ _ rfl)) (word_eq _ _ _ _ _ _ rfl)
    isplitl [H23]
    · iexists _
      isplitl [H23]; · iexact H23
      ipureintro
      refine (store_row arg23.view f23 _ _ rfl _ _ _ _).trans ?_
      unfold accP; rw [accum_succ]
      refine addRow_congr h23 ?_ ?_
      · exact congrArg BitVec.toNat (word_eq _ _ _ _ _ (ixP v162 v165 k0_hw4 k) rfl)
      · unfold coefP
        refine congr (congrArg scaled (word_eq _ _ _ _ _ _ rfl)) ?_
        exact congr (congr (congr (congr (congrArg (Gen.k0_pay12 v1 v3 v5) (word_eq _ _ _ _ _ _ rfl)) (word_eq _ _ _ _ _ _ rfl)) (word_eq _ _ _ _ _ _ rfl)) (word_eq _ _ _ _ _ _ rfl)) (word_eq _ _ _ _ _ _ rfl)
    · iexists _
      isplitl [H24]; · iexact H24
      ipureintro
      refine (store_row arg24.view f24 _ _ rfl _ _ _ _).trans ?_
      unfold accP; rw [accum_succ]
      refine addRow_congr h24 ?_ ?_
      · exact congrArg BitVec.toNat (word_eq _ _ _ _ _ (ixP v162 v165 k0_hw4 k) rfl)
      · unfold coefP
        refine congr (congrArg scaled (word_eq _ _ _ _ _ _ rfl)) ?_
        show Gen.k0_pay12 v1 v3 v5 _ _ _ _ _ = _
        exact congr (congr (congr (congr (congrArg (Gen.k0_pay12 v1 v3 v5) (word_eq _ _ _ _ _ _ rfl)) (word_eq _ _ _ _ _ _ rfl)) (word_eq _ _ _ _ _ _ rfl)) (word_eq _ _ _ _ _ _ rfl)) (word_eq _ _ _ _ _ _ rfl)

end Cert.Proof.KernelIdeal

end
-- ==== Proof.Stores.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.LoopRemainder
public import Idealize.ShloMosaic.Lib.WritesUnit
public import Idealize.ShloMosaic.Lib.ValueLayout
public import Idealize.ShloMosaic.Lib.ValueIdx
public import proofs.«01_k».proof.Proof.Trip
public import Idealize.ShloMosaic.Adequacy
public import Idealize.ShloMosaic.Init

@[expose] public section

set_option maxRecDepth 16384

noncomputable section

namespace Cert.Proof.KernelIdeal

open Cert.KernelIdeal
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## The stores around the two loops -/

/-- The stack of 16 zero planes. -/
def zeros16 : FVec F S16x32x128 .f32 := fun _ => Scalar.ofBits .f32 0x00000000#32

/-- The stores of one plane each into the first `n` planes of a stack, newest first. -/
def rows (w : FVec F S1x32x128 .f32) : (n : ℕ) → n ≤ 16 → List (View.Piece (Elt F) S16x32x128 .f32)
  | 0, _ => []
  | n + 1, h => ⟨Rect.unit (s := S16x32x128) ![n, 0, 0] S1x32x128.size (by intro a; fin_cases a <;> simp <;> omega), w⟩
      :: rows w n (by omega)

theorem rows_read {κ : Kind} {sp : Space} (v : View sig κ sp S16x32x128 .f32) (f : v.ty.Contents (Elt F)) (w : FVec F S1x32x128 .f32)
    (x : S16x32x128.Idx) : (n : ℕ) → (h : n ≤ 16) → (x 0).val < n →
    v.read (Elt F) (v.writes (Elt F) f (rows w n h)) x = w (ix3 (0 : Fin 1) (x 1) (x 2))
  | 0, _, hx => by omega
  | n + 1, h, hx => by
    by_cases e : (x 0).val = n
    · exact View.read_writes_cons_unit_of_mem v f _ w _ x (ix3 (0 : Fin 1) (x 1) (x 2)) rfl
        (by intro i; fin_cases i <;> simp [ix3, e])
    · refine (View.read_writes_cons_unit_of_not_mem v f _ w _ x rfl 0 ?_).trans (rows_read v f w x n (by omega) (by omega))
      simp; omega

/-- The 16 stores of zero planes leave the zero stack. -/
theorem zero_read {κ : Kind} {sp : Space} (v : View sig κ sp S16x32x128 .f32) (f : v.ty.Contents (Elt F)) :
    v.read (Elt F) (v.writes (Elt F) f (rows Gen.k0_pay22 16 le_rfl)) = zeros16 := by
  funext x
  exact rows_read v f _ x 16 le_rfl (x 0).isLt

/-- What is stored for one system and one direction, from the system's plane of the coefficients and of the products. -/
def outPiece (v : FVec F S32x128 .f32) (a b : FVec F S1x32x128 .f32) : FVec F S1x1x32x128 .f32 :=
  shapeCast S1x1x32x128 (addf (mulf v (subf (broadcast S32x128 (Scalar.ofBits .f32 0x3F800000#32)) (shapeCast S32x128 a Gen.shapeCasts_S1x32x128_S32x128)))
    (shapeCast S32x128 b Gen.shapeCasts_S1x32x128_S32x128)) Gen.shapeCasts_S32x128_S1x1x32x128

/-- One plane of the block, from the accumulators' planes. -/
def outPlane (v a b : FVec F S32x128 .f32) : FVec F S32x128 .f32 :=
  addf (mulf v (subf (broadcast S32x128 (Scalar.ofBits .f32 0x3F800000#32)) a)) b

/-- The block a step leaves in the output: system `x 0`, direction `x 1`. -/
def outBlk (v3 v5 : FVec F S32x128 .f32) (A22 A23 A24 : FVec F S16x32x128 .f32) : FVec F S16x2x32x128 .f32 := fun x =>
  if (x 1).val = 0 then outPlane v3 (slab A22 (x 0)) (slab A23 (x 0)) (ix2 (x 2) (x 3))
  else outPlane v5 (slab A22 (x 0)) (slab A24 (x 0)) (ix2 (x 2) (x 3))

/-- Plane `n` of a stack, as a load reads it. -/
def rowOf {κ : Kind} {sp : Space} (v : View sig κ sp S16x32x128 .f32) (f : v.ty.Contents (Elt F)) (n : ℕ) (h : n < 16) : FVec F S1x32x128 .f32 :=
  v.readAt (Elt F) (Rect.unit (s := S16x32x128) ![n, 0, 0] S1x32x128.size (by intro a; fin_cases a <;> simp <;> omega)).toLoadRect f

theorem rowOf_cast {κ : Kind} {sp : Space} (v : View sig κ sp S16x32x128 .f32) (f : v.ty.Contents (Elt F)) (n : ℕ) (h : n < 16) :
    shapeCast S32x128 (rowOf v f n h) Gen.shapeCasts_S1x32x128_S32x128 = slab (v.read (Elt F) f) ⟨n, h⟩ := by
  funext y
  obtain ⟨b', d', rfl⟩ : ∃ b d, y = ix2 b d := ⟨y 0, y 1, by funext i; fin_cases i <;> rfl⟩
  refine (shapeCast_1ab_ab_apply _ _ _ _).trans ?_
  unfold rowOf
  rw [View.readAt_apply]
  unfold slab
  congr 1
  funext i; apply Fin.ext; fin_cases i <;> simp [ix3, ix2, Rect.toLoadRect, Rect.unit, LoadRect.idx]

theorem outPiece_apply (v a b : FVec F S32x128 .f32) (a' b' : FVec F S1x32x128 .f32)
    (ha : shapeCast S32x128 a' Gen.shapeCasts_S1x32x128_S32x128 = a) (hb : shapeCast S32x128 b' Gen.shapeCasts_S1x32x128_S32x128 = b)
    (k : Fin 32) (l : Fin 128) : outPiece v a' b' (ix4 (0 : Fin 1) (0 : Fin 1) k l) = outPlane v a b (ix2 k l) := by
  subst ha hb
  unfold outPiece outPlane
  refine shapeCast_apply _ _ _ _ ?_
  rw [Shape.rowMajor_val_four, Shape.rowMajor_val_two]
  simp [ix4, ix2]

/-- The 32 stores into the output block, newest first: two for each of the first `n` systems. -/
def outs {κ κ' κ'' : Kind} {sp sp' sp'' : Space} (v3 v5 : FVec F S32x128 .f32)
    (m22 : View sig κ sp S16x32x128 .f32) (f22 : m22.ty.Contents (Elt F))
    (m23 : View sig κ' sp' S16x32x128 .f32) (f23 : m23.ty.Contents (Elt F))
    (m24 : View sig κ'' sp'' S16x32x128 .f32) (f24 : m24.ty.Contents (Elt F)) :
    (n : ℕ) → n ≤ 16 → List (View.Piece (Elt F) S16x2x32x128 .f32)
  | 0, _ => []
  | n + 1, h => ⟨Rect.unit (s := S16x2x32x128) ![n, 1, 0, 0] S1x1x32x128.size (by intro a; fin_cases a <;> simp <;> omega),
        outPiece v5 (rowOf m22 f22 n (by omega)) (rowOf m24 f24 n (by omega))⟩
      :: ⟨Rect.unit (s := S16x2x32x128) ![n, 0, 0, 0] S1x1x32x128.size (by intro a; fin_cases a <;> simp <;> omega),
        outPiece v3 (rowOf m22 f22 n (by omega)) (rowOf m23 f23 n (by omega))⟩
      :: outs v3 v5 m22 f22 m23 f23 m24 f24 n (by omega)

theorem outs_read {κ κ' κ'' κo : Kind} {sp sp' sp'' spo : Space} (v3 v5 : FVec F S32x128 .f32)
    (m22 : View sig κ sp S16x32x128 .f32) (f22 : m22.ty.Contents (Elt F))
    (m23 : View sig κ' sp' S16x32x128 .f32) (f23 : m23.ty.Contents (Elt F))
    (m24 : View sig κ'' sp'' S16x32x128 .f32) (f24 : m24.ty.Contents (Elt F))
    (v : View sig κo spo S16x2x32x128 .f32) (f : v.ty.Contents (Elt F)) (x : S16x2x32x128.Idx) :
    (n : ℕ) → (h : n ≤ 16) → (x 0).val < n →
    v.read (Elt F) (v.writes (Elt F) f (outs v3 v5 m22 f22 m23 f23 m24 f24 n h)) x
      = outBlk v3 v5 (m22.read (Elt F) f22) (m23.read (Elt F) f23) (m24.read (Elt F) f24) x
  | 0, _, hx => by omega
  | n + 1, h, hx => by
    have h1 : (x 1).val < 2 := (x 1).isLt
    by_cases e : (x 0).val = n
    · have e' : x 0 = (⟨n, by omega⟩ : Fin 16) := Fin.ext e
      unfold outBlk
      by_cases e1 : (x 1).val = 0
      · rw [if_pos e1, e']
        refine (View.read_writes_cons_unit_of_not_mem v f _ _ _ x rfl 1 ?_).trans ?_
        · simp; omega
        refine (View.read_writes_cons_unit_of_mem v f _ _ _ x (ix4 (0 : Fin 1) (0 : Fin 1) (x 2) (x 3)) rfl
          (by intro i; fin_cases i <;> simp [ix4, e, e1])).trans ?_
        exact outPiece_apply _ _ _ _ _ (rowOf_cast _ _ _ _) (rowOf_cast _ _ _ _) _ _
      · rw [if_neg e1, e']
        refine (View.read_writes_cons_unit_of_mem v f _ _ _ x (ix4 (0 : Fin 1) (0 : Fin 1) (x 2) (x 3)) rfl
          (by intro i; fin_cases i <;> simp [ix4, e]; omega)).trans ?_
        exact outPiece_apply _ _ _ _ _ (rowOf_cast _ _ _ _) (rowOf_cast _ _ _ _) _ _
    · refine (View.read_writes_cons_unit_of_not_mem v f _ _ _ x rfl 0 ?_).trans ?_
      · simp; omega
      refine (View.read_writes_cons_unit_of_not_mem v f _ _ _ x rfl 0 ?_).trans ?_
      · simp; omega
      exact outs_read v3 v5 m22 f22 m23 f23 m24 f24 v f x n (by omega) (by omega)

/-- The 32 stores leave the block. -/
theorem out_read {κ κ' κ'' κo : Kind} {sp sp' sp'' spo : Space} (v3 v5 : FVec F S32x128 .f32)
    (m22 : View sig κ sp S16x32x128 .f32) (f22 : m22.ty.Contents (Elt F))
    (m23 : View sig κ' sp' S16x32x128 .f32) (f23 : m23.ty.Contents (Elt F))
    (m24 : View sig κ'' sp'' S16x32x128 .f32) (f24 : m24.ty.Contents (Elt F))
    (v : View sig κo spo S16x2x32x128 .f32) (f : v.ty.Contents (Elt F)) :
    v.read (Elt F) (v.writes (Elt F) f (outs v3 v5 m22 f22 m23 f23 m24 f24 16 le_rfl))
      = outBlk v3 v5 (m22.read (Elt F) f22) (m23.read (Elt F) f23) (m24.read (Elt F) f24) :=
  funext fun x => outs_read v3 v5 m22 f22 m23 f23 m24 f24 v f x 16 le_rfl (x 0).isLt

end Cert.Proof.KernelIdeal

end
-- ==== Proof.Step.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.LoopRemainder
public import Idealize.ShloMosaic.Lib.WritesUnit
public import Idealize.ShloMosaic.Lib.ValueLayout
public import Idealize.ShloMosaic.Lib.ValueIdx
public import proofs.«01_k».proof.Proof.Stores
public import Idealize.ShloMosaic.Adequacy
public import Idealize.ShloMosaic.Init

@[expose] public section

set_option maxRecDepth 16384

noncomputable section

namespace Cert.Proof.KernelIdeal

open Cert.KernelIdeal
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## The block of one step, from the tables and the grid planes -/

section Block

variable (lo hi plo phi : BitVec 32) (h1 : k0_chk1 lo hi) (h4 : k0_chk4 plo phi)
  (w3 : S4096.Idx → BitVec 32) (w4 w5 w6 w7 w8 w9 : S4096.Idx → F .f32)
  (w10 : S2048.Idx → BitVec 32) (w11 w12 w13 w14 w15 w16 w17 : S2048.Idx → F .f32) (v1 v3 v5 : FVec F S32x128 .f32)

/-- An accumulator after both loops, when trip `q` of the first adds `P q` and trip `q` of the second adds `Q q`. -/
def accBoth (P : Fin 4096 → FVec F S32x128 .f32) (Q : Fin 2048 → FVec F S32x128 .f32) : FVec F S16x32x128 .f32 :=
  accP plo phi h4 w10 Q (accS lo hi h1 w3 P zeros16 (k0_t1_loop lo hi).trips) (k0_t3_loop plo phi).trips

/-- The block one step stores. -/
def blockOf : FVec F S16x2x32x128 .f32 :=
  outBlk v3 v5
    (accBoth lo hi plo phi h1 h4 w3 w10 (coefS v1 v3 v5 w4 w5 w6 w7) (coefP v1 v3 v5 w11 w12 w13 w14 w15))
    (accBoth lo hi plo phi h1 h4 w3 w10 (fun q => scaled (w8 (ix1 q)) (coefS v1 v3 v5 w4 w5 w6 w7 q)) (fun q => scaled (w16 (ix1 q)) (coefP v1 v3 v5 w11 w12 w13 w14 w15 q)))
    (accBoth lo hi plo phi h1 h4 w3 w10 (fun q => scaled (w9 (ix1 q)) (coefS v1 v3 v5 w4 w5 w6 w7 q)) (fun q => scaled (w17 (ix1 q)) (coefP v1 v3 v5 w11 w12 w13 w14 w15 q)))

theorem chk1_congr {a b a' b' : BitVec 32} (ha : a = a') (hb : b = b') (h : k0_chk1 a' b') : k0_chk1 a b := by subst ha hb; exact h
theorem chk4_congr {a b a' b' : BitVec 32} (ha : a = a') (hb : b = b') (h : k0_chk4 a' b') : k0_chk4 a b := by subst ha hb; exact h

theorem accS_congr {a b a' b' : BitVec 32} (ha : a = a') (hb : b = b') (hw : k0_chk1 a b) (hw' : k0_chk1 a' b') (w : S4096.Idx → BitVec 32)
    {P P' : Fin 4096 → FVec F S32x128 .f32} (hP : P = P') {A A' : FVec F S16x32x128 .f32} (hA : A = A') :
    accS a b hw w P A (k0_t1_loop a b).trips = accS a' b' hw' w P' A' (k0_t1_loop a' b').trips := by subst ha hb hP hA; rfl
theorem accP_congr {a b a' b' : BitVec 32} (ha : a = a') (hb : b = b') (hw : k0_chk4 a b) (hw' : k0_chk4 a' b') (w : S2048.Idx → BitVec 32)
    {P P' : Fin 2048 → FVec F S32x128 .f32} (hP : P = P') {A A' : FVec F S16x32x128 .f32} (hA : A = A') :
    accP a b hw w P A (k0_t3_loop a b).trips = accP a' b' hw' w P' A' (k0_t3_loop a' b').trips := by subst ha hb hP hA; rfl

/-- An accumulator's contents after both loops, from what the runs of the two loops say. -/
theorem both_read {κ : Kind} {sp : Space} (v : View sig κ sp S16x32x128 .f32) (f f' f'' : v.ty.Contents (Elt F)) {a b a' b' : BitVec 32}
    (ha : a = lo) (hb : b = hi) (ha' : a' = plo) (hb' : b' = phi) (hw : k0_chk1 a b) (hw' : k0_chk4 a' b')
    {P P' : Fin 4096 → FVec F S32x128 .f32} (hP : P = P') {Q Q' : Fin 2048 → FVec F S32x128 .f32} (hQ : Q = Q')
    (e0 : v.read (Elt F) f = zeros16)
    (e1 : v.read (Elt F) f' = accS a b hw w3 P (v.read (Elt F) f) (k0_t1_loop a b).trips)
    (e2 : v.read (Elt F) f'' = accP a' b' hw' w10 Q (v.read (Elt F) f') (k0_t3_loop a' b').trips) :
    v.read (Elt F) f'' = accBoth lo hi plo phi h1 h4 w3 w10 P' Q' :=
  e2.trans (accP_congr ha' hb' hw' h4 w10 hQ (e1.trans (accS_congr ha hb hw h1 w3 hP e0)))

theorem coefS_congr {a a' b b' d d' : FVec F S32x128 .f32} (ha : a = a') (hb : b = b') (hd : d = d') (x y z w : S4096.Idx → F .f32) :
    coefS a b d x y z w = coefS a' b' d' x y z w := by subst ha hb hd; rfl
theorem coefP_congr {a a' b b' d d' : FVec F S32x128 .f32} (ha : a = a') (hb : b = b') (hd : d = d') (x y z w u : S2048.Idx → F .f32) :
    coefP a b d x y z w u = coefP a' b' d' x y z w u := by subst ha hb hd; rfl
theorem outBlk_congr {a a' b b' : FVec F S32x128 .f32} (ha : a = a') (hb : b = b') {x x' y y' z z' : FVec F S16x32x128 .f32}
    (hx : x = x') (hy : y = y') (hz : z = z') : outBlk a b x y z = outBlk a' b' x' y' z' := by subst ha hb hx hy hz; rfl

/-- A plane loaded whole. -/
theorem plane_read {κ : Kind} {sp : Space} (v : View sig κ sp S32x128 .f32) (f : v.ty.Contents (Elt F)) (h : S32x128.ShapeCasts S32x128)
    (inb : ∀ a, (![0, 0] : Fin 2 → ℕ) a + S32x128.size a ≤ S32x128.size a) :
    shapeCast S32x128 (v.readAt (Elt F) (Rect.unit (s := S32x128) ![0, 0] S32x128.size inb).toLoadRect f) h = v.read (Elt F) f := by
  funext x
  refine (shapeCast_apply _ _ _ x rfl).trans ?_
  rw [View.readAt_apply]
  congr 1
  funext i; apply Fin.ext; fin_cases i <;> simp [Rect.toLoadRect, Rect.unit, LoadRect.idx]

end Block

variable (c : Dev nD) (i : grid0.Coords)
  (arg1 : Memref sig .tc .smem S129 .i32) (harg1 : arg1.IsWhole)
  (arg2 : Memref sig .tc .smem S129 .i32) (harg2 : arg2.IsWhole)
  (arg3 : Memref sig .tc .smem S4096 .i32) (harg3 : arg3.IsWhole)
  (arg4 : Memref sig .tc .smem S4096 .f32) (harg4 : arg4.IsWhole)
  (arg5 : Memref sig .tc .smem S4096 .f32) (harg5 : arg5.IsWhole)
  (arg6 : Memref sig .tc .smem S4096 .f32) (harg6 : arg6.IsWhole)
  (arg7 : Memref sig .tc .smem S4096 .f32) (harg7 : arg7.IsWhole)
  (arg8 : Memref sig .tc .smem S4096 .f32) (harg8 : arg8.IsWhole)
  (arg9 : Memref sig .tc .smem S4096 .f32) (harg9 : arg9.IsWhole)
  (arg10 : Memref sig .tc .smem S2048 .i32) (harg10 : arg10.IsWhole)
  (arg11 : Memref sig .tc .smem S2048 .f32) (harg11 : arg11.IsWhole)
  (arg12 : Memref sig .tc .smem S2048 .f32) (harg12 : arg12.IsWhole)
  (arg13 : Memref sig .tc .smem S2048 .f32) (harg13 : arg13.IsWhole)
  (arg14 : Memref sig .tc .smem S2048 .f32) (harg14 : arg14.IsWhole)
  (arg15 : Memref sig .tc .smem S2048 .f32) (harg15 : arg15.IsWhole)
  (arg16 : Memref sig .tc .smem S2048 .f32) (harg16 : arg16.IsWhole)
  (arg17 : Memref sig .tc .smem S2048 .f32) (harg17 : arg17.IsWhole)
  (arg18 : Memref sig .tc .vmem S32x128 .f32) (harg18 : arg18.IsWhole)
  (arg19 : Memref sig .tc .vmem S32x128 .f32) (harg19 : arg19.IsWhole)
  (arg20 : Memref sig .tc .vmem S32x128 .f32) (harg20 : arg20.IsWhole)
  (arg21 : Memref sig .tc .vmem S16x2x32x128 .f32) (harg21 : arg21.IsWhole)
  (arg22 : Memref sig .tc .vmem S16x32x128 .f32) (harg22 : arg22.IsWhole)
  (arg23 : Memref sig .tc .vmem S16x32x128 .f32) (harg23 : arg23.IsWhole)
  (arg24 : Memref sig .tc .vmem S16x32x128 .f32) (harg24 : arg24.IsWhole)
  (g1 : Buf (Elt F) (arg1.view.loc (c : Thread nD τ)))
  (g2 : Buf (Elt F) (arg2.view.loc (c : Thread nD τ)))
  (g3 : Buf (Elt F) (arg3.view.loc (c : Thread nD τ)))
  (g4 : Buf (Elt F) (arg4.view.loc (c : Thread nD τ)))
  (g5 : Buf (Elt F) (arg5.view.loc (c : Thread nD τ)))
  (g6 : Buf (Elt F) (arg6.view.loc (c : Thread nD τ)))
  (g7 : Buf (Elt F) (arg7.view.loc (c : Thread nD τ)))
  (g8 : Buf (Elt F) (arg8.view.loc (c : Thread nD τ)))
  (g9 : Buf (Elt F) (arg9.view.loc (c : Thread nD τ)))
  (g10 : Buf (Elt F) (arg10.view.loc (c : Thread nD τ)))
  (g11 : Buf (Elt F) (arg11.view.loc (c : Thread nD τ)))
  (g12 : Buf (Elt F) (arg12.view.loc (c : Thread nD τ)))
  (g13 : Buf (Elt F) (arg13.view.loc (c : Thread nD τ)))
  (g14 : Buf (Elt F) (arg14.view.loc (c : Thread nD τ)))
  (g15 : Buf (Elt F) (arg15.view.loc (c : Thread nD τ)))
  (g16 : Buf (Elt F) (arg16.view.loc (c : Thread nD τ)))
  (g17 : Buf (Elt F) (arg17.view.loc (c : Thread nD τ)))
  (g18 : Buf (Elt F) (arg18.view.loc (c : Thread nD τ)))
  (g19 : Buf (Elt F) (arg19.view.loc (c : Thread nD τ)))
  (g20 : Buf (Elt F) (arg20.view.loc (c : Thread nD τ)))
  (g21 : Buf (Elt F) (arg21.view.loc (c : Thread nD τ)))
  (g22 : Buf (Elt F) (arg22.view.loc (c : Thread nD τ)))
  (g23 : Buf (Elt F) (arg23.view.loc (c : Thread nD τ)))
  (g24 : Buf (Elt F) (arg24.view.loc (c : Thread nD τ)))

/-- One step of the kernel: from the tables and planes whole it stores the block, and leaves the tables and planes as
    they were. -/
theorem run (lo hi plo phi : BitVec 32) (h1 : k0_chk1 lo hi) (h4 : k0_chk4 plo phi)
    (hlo : ∀ j, arg1.view.readAt (Elt F) (Rect.unit (s := S129) (k0_off1 i) S1.size (Gen.k0_off1_inb i)).toLoadRect g1 j = lo)
    (hhi : ∀ j, arg1.view.readAt (Elt F) (Rect.unit (s := S129) (k0_off2 i) S1.size (Gen.k0_off2_inb i)).toLoadRect g1 j = hi)
    (hplo : ∀ j, arg2.view.readAt (Elt F) (Rect.unit (s := S129) (k0_off9 i) S1.size (Gen.k0_off9_inb i)).toLoadRect g2 j = plo)
    (hphi : ∀ j, arg2.view.readAt (Elt F) (Rect.unit (s := S129) (k0_off10 i) S1.size (Gen.k0_off10_inb i)).toLoadRect g2 j = phi)
    (hs3 : ∀ q, (arg3.view.read (Elt F) g3 q : BitVec 32).toNat < 16)
    (hs10 : ∀ q, (arg10.view.read (Elt F) g10 q : BitVec 32).toNat < 16) :
    (iprop(own c arg1 g1 ∗ own c arg2 g2 ∗ own c arg3 g3 ∗ own c arg4 g4 ∗ own c arg5 g5 ∗ own c arg6 g6 ∗ own c arg7 g7 ∗ own c arg8 g8 ∗ own c arg9 g9 ∗ own c arg10 g10 ∗ own c arg11 g11 ∗ own c arg12 g12 ∗ own c arg13 g13 ∗ own c arg14 g14 ∗ own c arg15 g15 ∗ own c arg16 g16 ∗ own c arg17 g17 ∗ own c arg18 g18 ∗ own c arg19 g19 ∗ own c arg20 g20 ∗ own c arg21 g21 ∗ own c arg22 g22 ∗ own c arg23 g23 ∗ own c arg24 g24) : sProp 𝕄) ⊢
      wp Idealize.ShloMosaic.frame (wpE (defs₀ (F := F)) 𝒱₀ (c : Thread nD τ) none) Set.univ
        (cc0__seg_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) fun _ => iprop(
          own c arg1 g1 ∗ own c arg2 g2 ∗ own c arg3 g3 ∗ own c arg4 g4 ∗ own c arg5 g5 ∗ own c arg6 g6 ∗ own c arg7 g7 ∗ own c arg8 g8 ∗ own c arg9 g9 ∗ own c arg10 g10 ∗ own c arg11 g11 ∗ own c arg12 g12 ∗ own c arg13 g13 ∗ own c arg14 g14 ∗ own c arg15 g15 ∗ own c arg16 g16 ∗ own c arg17 g17 ∗ own c arg18 g18 ∗ own c arg19 g19 ∗ own c arg20 g20
          ∗ holds c arg21 (blockOf lo hi plo phi h1 h4 (arg3.view.read (Elt F) g3) (arg4.view.read (Elt F) g4) (arg5.view.read (Elt F) g5) (arg6.view.read (Elt F) g6) (arg7.view.read (Elt F) g7) (arg8.view.read (Elt F) g8) (arg9.view.read (Elt F) g9) (arg10.view.read (Elt F) g10) (arg11.view.read (Elt F) g11) (arg12.view.read (Elt F) g12) (arg13.view.read (Elt F) g13) (arg14.view.read (Elt F) g14) (arg15.view.read (Elt F) g15) (arg16.view.read (Elt F) g16) (arg17.view.read (Elt F) g17) (arg18.view.read (Elt F) g18) (arg19.view.read (Elt F) g19) (arg20.view.read (Elt F) g20))
          ∗ (∃ f, own c arg22 f) ∗ (∃ f, own c arg23 f) ∗ (∃ f, own c arg24 f)) := by
  rw [Gen.cc0__seg_kernel_eq_skeleton]
  unfold Gen.cc0__seg_kernel_skel holds own
  iintro ⟨H1, H2, H3, H4, H5, H6, H7, H8, H9, H10, H11, H12, H13, H14, H15, H16, H17, H18, H19, H20, H21, H22, H23, H24⟩
  sl_exec (disch := first | (refine chk1_congr ?_ ?_ h1; exact hlo _; exact hhi _) | (refine chk4_congr ?_ ?_ h4; exact hplo _; exact hphi _))
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]
  · iexists _
    isplitl [H21]; · iexact H21
    ipureintro
    have e1 := plane_read arg18.view g18 Gen.shapeCasts_S32x128_S32x128 Gen.inb_S32x128_S32x128_0_0
    have e3 := plane_read arg19.view g19 Gen.shapeCasts_S32x128_S32x128 Gen.inb_S32x128_S32x128_0_0
    have e5 := plane_read arg20.view g20 Gen.shapeCasts_S32x128_S32x128 Gen.inb_S32x128_S32x128_0_0
    refine (out_read _ _ arg22.view _ arg23.view _ arg24.view _ arg21.view _).trans ?_
    refine outBlk_congr e3 e5
      (both_read lo hi plo phi h1 h4 _ _ arg22.view _ _ _ (hlo _) (hhi _) (hplo _) (hphi _) _ _ (coefS_congr e1 e3 e5 _ _ _ _) (coefP_congr e1 e3 e5 _ _ _ _ _) (zero_read _ _) hL9 hL25)
      (both_read lo hi plo phi h1 h4 _ _ arg23.view _ _ _ (hlo _) (hhi _) (hplo _) (hphi _) _ _ (funext fun q => congrArg (scaled _) (congrFun (coefS_congr e1 e3 e5 _ _ _ _) q)) (funext fun q => congrArg (scaled _) (congrFun (coefP_congr e1 e3 e5 _ _ _ _ _) q)) (zero_read _ _) hL11 hL27)
      (both_read lo hi plo phi h1 h4 _ _ arg24.view _ _ _ (hlo _) (hhi _) (hplo _) (hphi _) _ _ (funext fun q => congrArg (scaled _) (congrFun (coefS_congr e1 e3 e5 _ _ _ _) q)) (funext fun q => congrArg (scaled _) (congrFun (coefP_congr e1 e3 e5 _ _ _ _ _) q)) (zero_read _ _) hL13 hL29)
  isplitl [H22]; · iexists _; iexact H22
  isplitl [H23]; · iexists _; iexact H23
  iexists _; iexact H24

end Cert.Proof.KernelIdeal

end
-- ==== Proof.Blocks.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.LoopRemainder
public import Idealize.ShloMosaic.Lib.WritesUnit
public import Idealize.ShloMosaic.Lib.ValueLayout
public import Idealize.ShloMosaic.Lib.ValueIdx
public import proofs.«01_k».proof.Proof.Step
public import Idealize.ShloMosaic.Adequacy
public import Idealize.ShloMosaic.Init

@[expose] public section

set_option maxRecDepth 16384

noncomputable section

namespace Cert.Proof.KernelIdeal

open Cert.KernelIdeal
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (m : (ℓ : Loc nD τ sig) → Buf (Elt F) ℓ) (ρ : Dev nD → PrngReg)

open Cert.KernelIdeal.Gen (V V0 iblk bigSep_W0 scopedRest0_eq bodyAt0 launch0)

/-! ## The windows that hold a whole array -/

/-- A block of one axis at index zero, as large as the array, is the array. -/
theorem idx1_zero {n : ℕ} (e j : (⟨1, ![n]⟩ : Shape).Idx) (x : ℕ) (hx : x = 0) (h : (e 0).val = x * n + 1 * (j 0).val) : e = j := by
  funext a; apply Fin.ext
  match a with
  | ⟨0, _⟩ => show (e 0).val = (j 0).val; rw [h, hx]; omega

/-- A block of two axes at index zero, as large as the array, is the array. -/
theorem idx2_zero {n k : ℕ} (e j : (⟨2, ![n, k]⟩ : Shape).Idx) (x y : ℕ) (hx : x = 0) (hy : y = 0)
    (h0 : (e 0).val = x * n + 1 * (j 0).val) (h1 : (e 1).val = y * k + 1 * (j 1).val) : e = j := by
  funext a; apply Fin.ext
  match a with
  | ⟨0, _⟩ => show (e 0).val = (j 0).val; rw [h0, hx]; omega
  | ⟨1, _⟩ => show (e 1).val = (j 1).val; rw [h1, hy]; omega

/-- Window 0 is all of its array at every step. -/
theorem whole0 (c : Dev nD) (t : Fin cfg0.N) : iblk m c 0 t = V m c main_call0_v69 := by
  funext j
  show V m c main_call0_v69 (((cfg0.win 0).blk t).view.emb j) = V m c main_call0_v69 j
  exact congrArg (V m c main_call0_v69) (idx1_zero _ j _ rfl rfl)
/-- Window 1 is all of its array at every step. -/
theorem whole1 (c : Dev nD) (t : Fin cfg0.N) : iblk m c 1 t = V m c main_call0_v155 := by
  funext j
  show V m c main_call0_v155 (((cfg0.win 1).blk t).view.emb j) = V m c main_call0_v155 j
  exact congrArg (V m c main_call0_v155) (idx1_zero _ j _ rfl rfl)
/-- Window 2 is all of its array at every step. -/
theorem whole2 (c : Dev nD) (t : Fin cfg0.N) : iblk m c 2 t = V m c main_call0_v76 := by
  funext j
  show V m c main_call0_v76 (((cfg0.win 2).blk t).view.emb j) = V m c main_call0_v76 j
  exact congrArg (V m c main_call0_v76) (idx1_zero _ j _ rfl rfl)
/-- Window 3 is all of its array at every step. -/
theorem whole3 (c : Dev nD) (t : Fin cfg0.N) : iblk m c 3 t = V m c main_call0_v91 := by
  funext j
  show V m c main_call0_v91 (((cfg0.win 3).blk t).view.emb j) = V m c main_call0_v91 j
  exact congrArg (V m c main_call0_v91) (idx1_zero _ j _ rfl rfl)
/-- Window 4 is all of its array at every step. -/
theorem whole4 (c : Dev nD) (t : Fin cfg0.N) : iblk m c 4 t = V m c main_call0_v93 := by
  funext j
  show V m c main_call0_v93 (((cfg0.win 4).blk t).view.emb j) = V m c main_call0_v93 j
  exact congrArg (V m c main_call0_v93) (idx1_zero _ j _ rfl rfl)
/-- Window 5 is all of its array at every step. -/
theorem whole5 (c : Dev nD) (t : Fin cfg0.N) : iblk m c 5 t = V m c main_call0_v96 := by
  funext j
  show V m c main_call0_v96 (((cfg0.win 5).blk t).view.emb j) = V m c main_call0_v96 j
  exact congrArg (V m c main_call0_v96) (idx1_zero _ j _ rfl rfl)
/-- Window 6 is all of its array at every step. -/
theorem whole6 (c : Dev nD) (t : Fin cfg0.N) : iblk m c 6 t = V m c main_call0_v85 := by
  funext j
  show V m c main_call0_v85 (((cfg0.win 6).blk t).view.emb j) = V m c main_call0_v85 j
  exact congrArg (V m c main_call0_v85) (idx1_zero _ j _ rfl rfl)
/-- Window 7 is all of its array at every step. -/
theorem whole7 (c : Dev nD) (t : Fin cfg0.N) : iblk m c 7 t = V m c main_call0_v87 := by
  funext j
  show V m c main_call0_v87 (((cfg0.win 7).blk t).view.emb j) = V m c main_call0_v87 j
  exact congrArg (V m c main_call0_v87) (idx1_zero _ j _ rfl rfl)
/-- Window 8 is all of its array at every step. -/
theorem whole8 (c : Dev nD) (t : Fin cfg0.N) : iblk m c 8 t = V m c main_call0_v89 := by
  funext j
  show V m c main_call0_v89 (((cfg0.win 8).blk t).view.emb j) = V m c main_call0_v89 j
  exact congrArg (V m c main_call0_v89) (idx1_zero _ j _ rfl rfl)
/-- Window 9 is all of its array at every step. -/
theorem whole9 (c : Dev nD) (t : Fin cfg0.N) : iblk m c 9 t = V m c main_call0_v162 := by
  funext j
  show V m c main_call0_v162 (((cfg0.win 9).blk t).view.emb j) = V m c main_call0_v162 j
  exact congrArg (V m c main_call0_v162) (idx1_zero _ j _ rfl rfl)
/-- Window 10 is all of its array at every step. -/
theorem whole10 (c : Dev nD) (t : Fin cfg0.N) : iblk m c 10 t = V m c main_call0_v187 := by
  funext j
  show V m c main_call0_v187 (((cfg0.win 10).blk t).view.emb j) = V m c main_call0_v187 j
  exact congrArg (V m c main_call0_v187) (idx1_zero _ j _ rfl rfl)
/-- Window 11 is all of its array at every step. -/
theorem whole11 (c : Dev nD) (t : Fin cfg0.N) : iblk m c 11 t = V m c main_call0_v189 := by
  funext j
  show V m c main_call0_v189 (((cfg0.win 11).blk t).view.emb j) = V m c main_call0_v189 j
  exact congrArg (V m c main_call0_v189) (idx1_zero _ j _ rfl rfl)
/-- Window 12 is all of its array at every step. -/
theorem whole12 (c : Dev nD) (t : Fin cfg0.N) : iblk m c 12 t = V m c main_call0_v192 := by
  funext j
  show V m c main_call0_v192 (((cfg0.win 12).blk t).view.emb j) = V m c main_call0_v192 j
  exact congrArg (V m c main_call0_v192) (idx1_zero _ j _ rfl rfl)
/-- Window 13 is all of its array at every step. -/
theorem whole13 (c : Dev nD) (t : Fin cfg0.N) : iblk m c 13 t = V m c main_call0_v181 := by
  funext j
  show V m c main_call0_v181 (((cfg0.win 13).blk t).view.emb j) = V m c main_call0_v181 j
  exact congrArg (V m c main_call0_v181) (idx1_zero _ j _ rfl rfl)
/-- Window 14 is all of its array at every step. -/
theorem whole14 (c : Dev nD) (t : Fin cfg0.N) : iblk m c 14 t = V m c main_call0_v185 := by
  funext j
  show V m c main_call0_v185 (((cfg0.win 14).blk t).view.emb j) = V m c main_call0_v185 j
  exact congrArg (V m c main_call0_v185) (idx1_zero _ j _ rfl rfl)
/-- Window 15 is all of its array at every step. -/
theorem whole15 (c : Dev nD) (t : Fin cfg0.N) : iblk m c 15 t = V m c main_call0_v175 := by
  funext j
  show V m c main_call0_v175 (((cfg0.win 15).blk t).view.emb j) = V m c main_call0_v175 j
  exact congrArg (V m c main_call0_v175) (idx1_zero _ j _ rfl rfl)
/-- Window 16 is all of its array at every step. -/
theorem whole16 (c : Dev nD) (t : Fin cfg0.N) : iblk m c 16 t = V m c main_call0_v177 := by
  funext j
  show V m c main_call0_v177 (((cfg0.win 16).blk t).view.emb j) = V m c main_call0_v177 j
  exact congrArg (V m c main_call0_v177) (idx1_zero _ j _ rfl rfl)
/-- Window 17 is all of its array at every step. -/
theorem whole17 (c : Dev nD) (t : Fin cfg0.N) : iblk m c 17 t = V m c main_call0_v10 := by
  funext j
  show V m c main_call0_v10 (((cfg0.win 17).blk t).view.emb j) = V m c main_call0_v10 j
  exact congrArg (V m c main_call0_v10) (idx2_zero _ j _ _ rfl rfl rfl rfl)
/-- Window 18 is all of its array at every step. -/
theorem whole18 (c : Dev nD) (t : Fin cfg0.N) : iblk m c 18 t = V m c main_call0_v2 := by
  funext j
  show V m c main_call0_v2 (((cfg0.win 18).blk t).view.emb j) = V m c main_call0_v2 j
  exact congrArg (V m c main_call0_v2) (idx2_zero _ j _ _ rfl rfl rfl rfl)
/-- Window 19 is all of its array at every step. -/
theorem whole19 (c : Dev nD) (t : Fin cfg0.N) : iblk m c 19 t = V m c main_call0_v5 := by
  funext j
  show V m c main_call0_v5 (((cfg0.win 19).blk t).view.emb j) = V m c main_call0_v5 j
  exact congrArg (V m c main_call0_v5) (idx2_zero _ j _ _ rfl rfl rfl rfl)

/-! ## What the tables must satisfy, and the block of each step -/

/-- The facts of the integer tables under which every access of the kernel is in range: the two loops of step `b` stay inside
    the tables, and every slot names one of the sixteen planes. -/
structure Tables (c : Dev nD) : Prop where
  chk1 : ∀ b : Fin 128, k0_chk1 ((V m c main_call0_v69 : S129.Idx → BitVec 32) (ix1 b.castSucc)) ((V m c main_call0_v69 : S129.Idx → BitVec 32) (ix1 b.succ))
  chk4 : ∀ b : Fin 128, k0_chk4 ((V m c main_call0_v155 : S129.Idx → BitVec 32) (ix1 b.castSucc)) ((V m c main_call0_v155 : S129.Idx → BitVec 32) (ix1 b.succ))
  slotS : ∀ q, ((V m c main_call0_v76 : S4096.Idx → BitVec 32) q).toNat < 16
  slotP : ∀ q, ((V m c main_call0_v162 : S2048.Idx → BitVec 32) q).toNat < 16

variable (ht : ∀ c, Tables m c)

/-- The block that step `b` stores, from the arrays the host code has prepared. -/
def stepBlk (c : Dev nD) (b : Fin 128) : FVec F S16x2x32x128 .f32 :=
  blockOf (F := F) _ _ _ _ ((ht c).chk1 b) ((ht c).chk4 b)
    (V m c main_call0_v76) (V m c main_call0_v91) (V m c main_call0_v93) (V m c main_call0_v96) (V m c main_call0_v85) (V m c main_call0_v87) (V m c main_call0_v89)
    (V m c main_call0_v162) (V m c main_call0_v187) (V m c main_call0_v189) (V m c main_call0_v192) (V m c main_call0_v181) (V m c main_call0_v185) (V m c main_call0_v175) (V m c main_call0_v177)
    (V m c main_call0_v10) (V m c main_call0_v2) (V m c main_call0_v5)

/-- The step that grid point `t` runs. -/
def stepOf (t : Fin cfg0.N) : Fin 128 := ⟨t.val, lt_of_lt_of_eq t.isLt Gen.N_0⟩

/-- The proof data: each input window keeps its block, the output window holds the step's block. -/
def dats (_ : Fin 1) (c : Dev nD) : Pipeline.Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => stepBlk m ht c (stepOf t)
    | ⟨n + 21, h⟩ => absurd h (Nat.not_lt.2 (Nat.le_add_left _ _))
  Φ _ := Pipeline.ΦA spec0 c
  q _ := fullShare
  owed _ := 0

theorem A_eq (c : Dev nD) (w : Fin cfg0.W) : (dats m ht 0 c).A w = V m c (Pipeline.arrRef spec0 w) := by dsimp only [dats]

theorem before0 (c : Dev nD) (t : Fin cfg0.N) (d) : (dats m ht 0 c).before 0 t d = V m c main_call0_v69 :=
  (Gen.before0_0_of m (dats m ht 0 c) (by dsimp only [dats]) (fun t => by dsimp only [dats]) t d).trans (whole0 m c t)
theorem after0 (c : Dev nD) (t : Fin cfg0.N) : (dats m ht 0 c).after 0 t = V m c main_call0_v69 := by
  dsimp only [dats]; exact whole0 m c t
theorem before1 (c : Dev nD) (t : Fin cfg0.N) (d) : (dats m ht 0 c).before 1 t d = V m c main_call0_v155 :=
  (Gen.before0_1_of m (dats m ht 0 c) (by dsimp only [dats]) (fun t => by dsimp only [dats]) t d).trans (whole1 m c t)
theorem after1 (c : Dev nD) (t : Fin cfg0.N) : (dats m ht 0 c).after 1 t = V m c main_call0_v155 := by
  dsimp only [dats]; exact whole1 m c t
theorem before2 (c : Dev nD) (t : Fin cfg0.N) (d) : (dats m ht 0 c).before 2 t d = V m c main_call0_v76 :=
  (Gen.before0_2_of m (dats m ht 0 c) (by dsimp only [dats]) (fun t => by dsimp only [dats]) t d).trans (whole2 m c t)
theorem after2 (c : Dev nD) (t : Fin cfg0.N) : (dats m ht 0 c).after 2 t = V m c main_call0_v76 := by
  dsimp only [dats]; exact whole2 m c t
theorem before3 (c : Dev nD) (t : Fin cfg0.N) (d) : (dats m ht 0 c).before 3 t d = V m c main_call0_v91 :=
  (Gen.before0_3_of m (dats m ht 0 c) (by dsimp only [dats]) (fun t => by dsimp only [dats]) t d).trans (whole3 m c t)
theorem after3 (c : Dev nD) (t : Fin cfg0.N) : (dats m ht 0 c).after 3 t = V m c main_call0_v91 := by
  dsimp only [dats]; exact whole3 m c t
theorem before4 (c : Dev nD) (t : Fin cfg0.N) (d) : (dats m ht 0 c).before 4 t d = V m c main_call0_v93 :=
  (Gen.before0_4_of m (dats m ht 0 c) (by dsimp only [dats]) (fun t => by dsimp only [dats]) t d).trans (whole4 m c t)
theorem after4 (c : Dev nD) (t : Fin cfg0.N) : (dats m ht 0 c).after 4 t = V m c main_call0_v93 := by
  dsimp only [dats]; exact whole4 m c t
theorem before5 (c : Dev nD) (t : Fin cfg0.N) (d) : (dats m ht 0 c).before 5 t d = V m c main_call0_v96 :=
  (Gen.before0_5_of m (dats m ht 0 c) (by dsimp only [dats]) (fun t => by dsimp only [dats]) t d).trans (whole5 m c t)
theorem after5 (c : Dev nD) (t : Fin cfg0.N) : (dats m ht 0 c).after 5 t = V m c main_call0_v96 := by
  dsimp only [dats]; exact whole5 m c t
theorem before6 (c : Dev nD) (t : Fin cfg0.N) (d) : (dats m ht 0 c).before 6 t d = V m c main_call0_v85 :=
  (Gen.before0_6_of m (dats m ht 0 c) (by dsimp only [dats]) (fun t => by dsimp only [dats]) t d).trans (whole6 m c t)
theorem after6 (c : Dev nD) (t : Fin cfg0.N) : (dats m ht 0 c).after 6 t = V m c main_call0_v85 := by
  dsimp only [dats]; exact whole6 m c t
theorem before7 (c : Dev nD) (t : Fin cfg0.N) (d) : (dats m ht 0 c).before 7 t d = V m c main_call0_v87 :=
  (Gen.before0_7_of m (dats m ht 0 c) (by dsimp only [dats]) (fun t => by dsimp only [dats]) t d).trans (whole7 m c t)
theorem after7 (c : Dev nD) (t : Fin cfg0.N) : (dats m ht 0 c).after 7 t = V m c main_call0_v87 := by
  dsimp only [dats]; exact whole7 m c t
theorem before8 (c : Dev nD) (t : Fin cfg0.N) (d) : (dats m ht 0 c).before 8 t d = V m c main_call0_v89 :=
  (Gen.before0_8_of m (dats m ht 0 c) (by dsimp only [dats]) (fun t => by dsimp only [dats]) t d).trans (whole8 m c t)
theorem after8 (c : Dev nD) (t : Fin cfg0.N) : (dats m ht 0 c).after 8 t = V m c main_call0_v89 := by
  dsimp only [dats]; exact whole8 m c t
theorem before9 (c : Dev nD) (t : Fin cfg0.N) (d) : (dats m ht 0 c).before 9 t d = V m c main_call0_v162 :=
  (Gen.before0_9_of m (dats m ht 0 c) (by dsimp only [dats]) (fun t => by dsimp only [dats]) t d).trans (whole9 m c t)
theorem after9 (c : Dev nD) (t : Fin cfg0.N) : (dats m ht 0 c).after 9 t = V m c main_call0_v162 := by
  dsimp only [dats]; exact whole9 m c t
theorem before10 (c : Dev nD) (t : Fin cfg0.N) (d) : (dats m ht 0 c).before 10 t d = V m c main_call0_v187 :=
  (Gen.before0_10_of m (dats m ht 0 c) (by dsimp only [dats]) (fun t => by dsimp only [dats]) t d).trans (whole10 m c t)
theorem after10 (c : Dev nD) (t : Fin cfg0.N) : (dats m ht 0 c).after 10 t = V m c main_call0_v187 := by
  dsimp only [dats]; exact whole10 m c t
theorem before11 (c : Dev nD) (t : Fin cfg0.N) (d) : (dats m ht 0 c).before 11 t d = V m c main_call0_v189 :=
  (Gen.before0_11_of m (dats m ht 0 c) (by dsimp only [dats]) (fun t => by dsimp only [dats]) t d).trans (whole11 m c t)
theorem after11 (c : Dev nD) (t : Fin cfg0.N) : (dats m ht 0 c).after 11 t = V m c main_call0_v189 := by
  dsimp only [dats]; exact whole11 m c t
theorem before12 (c : Dev nD) (t : Fin cfg0.N) (d) : (dats m ht 0 c).before 12 t d = V m c main_call0_v192 :=
  (Gen.before0_12_of m (dats m ht 0 c) (by dsimp only [dats]) (fun t => by dsimp only [dats]) t d).trans (whole12 m c t)
theorem after12 (c : Dev nD) (t : Fin cfg0.N) : (dats m ht 0 c).after 12 t = V m c main_call0_v192 := by
  dsimp only [dats]; exact whole12 m c t
theorem before13 (c : Dev nD) (t : Fin cfg0.N) (d) : (dats m ht 0 c).before 13 t d = V m c main_call0_v181 :=
  (Gen.before0_13_of m (dats m ht 0 c) (by dsimp only [dats]) (fun t => by dsimp only [dats]) t d).trans (whole13 m c t)
theorem after13 (c : Dev nD) (t : Fin cfg0.N) : (dats m ht 0 c).after 13 t = V m c main_call0_v181 := by
  dsimp only [dats]; exact whole13 m c t
theorem before14 (c : Dev nD) (t : Fin cfg0.N) (d) : (dats m ht 0 c).before 14 t d = V m c main_call0_v185 :=
  (Gen.before0_14_of m (dats m ht 0 c) (by dsimp only [dats]) (fun t => by dsimp only [dats]) t d).trans (whole14 m c t)
theorem after14 (c : Dev nD) (t : Fin cfg0.N) : (dats m ht 0 c).after 14 t = V m c main_call0_v185 := by
  dsimp only [dats]; exact whole14 m c t
theorem before15 (c : Dev nD) (t : Fin cfg0.N) (d) : (dats m ht 0 c).before 15 t d = V m c main_call0_v175 :=
  (Gen.before0_15_of m (dats m ht 0 c) (by dsimp only [dats]) (fun t => by dsimp only [dats]) t d).trans (whole15 m c t)
theorem after15 (c : Dev nD) (t : Fin cfg0.N) : (dats m ht 0 c).after 15 t = V m c main_call0_v175 := by
  dsimp only [dats]; exact whole15 m c t
theorem before16 (c : Dev nD) (t : Fin cfg0.N) (d) : (dats m ht 0 c).before 16 t d = V m c main_call0_v177 :=
  (Gen.before0_16_of m (dats m ht 0 c) (by dsimp only [dats]) (fun t => by dsimp only [dats]) t d).trans (whole16 m c t)
theorem after16 (c : Dev nD) (t : Fin cfg0.N) : (dats m ht 0 c).after 16 t = V m c main_call0_v177 := by
  dsimp only [dats]; exact whole16 m c t
theorem before17 (c : Dev nD) (t : Fin cfg0.N) (d) : (dats m ht 0 c).before 17 t d = V m c main_call0_v10 :=
  (Gen.before0_17_of m (dats m ht 0 c) (by dsimp only [dats]) (fun t => by dsimp only [dats]) t d).trans (whole17 m c t)
theorem after17 (c : Dev nD) (t : Fin cfg0.N) : (dats m ht 0 c).after 17 t = V m c main_call0_v10 := by
  dsimp only [dats]; exact whole17 m c t
theorem before18 (c : Dev nD) (t : Fin cfg0.N) (d) : (dats m ht 0 c).before 18 t d = V m c main_call0_v2 :=
  (Gen.before0_18_of m (dats m ht 0 c) (by dsimp only [dats]) (fun t => by dsimp only [dats]) t d).trans (whole18 m c t)
theorem after18 (c : Dev nD) (t : Fin cfg0.N) : (dats m ht 0 c).after 18 t = V m c main_call0_v2 := by
  dsimp only [dats]; exact whole18 m c t
theorem before19 (c : Dev nD) (t : Fin cfg0.N) (d) : (dats m ht 0 c).before 19 t d = V m c main_call0_v5 :=
  (Gen.before0_19_of m (dats m ht 0 c) (by dsimp only [dats]) (fun t => by dsimp only [dats]) t d).trans (whole19 m c t)
theorem after19 (c : Dev nD) (t : Fin cfg0.N) : (dats m ht 0 c).after 19 t = V m c main_call0_v5 := by
  dsimp only [dats]; exact whole19 m c t

theorem after20 (c : Dev nD) (t : Fin cfg0.N) : (dats m ht 0 c).after 20 t = stepBlk m ht c (stepOf t) := by
  dsimp only [dats]

theorem off_val (t : Fin cfg0.N) : ((grid0.coords t) 0).val = t.val := by
  revert t; decide +kernel

theorem off1_val : ∀ b : Fin 128, ∀ i : grid0.Coords, (i 0).val = b.val → k0_off1 i 0 = b.castSucc.val ∧ k0_off2 i 0 = b.succ.val
    ∧ k0_off9 i 0 = b.castSucc.val ∧ k0_off10 i 0 = b.succ.val := by
  intro b i h
  unfold k0_off1 k0_off2 k0_off9 k0_off10
  simp only [h]
  clear h; revert b; decide +kernel

/-- What the body is called with at grid point `t`. -/
def bodyPre (c : Dev nD) (t : Fin cfg0.N) : sProp 𝕄 :=
  iprop((dats m ht 0 c).Φ t.castSucc ∗ (dats m ht 0 c).owesAt () t.castSucc
    ∗ (∃ d, owns (c : Thread nD τ) (Gen.st0_0 t) fullShare ((dats m ht 0 c).before 0 t d))
    ∗ (∃ d, owns (c : Thread nD τ) (Gen.st0_1 t) fullShare ((dats m ht 0 c).before 1 t d))
    ∗ (∃ d, owns (c : Thread nD τ) (Gen.st0_2 t) fullShare ((dats m ht 0 c).before 2 t d))
    ∗ (∃ d, owns (c : Thread nD τ) (Gen.st0_3 t) fullShare ((dats m ht 0 c).before 3 t d))
    ∗ (∃ d, owns (c : Thread nD τ) (Gen.st0_4 t) fullShare ((dats m ht 0 c).before 4 t d))
    ∗ (∃ d, owns (c : Thread nD τ) (Gen.st0_5 t) fullShare ((dats m ht 0 c).before 5 t d))
    ∗ (∃ d, owns (c : Thread nD τ) (Gen.st0_6 t) fullShare ((dats m ht 0 c).before 6 t d))
    ∗ (∃ d, owns (c : Thread nD τ) (Gen.st0_7 t) fullShare ((dats m ht 0 c).before 7 t d))
    ∗ (∃ d, owns (c : Thread nD τ) (Gen.st0_8 t) fullShare ((dats m ht 0 c).before 8 t d))
    ∗ (∃ d, owns (c : Thread nD τ) (Gen.st0_9 t) fullShare ((dats m ht 0 c).before 9 t d))
    ∗ (∃ d, owns (c : Thread nD τ) (Gen.st0_10 t) fullShare ((dats m ht 0 c).before 10 t d))
    ∗ (∃ d, owns (c : Thread nD τ) (Gen.st0_11 t) fullShare ((dats m ht 0 c).before 11 t d))
    ∗ (∃ d, owns (c : Thread nD τ) (Gen.st0_12 t) fullShare ((dats m ht 0 c).before 12 t d))
    ∗ (∃ d, owns (c : Thread nD τ) (Gen.st0_13 t) fullShare ((dats m ht 0 c).before 13 t d))
    ∗ (∃ d, owns (c : Thread nD τ) (Gen.st0_14 t) fullShare ((dats m ht 0 c).before 14 t d))
    ∗ (∃ d, owns (c : Thread nD τ) (Gen.st0_15 t) fullShare ((dats m ht 0 c).before 15 t d))
    ∗ (∃ d, owns (c : Thread nD τ) (Gen.st0_16 t) fullShare ((dats m ht 0 c).before 16 t d))
    ∗ (∃ d, owns (c : Thread nD τ) (Gen.st0_17 t) fullShare ((dats m ht 0 c).before 17 t d))
    ∗ (∃ d, owns (c : Thread nD τ) (Gen.st0_18 t) fullShare ((dats m ht 0 c).before 18 t d))
    ∗ (∃ d, owns (c : Thread nD τ) (Gen.st0_19 t) fullShare ((dats m ht 0 c).before 19 t d))
    ∗ (∃ d, owns (c : Thread nD τ) (Gen.st0_20 t) fullShare ((dats m ht 0 c).before 20 t d)))

/-- What the body gives back at grid point `t`. -/
def bodyPost (c : Dev nD) (t : Fin cfg0.N) : sProp 𝕄 :=
  iprop((dats m ht 0 c).Φ t.succ ∗ (dats m ht 0 c).owesAt () t.succ
    ∗ owns (c : Thread nD τ) (Gen.st0_0 t) fullShare ((dats m ht 0 c).after 0 t)
    ∗ owns (c : Thread nD τ) (Gen.st0_1 t) fullShare ((dats m ht 0 c).after 1 t)
    ∗ owns (c : Thread nD τ) (Gen.st0_2 t) fullShare ((dats m ht 0 c).after 2 t)
    ∗ owns (c : Thread nD τ) (Gen.st0_3 t) fullShare ((dats m ht 0 c).after 3 t)
    ∗ owns (c : Thread nD τ) (Gen.st0_4 t) fullShare ((dats m ht 0 c).after 4 t)
    ∗ owns (c : Thread nD τ) (Gen.st0_5 t) fullShare ((dats m ht 0 c).after 5 t)
    ∗ owns (c : Thread nD τ) (Gen.st0_6 t) fullShare ((dats m ht 0 c).after 6 t)
    ∗ owns (c : Thread nD τ) (Gen.st0_7 t) fullShare ((dats m ht 0 c).after 7 t)
    ∗ owns (c : Thread nD τ) (Gen.st0_8 t) fullShare ((dats m ht 0 c).after 8 t)
    ∗ owns (c : Thread nD τ) (Gen.st0_9 t) fullShare ((dats m ht 0 c).after 9 t)
    ∗ owns (c : Thread nD τ) (Gen.st0_10 t) fullShare ((dats m ht 0 c).after 10 t)
    ∗ owns (c : Thread nD τ) (Gen.st0_11 t) fullShare ((dats m ht 0 c).after 11 t)
    ∗ owns (c : Thread nD τ) (Gen.st0_12 t) fullShare ((dats m ht 0 c).after 12 t)
    ∗ owns (c : Thread nD τ) (Gen.st0_13 t) fullShare ((dats m ht 0 c).after 13 t)
    ∗ owns (c : Thread nD τ) (Gen.st0_14 t) fullShare ((dats m ht 0 c).after 14 t)
    ∗ owns (c : Thread nD τ) (Gen.st0_15 t) fullShare ((dats m ht 0 c).after 15 t)
    ∗ owns (c : Thread nD τ) (Gen.st0_16 t) fullShare ((dats m ht 0 c).after 16 t)
    ∗ owns (c : Thread nD τ) (Gen.st0_17 t) fullShare ((dats m ht 0 c).after 17 t)
    ∗ owns (c : Thread nD τ) (Gen.st0_18 t) fullShare ((dats m ht 0 c).after 18 t)
    ∗ owns (c : Thread nD τ) (Gen.st0_19 t) fullShare ((dats m ht 0 c).after 19 t)
    ∗ owns (c : Thread nD τ) (Gen.st0_20 t) fullShare ((dats m ht 0 c).after 20 t))

/-- The block the body stores at `t`, from windows that hold the prepared arrays. -/
theorem block_eq (c : Dev nD) (b : Fin 128)
    (x2 : S4096.Idx → BitVec 32) (e2 : x2 = V m c main_call0_v76)
    (x3 : S4096.Idx → F .f32) (e3 : x3 = V m c main_call0_v91)
    (x4 : S4096.Idx → F .f32) (e4 : x4 = V m c main_call0_v93)
    (x5 : S4096.Idx → F .f32) (e5 : x5 = V m c main_call0_v96)
    (x6 : S4096.Idx → F .f32) (e6 : x6 = V m c main_call0_v85)
    (x7 : S4096.Idx → F .f32) (e7 : x7 = V m c main_call0_v87)
    (x8 : S4096.Idx → F .f32) (e8 : x8 = V m c main_call0_v89)
    (x9 : S2048.Idx → BitVec 32) (e9 : x9 = V m c main_call0_v162)
    (x10 : S2048.Idx → F .f32) (e10 : x10 = V m c main_call0_v187)
    (x11 : S2048.Idx → F .f32) (e11 : x11 = V m c main_call0_v189)
    (x12 : S2048.Idx → F .f32) (e12 : x12 = V m c main_call0_v192)
    (x13 : S2048.Idx → F .f32) (e13 : x13 = V m c main_call0_v181)
    (x14 : S2048.Idx → F .f32) (e14 : x14 = V m c main_call0_v185)
    (x15 : S2048.Idx → F .f32) (e15 : x15 = V m c main_call0_v175)
    (x16 : S2048.Idx → F .f32) (e16 : x16 = V m c main_call0_v177)
    (x17 : S32x128.Idx → F .f32) (e17 : x17 = V m c main_call0_v10)
    (x18 : S32x128.Idx → F .f32) (e18 : x18 = V m c main_call0_v2)
    (x19 : S32x128.Idx → F .f32) (e19 : x19 = V m c main_call0_v5)
    : blockOf _ _ _ _ ((ht c).chk1 b) ((ht c).chk4 b) x2 x3 x4 x5 x6 x7 x8 x9 x10 x11 x12 x13 x14 x15 x16 x17 x18 x19 = stepBlk m ht c b := by
  unfold stepBlk
  rw [e2, e3, e4, e5, e6, e7, e8, e9, e10, e11, e12, e13, e14, e15, e16, e17, e18, e19]

end Cert.Proof.KernelIdeal

end
-- ==== Proof.Region.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.LoopRemainder
public import Idealize.ShloMosaic.Lib.WritesUnit
public import Idealize.ShloMosaic.Lib.ValueLayout
public import Idealize.ShloMosaic.Lib.ValueIdx
public import proofs.«01_k».proof.Proof.Step
public import proofs.«01_k».proof.Proof.Blocks
public import Idealize.ShloMosaic.Adequacy
public import Idealize.ShloMosaic.Init

@[expose] public section

set_option maxRecDepth 16384

noncomputable section

namespace Cert.Proof.KernelIdeal

open Cert.KernelIdeal
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (m : (ℓ : Loc nD τ sig) → Buf (Elt F) ℓ) (ρ : Dev nD → PrngReg)

open Cert.KernelIdeal.Gen (V V0 iblk bigSep_W0 scopedRest0_eq bodyAt0 launch0)

variable (ht : ∀ c, Tables m c)

/-- A whole buffer's memref is held at `f` just as the buffer is. -/
theorem own_whole (c : Dev nD) (r : Ref sig .tc) (f : Buf (Elt F) ((c : Thread nD τ).loc r)) :
    (own c (Memref.whole r) f : sProp 𝕄) = ((c : Thread nD τ).loc r ↦{fullShare} f) := by
  show ((c : Thread nD τ).loc r ↦[(View.whole r).set]{fullShare} f : sProp 𝕄) = _
  rw [View.set_whole]

theorem own_whole_drop (c : Dev nD) (r : Ref sig .tc) (f : Buf (Elt F) ((c : Thread nD τ).loc r)) :
    (own c (Memref.whole r) f : sProp 𝕄) ⊢ ((c : Thread nD τ).loc r ↦{fullShare} f) := by
  rw [own_whole]; first | done | exact .rfl

set_option maxHeartbeats 8000000 in
/-- One grid point: the body, from the windows' blocks, stores the step's block. -/
theorem sound_body (c : Dev nD) (t : Fin cfg0.N) :
    bodyPre m ht c t ⊢ wp Idealize.ShloMosaic.frame (wpE (defs₀ (F := F)) 𝒱₀ (c : Thread nD τ) none) Set.univ (bodyAt0 t) (fun _ => bodyPost m ht c t) := by
  unfold bodyPre bodyPost bodyAt0
  rw [show (dats m ht 0 c).Φ t.succ = (dats m ht 0 c).Φ t.castSucc from rfl,
    show (dats m ht 0 c).owesAt () t.succ = (dats m ht 0 c).owesAt () t.castSucc from rfl,
    show (dats m ht 0 c).Φ t.castSucc = Pipeline.ΦA spec0 c from rfl]
  unfold Pipeline.ΦA owns
  rw [scopedRest0_eq]
  iintro ⟨⟨⟨⟨%S0, HS0⟩, ⟨%S1, HS1⟩, ⟨%S2, HS2⟩⟩, Hg⟩, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%d19, %f19, %hf19, H19⟩, ⟨%d20, %f20, %hf20, H20⟩⟩
  rw [before0] at hf0
  rw [before1] at hf1
  rw [before2] at hf2
  rw [before3] at hf3
  rw [before4] at hf4
  rw [before5] at hf5
  rw [before6] at hf6
  rw [before7] at hf7
  rw [before8] at hf8
  rw [before9] at hf9
  rw [before10] at hf10
  rw [before11] at hf11
  rw [before12] at hf12
  rw [before13] at hf13
  rw [before14] at hf14
  rw [before15] at hf15
  rw [before16] at hf16
  rw [before17] at hf17
  rw [before18] at hf18
  rw [before19] at hf19
  have ho := off1_val (stepOf t) (grid0.coords t) (off_val t)
  iapply (wp_wand_r Idealize.ShloMosaic.frame (wpE (defs₀ (F := F)) 𝒱₀ (c : Thread nD τ) none) Set.univ)
  isplitl [H0 H1 H2 H3 H4 H5 H6 H7 H8 H9 H10 H11 H12 H13 H14 H15 H16 H17 H18 H19 H20 HS0 HS1 HS2]
  · iapply (run c (grid0.coords t) ((cfg0.win 0).stage (cfg0.slots t 0)) (Gen.hstage0_0 ((cfg0.slots t 0).cast Gen.nbuf0_0)) ((cfg0.win 1).stage (cfg0.slots t 1)) (Gen.hstage0_1 ((cfg0.slots t 1).cast Gen.nbuf0_1)) ((cfg0.win 2).stage (cfg0.slots t 2)) (Gen.hstage0_2 ((cfg0.slots t 2).cast Gen.nbuf0_2)) ((cfg0.win 3).stage (cfg0.slots t 3)) (Gen.hstage0_3 ((cfg0.slots t 3).cast Gen.nbuf0_3)) ((cfg0.win 4).stage (cfg0.slots t 4)) (Gen.hstage0_4 ((cfg0.slots t 4).cast Gen.nbuf0_4)) ((cfg0.win 5).stage (cfg0.slots t 5)) (Gen.hstage0_5 ((cfg0.slots t 5).cast Gen.nbuf0_5)) ((cfg0.win 6).stage (cfg0.slots t 6)) (Gen.hstage0_6 ((cfg0.slots t 6).cast Gen.nbuf0_6)) ((cfg0.win 7).stage (cfg0.slots t 7)) (Gen.hstage0_7 ((cfg0.slots t 7).cast Gen.nbuf0_7)) ((cfg0.win 8).stage (cfg0.slots t 8)) (Gen.hstage0_8 ((cfg0.slots t 8).cast Gen.nbuf0_8)) ((cfg0.win 9).stage (cfg0.slots t 9)) (Gen.hstage0_9 ((cfg0.slots t 9).cast Gen.nbuf0_9)) ((cfg0.win 10).stage (cfg0.slots t 10)) (Gen.hstage0_10 ((cfg0.slots t 10).cast Gen.nbuf0_10)) ((cfg0.win 11).stage (cfg0.slots t 11)) (Gen.hstage0_11 ((cfg0.slots t 11).cast Gen.nbuf0_11)) ((cfg0.win 12).stage (cfg0.slots t 12)) (Gen.hstage0_12 ((cfg0.slots t 12).cast Gen.nbuf0_12)) ((cfg0.win 13).stage (cfg0.slots t 13)) (Gen.hstage0_13 ((cfg0.slots t 13).cast Gen.nbuf0_13)) ((cfg0.win 14).stage (cfg0.slots t 14)) (Gen.hstage0_14 ((cfg0.slots t 14).cast Gen.nbuf0_14)) ((cfg0.win 15).stage (cfg0.slots t 15)) (Gen.hstage0_15 ((cfg0.slots t 15).cast Gen.nbuf0_15)) ((cfg0.win 16).stage (cfg0.slots t 16)) (Gen.hstage0_16 ((cfg0.slots t 16).cast Gen.nbuf0_16)) ((cfg0.win 17).stage (cfg0.slots t 17)) (Gen.hstage0_17 ((cfg0.slots t 17).cast Gen.nbuf0_17)) ((cfg0.win 18).stage (cfg0.slots t 18)) (Gen.hstage0_18 ((cfg0.slots t 18).cast Gen.nbuf0_18)) ((cfg0.win 19).stage (cfg0.slots t 19)) (Gen.hstage0_19 ((cfg0.slots t 19).cast Gen.nbuf0_19)) ((cfg0.win 20).stage (cfg0.slots t 20)) (Gen.hstage0_20 ((cfg0.slots t 20).cast Gen.nbuf0_20)) (Memref.whole cc0_scratch0) (Memref.isWhole_whole _) (Memref.whole cc0_scratch1) (Memref.isWhole_whole _) (Memref.whole cc0_scratch2) (Memref.isWhole_whole _) f0 f1 f2 f3 f4 f5 f6 f7 f8 f9 f10 f11 f12 f13 f14 f15 f16 f17 f18 f19 f20 S0 S1 S2 _ _ _ _ ((ht c).chk1 (stepOf t)) ((ht c).chk4 (stepOf t))
      (fun j => (word_eq _ _ _ (Gen.k0_off1_inb _) j (stepOf t).castSucc ho.1).trans (congrFun hf0 _))
      (fun j => (word_eq _ _ _ (Gen.k0_off2_inb _) j (stepOf t).succ ho.2.1).trans (congrFun hf0 _))
      (fun j => (word_eq _ _ _ (Gen.k0_off9_inb _) j (stepOf t).castSucc ho.2.2.1).trans (congrFun hf1 _))
      (fun j => (word_eq _ _ _ (Gen.k0_off10_inb _) j (stepOf t).succ ho.2.2.2).trans (congrFun hf1 _))
      (fun q => (congrArg BitVec.toNat (congrFun hf2 q)).trans_lt ((ht c).slotS q))
      (fun q => (congrArg BitVec.toNat (congrFun hf9 q)).trans_lt ((ht c).slotP q)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [HS0]; · rw [own_whole]; iexact HS0
    isplitl [HS1]; · rw [own_whole]; iexact HS1
    rw [own_whole]; iexact HS2
  iintro %_ ⟨H0, H1, H2, H3, H4, H5, H6, H7, H8, H9, H10, H11, H12, H13, H14, H15, H16, H17, H18, H19, ⟨%g, H20, %hg⟩, HS0, HS1, HS2⟩
  isplitl [HS0 HS1 HS2 Hg]
  · isplitl [HS0 HS1 HS2]
    · isplitl [HS0]; · icases HS0 with ⟨%u0, HS0⟩; iexists u0; iapply own_whole_drop; iexact HS0
      isplitl [HS1]; · icases HS1 with ⟨%u1, HS1⟩; iexists u1; iapply own_whole_drop; iexact HS1
      icases HS2 with ⟨%u2, HS2⟩; iexists u2; iapply own_whole_drop; iexact HS2
    iexact Hg
  isplitl [HO]; · iexact HO
  isplitl [H0]
  · iexists f0; isplitr; swap; (· iexact H0); ipureintro; exact hf0.trans (after0 m ht c t).symm
  isplitl [H1]
  · iexists f1; isplitr; swap; (· iexact H1); ipureintro; exact hf1.trans (after1 m ht c t).symm
  isplitl [H2]
  · iexists f2; isplitr; swap; (· iexact H2); ipureintro; exact hf2.trans (after2 m ht c t).symm
  isplitl [H3]
  · iexists f3; isplitr; swap; (· iexact H3); ipureintro; exact hf3.trans (after3 m ht c t).symm
  isplitl [H4]
  · iexists f4; isplitr; swap; (· iexact H4); ipureintro; exact hf4.trans (after4 m ht c t).symm
  isplitl [H5]
  · iexists f5; isplitr; swap; (· iexact H5); ipureintro; exact hf5.trans (after5 m ht c t).symm
  isplitl [H6]
  · iexists f6; isplitr; swap; (· iexact H6); ipureintro; exact hf6.trans (after6 m ht c t).symm
  isplitl [H7]
  · iexists f7; isplitr; swap; (· iexact H7); ipureintro; exact hf7.trans (after7 m ht c t).symm
  isplitl [H8]
  · iexists f8; isplitr; swap; (· iexact H8); ipureintro; exact hf8.trans (after8 m ht c t).symm
  isplitl [H9]
  · iexists f9; isplitr; swap; (· iexact H9); ipureintro; exact hf9.trans (after9 m ht c t).symm
  isplitl [H10]
  · iexists f10; isplitr; swap; (· iexact H10); ipureintro; exact hf10.trans (after10 m ht c t).symm
  isplitl [H11]
  · iexists f11; isplitr; swap; (· iexact H11); ipureintro; exact hf11.trans (after11 m ht c t).symm
  isplitl [H12]
  · iexists f12; isplitr; swap; (· iexact H12); ipureintro; exact hf12.trans (after12 m ht c t).symm
  isplitl [H13]
  · iexists f13; isplitr; swap; (· iexact H13); ipureintro; exact hf13.trans (after13 m ht c t).symm
  isplitl [H14]
  · iexists f14; isplitr; swap; (· iexact H14); ipureintro; exact hf14.trans (after14 m ht c t).symm
  isplitl [H15]
  · iexists f15; isplitr; swap; (· iexact H15); ipureintro; exact hf15.trans (after15 m ht c t).symm
  isplitl [H16]
  · iexists f16; isplitr; swap; (· iexact H16); ipureintro; exact hf16.trans (after16 m ht c t).symm
  isplitl [H17]
  · iexists f17; isplitr; swap; (· iexact H17); ipureintro; exact hf17.trans (after17 m ht c t).symm
  isplitl [H18]
  · iexists f18; isplitr; swap; (· iexact H18); ipureintro; exact hf18.trans (after18 m ht c t).symm
  isplitl [H19]
  · iexists f19; isplitr; swap; (· iexact H19); ipureintro; exact hf19.trans (after19 m ht c t).symm
  iexists g; isplitr; swap; (· iexact H20)
  ipureintro; exact hg.trans ((block_eq m ht c (stepOf t) _ hf2 _ hf3 _ hf4 _ hf5 _ hf6 _ hf7 _ hf8 _ hf9 _ hf10 _ hf11 _ hf12 _ hf13 _ hf14 _ hf15 _ hf16 _ hf17 _ hf18 _ hf19).trans (after20 m ht c t).symm)

/-- The row of the body table at a point is the body of that point. -/
theorem defs₀_row (t : Fin cfg0.N) : defs₀ (F := F) .tc cfg0.body (cfg0.bodyArgs t (cfg0.slots t)) = bodyAt0 t := by
  unfold defs₀; rw [Defs.onTc_tc]

/-- The obligation of the pipeline's body at every point. -/
theorem body_obligation (c : Dev nD) : Pipeline.BodyObligation (dats m ht 0 c) (defs₀ (F := F)) 𝒱₀ () Set.univ := fun t => by
  rw [bigSep_W0, bigSep_W0, defs₀_row]
  exact triple_restated (sound_body m ht c t) rfl .rfl fun _ => .rfl

set_option backward.isDefEq.respectTransparency.types false in
/-- The launch: every execution of the program ends, each window's array holds what the steps wrote, every other buffer what
    the host code left there, and every counter is zero. -/
theorem run_main :
    θ_run defs (onTc (τ := τ) (main (F := F))) (s₀ m ρ)
      (fun r => Pipeline.FramePost cfgs (dats m ht) 0 (Pipeline.afterTail₀ cfgs (dats m ht) 0 (V0 m) [Gen.hostOps1]) r ∧ r.2.sem = fun _ => 0) :=
  Pipeline.θ_run_frame_around (Q' := _) cfgs (dats m ht) (0 : Fin 1) launch0 defs₀ 𝒱₀ m ρ main
    (hbody := fun c => (body_obligation m ht c).loose) (hshare := fun c => (dats m ht 0 c).share_full fun _ => rfl)
    (howed := fun _ _ => rfl) (V₀ := V0 m) (opss := [Gen.hostOps1]) Gen.sfx_sub Gen.sfx_fresh Gen.sfx_keeps (Gen.hmain m 𝒱₀)
    (hA := A_eq m ht) (hΦ := fun _ _ => rfl)

include ht in
/-- The arguments end as they were launched, and every counter is zero. -/
theorem quiet :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
    ⟨((h.1 c).2 main_arg0 (Pipeline.mem_restRefs_of main_arg0 (by decide) (by decide))).trans (Gen.W_main_arg0 m (dats m ht) c),
     ((h.1 c).2 main_arg1 (Pipeline.mem_restRefs_of main_arg1 (by decide) (by decide))).trans (Gen.W_main_arg1 m (dats m ht) c),
     ((h.1 c).2 main_arg2 (Pipeline.mem_restRefs_of main_arg2 (by decide) (by decide))).trans (Gen.W_main_arg2 m (dats m ht) c),
     ((h.1 c).2 main_arg3 (Pipeline.mem_restRefs_of main_arg3 (by decide) (by decide))).trans (Gen.W_main_arg3 m (dats m ht) c),
     ((h.1 c).2 main_arg4 (Pipeline.mem_restRefs_of main_arg4 (by decide) (by decide))).trans (Gen.W_main_arg4 m (dats m ht) c)⟩, h.2⟩)
    (run_main m ρ ht)

end Cert.Proof.KernelIdeal

end
-- ==== Proof.Grouping.lean ====
module

public import Idealize.ShloMosaic.Lib.SortFacts
public import Idealize.ShloMosaic.Lib.ValueIdx
public import Idealize.ShloMosaic.Lib.Pipeline.Value
public import Idealize.ShloMosaic.Lib.Routing.Ops
public import Idealize.ShloMosaic.Lib.Routing.OpsSet
public import Idealize.ShloMosaic.Lib.Routing.OpsPair
public import Idealize.ShloMosaic.Lib.Routing.OpsOne
public import Idealize.ShloMosaic.Lib.Routing.OpsSearch
public import Idealize.ShloMosaic.Lib.Routing.Words
public import Idealize.ShloMosaic.Lib.LoopRemainder

@[expose] public section

noncomputable section

namespace Cert.Proof.Grouping

open Idealize.ShloMosaic Idealize.ShloMosaic.ValueIdx Idealize.ShloMosaic.Routing
open Idealize.ShloMosaic.StableHlo.Predicate (toInt_ofNat_small)
open Idealize.ShloMosaic.WordCmp

/-! ## The integer steps of the host code, for any length -/

/-- A constant at every place. -/
def filled (s : Shape) (h : shape0.BroadcastsInDim s (![] : Fin 0 → Fin s.rank)) (w : BitVec 32) : IVec s 32 :=
  broadcastInDim s ![] h (constantI shape0 32 w)

theorem filled_apply (s : Shape) (h : shape0.BroadcastsInDim s (![] : Fin 0 → Fin s.rank)) (w : BitVec 32) (i : s.Idx) : filled s h w i = w := by
  unfold filled; rw [bc0]; rfl

section Steps

variable {n N M : ℕ} (hb : shape0.BroadcastsInDim (shape1 n) (![] : Fin 0 → Fin (shape1 n).rank))
  (hc : (shape1 n).BroadcastsInDim (shape2 n 1) (![0] : Fin 1 → Fin (shape2 n 1).rank))

/-- The order in which a stable sort by `x` takes the places. -/
def order (cmp : BitVec 32 × BitVec 32 → BitVec 32 × BitVec 32 → BitVec 1) (x : IVec (shape1 n) 32) : IVec (shape1 n) 32 :=
  (Host.sort2 (shape1 n) 0 cmp x (iotaInDim (shape1 n) 32 0)).2

/-- The column of indices of a take or a scatter: a negative index counts from the end, which is at `k`. -/
def column (k : BitVec 32) (x : IVec (shape1 n) 32) : IVec (shape2 n 1) 32 :=
  broadcastInDim (shape2 n 1) ![0] hc (select (cmpi .slt x (filled _ hb 0#32)) (addi x (filled _ hb k)) x)

/-- How often each of the first `N` numbers occurs, negative ones counted as zero. -/
def counts (hN : shape0.BroadcastsInDim (shape1 N) (![] : Fin 0 → Fin (shape1 N).rank))
    (d : ScatterDims (shape1 N) (shape2 n 1) (shape1 n)) (k : BitVec 32) (x : IVec (shape1 n) 32) : IVec (shape1 N) 32 :=
  Host.scatter d IntOp.addi (filled _ hN 0#32) (column hb hc k (maxsi (filled _ hb 0#32) x)) (filled _ hb 1#32)

/-- The running sums of `x` with a zero in front. -/
def sums (h1 : shape0.BroadcastsInDim (shape1 1) (![] : Fin 0 → Fin (shape1 1).rank)) (h0 : shape0.BroadcastsInDim shape0 (![] : Fin 0 → Fin shape0.rank))
    (Nm1 : ℕ) (hw : (shape1 N).ReduceWindows (![N] : Fin 1 → Nat) ![1] ![Nm1] ![0] (shape1 N)) (hu : 0 < shape0.numel)
    (hcat : Shape.Concatenates [shape1 1, shape1 N] (shape1 M) 0) (x : IVec (shape1 N) 32) : IVec (shape1 M) 32 :=
  concatenate (shape1 M) 0 [⟨shape1 1, filled _ h1 0#32⟩, ⟨shape1 N, Host.reduceWindow IntOp.addi ![N] ![1] ![Nm1] ![0] x (filled shape0 h0 0#32) hw hu⟩] hcat

end Steps

/-! ## What the steps compute -/

section Facts

variable {n N M : ℕ} {hb : shape0.BroadcastsInDim (shape1 n) (![] : Fin 0 → Fin (shape1 n).rank)}
  {hc : (shape1 n).BroadcastsInDim (shape2 n 1) (![0] : Fin 1 → Fin (shape2 n 1).rank)}

/-- The order of a sort is a permutation of the places, along which the sorted words never fall. -/
theorem order_spec (cmp : BitVec 32 × BitVec 32 → BitVec 32 × BitVec 32 → BitVec 1) (hcmp : ∀ l r, cmp l r = IntOp.cmpi .slt l.1 r.1)
    (x : IVec (shape1 n) 32) :
    ∃ σ : Equiv.Perm (Fin n), (∀ p, order cmp x (ix1 p) = BitVec.ofNat 32 (σ p).val)
      ∧ ∀ p q, p < q → ¬ (x (ix1 (σ q))).toInt < (x (ix1 (σ p))).toInt := by
  set R : Fin n → Fin n → Bool := fun k k' => (x (ix1 k)).slt (x (ix1 k')) with hR
  have hbij : Function.Bijective (sortedFrom R) := ⟨sortedFrom_injective R, sortedFrom_surjective R⟩
  refine ⟨Equiv.ofBijective _ hbij, fun p => ?_, fun p q hpq => ?_⟩
  · have e : (fun k k' : Fin n => cmp (x (ix1 k), iotaInDim (shape1 n) 32 0 (ix1 k)) (x (ix1 k'), iotaInDim (shape1 n) 32 0 (ix1 k')) == 1#1) = R := by
      funext k k'
      rw [hcmp, hR]
      show (BitVec.ofBool ((x (ix1 k)).slt (x (ix1 k'))) == 1#1) = (x (ix1 k)).slt (x (ix1 k'))
      cases (x (ix1 k)).slt (x (ix1 k')) <;> rfl
    have hd : (0 : ℕ) < (shape1 n).rank := Nat.one_pos
    unfold order Host.sort2
    rw [dif_pos hd]
    have ha : ∀ (j : (shape1 n).Idx) (c : Fin n), j.along (⟨0, hd⟩ : Fin (shape1 n).rank) c = ix1 c := fun j c =>
      (Shape.Idx.along_rank1 j c).trans (ofFin_eq_ix1 c)
    have key : ∀ (al : Fin n → (shape1 n).Idx), (∀ c, al c = ix1 c) →
        iotaInDim (shape1 n) 32 0 (al (sortedFrom (fun k k' : Fin n => cmp (x (al k), iotaInDim (shape1 n) 32 0 (al k)) (x (al k'), iotaInDim (shape1 n) 32 0 (al k')) == 1#1) p))
          = BitVec.ofNat 32 (sortedFrom R p).val := by
      intro al hal
      obtain rfl : al = ix1 := funext hal
      rw [e, iota1_ap]
    exact key (fun c => (ix1 p).along (⟨0, hd⟩ : Fin (shape1 n).rank) c) (ha _)
  · have h := sortedFrom_noInversion R R (fun a b h => by
        rw [hR] at h ⊢; simp only [BitVec.slt, decide_eq_true_eq, decide_eq_false_iff_not] at h ⊢; omega) (fun _ _ h => h)
      (fun a b c h1 h2 => by rw [hR] at h1 h2 ⊢; simp only [BitVec.slt, decide_eq_false_iff_not] at h1 h2 ⊢; omega) p q hpq
    rw [hR] at h
    simp only [BitVec.slt, decide_eq_false_iff_not] at h
    exact h

/-- A column at a place whose word is not negative is that word. -/
theorem column_apply (k : BitVec 32) (x : IVec (shape1 n) 32) (p : Fin n) (h : 0 ≤ (x (ix1 p)).toInt) :
    column hb hc k x (ix2 p (0 : Fin 1)) = x (ix1 p) := by
  unfold column
  rw [bcCol]
  have hs : IntOp.cmpi .slt (x (ix1 p)) 0#32 = 0#1 := by
    show BitVec.ofBool ((x (ix1 p)).slt 0#32) = 0#1
    have : (x (ix1 p)).slt 0#32 = false := by simp only [BitVec.slt, decide_eq_false_iff_not, BitVec.toInt_zero]; omega
    rw [this]; rfl
  show Scalar.select (IntOp.cmpi .slt (x (ix1 p)) (filled _ hb 0#32 (ix1 p))) _ _ = _
  rw [filled_apply, hs]
  rfl

/-- The number that a word is counted under: itself, or zero where it is negative. -/
def clip (w : BitVec 32) : ℕ := w.toInt.toNat

theorem maxsi_clip (w : BitVec 32) : (IntOp.maxsi 0#32 w).toInt = (clip w : ℤ) := by
  unfold IntOp.maxsi clip
  by_cases h : w.slt 0#32 = true
  · rw [if_pos h]; simp only [BitVec.slt, decide_eq_true_eq, BitVec.toInt_zero] at h; rw [BitVec.toInt_zero]; omega
  · rw [if_neg h]; simp only [BitVec.slt, decide_eq_true_eq, BitVec.toInt_zero] at h; omega

/-- An update of a scatter of scalars lands where its index says. -/
theorem lands (d : ScatterDims (shape1 N) (shape2 n 1) (shape1 n)) (hiw : d.insertedWindowDims = [0])
    (hsd : d.scatterDimsToOperandDims = [0]) (hivd : d.indexVectorDim = 1) (idx : IVec (shape2 n 1) 32) (i : Fin n) (x : Fin N) :
    d.resultIdx? (ix1 i) idx = some (ix1 x) ↔ (idx (ix2 i (0 : Fin 1))).toInt = (x.val : Int) := by
  have hm : (0 : Fin 1) ∈ d.scatterDimsToOperandDims := by rw [hsd]; exact List.mem_singleton.2 rfl
  have hwin : d.window (ix1 i) 0 = 0 := by
    unfold ScatterDims.window
    rw [dif_neg fun h => (of_decide_eq_true (List.mem_filter.1 h).2) (by rw [hiw]; exact List.mem_singleton.2 rfl)]
  have hsi : d.siIdx (ix1 i) ⟨d.scatterDimsToOperandDims.idxOf 0, List.idxOf_lt_length_iff.2 hm⟩ = ix2 i (0 : Fin 1) := by
    funext b
    apply Fin.ext
    match b with
    | ⟨0, _⟩ =>
      unfold ScatterDims.siIdx
      rw [dif_neg (by rw [hivd]; exact Nat.zero_ne_one)]
      unfold ScatterDims.siCoord
      simp only [Fin.val_cast]
      exact (fun X : Fin 1 => by obtain rfl : X = 0 := Subsingleton.elim _ _; rfl : ∀ X : Fin 1, (ix1 i X).val = i.val) _
    | ⟨1, _⟩ =>
      unfold ScatterDims.siIdx
      rw [dif_pos (by rw [hivd])]
      show List.idxOf (0 : Fin 1) d.scatterDimsToOperandDims = 0
      rw [hsd]; simp
  have hstart : d.start (ix1 i) idx 0 = (idx (ix2 i (0 : Fin 1))).toInt := by
    unfold ScatterDims.start
    rw [dif_pos hm, hsi]
  rw [resultIdx?_ix1, hstart, hwin]
  simp

/-- The counts: entry `x` is the number of places whose word is counted under `x`. -/
theorem counts_spec (hN : shape0.BroadcastsInDim (shape1 N) (![] : Fin 0 → Fin (shape1 N).rank))
    (d : ScatterDims (shape1 N) (shape2 n 1) (shape1 n)) (hiw : d.insertedWindowDims = [0])
    (hsd : d.scatterDimsToOperandDims = [0]) (hivd : d.indexVectorDim = 1) (k : BitVec 32) (x : IVec (shape1 n) 32) (b : Fin N) :
    counts hb hc hN d k x (ix1 b) = BitVec.ofNat 32 (Finset.univ.filter fun i : Fin n => clip (x (ix1 i)) = b.val).card := by
  unfold counts
  rw [scatter_at]
  have hcol : ∀ i : Fin n, (column hb hc k (maxsi (filled _ hb 0#32) x) (ix2 i (0 : Fin 1))).toInt = (clip (x (ix1 i)) : ℤ) := fun i => by
    have e : maxsi (filled (shape1 n) hb 0#32) x (ix1 i) = IntOp.maxsi 0#32 (x (ix1 i)) := by
      show IntOp.maxsi (filled (shape1 n) hb 0#32 (ix1 i)) _ = _
      rw [filled_apply]
    rw [column_apply _ _ _ (by rw [e, maxsi_clip]; omega), e, maxsi_clip]
  have hstep : ∀ (a : BitVec 32) (m : Fin (shape1 n).numel),
      (if d.resultIdx? ((shape1 n).rowMajor.symm m) (column hb hc k (maxsi (filled _ hb 0#32) x)) = some (ix1 b)
        then IntOp.addi a (filled (shape1 n) hb 1#32 ((shape1 n).rowMajor.symm m)) else a)
      = IntOp.addi a (BitVec.ofNat 32 (if clip (x (ix1 (m.cast (numel1 n)))) = b.val then 1 else 0)) := fun a m => by
    rw [symm1, filled_apply]
    by_cases h : clip (x (ix1 (m.cast (numel1 n)))) = b.val
    · rw [if_pos ((lands d hiw hsd hivd _ _ _).2 (by rw [hcol, h])), if_pos h]
    · rw [if_neg fun q => h (by have := (lands d hiw hsd hivd _ _ _).1 q; rw [hcol] at this; omega), if_neg h]
      exact (BitVec.add_zero a).symm
  simp only [hstep]
  refine (foldl_addi_ofNat _ (fun m : Fin (shape1 n).numel => BitVec.ofNat 32 (if clip (x (ix1 (m.cast (numel1 n)))) = b.val then 1 else 0))
    (fun m => if clip (x (ix1 (m.cast (numel1 n)))) = b.val then 1 else 0) (fun _ _ => rfl) _ 0 (filled_apply _ _ _ _)).trans ?_
  congr 1
  rw [Nat.zero_add, Finset.card_filter, ← Equiv.sum_comp (finCongr (numel1 n)), ← List.sum_ofFn, List.ofFn_eq_map]
  rfl

/-- The running sums of words that count something. -/
theorem sums_spec (h1 : shape0.BroadcastsInDim (shape1 1) (![] : Fin 0 → Fin (shape1 1).rank)) (h0 : shape0.BroadcastsInDim shape0 (![] : Fin 0 → Fin shape0.rank))
    {Nm1 : ℕ} (hN : Nm1 + 1 = N) (hM : M = N + 1) (hw : (shape1 N).ReduceWindows (![N] : Fin 1 → Nat) ![1] ![Nm1] ![0] (shape1 N)) (hu : 0 < shape0.numel)
    (hcat : Shape.Concatenates [shape1 1, shape1 N] (shape1 M) 0) (x : IVec (shape1 N) 32) (f : ℕ → ℕ) (hx : ∀ i : Fin N, x (ix1 i) = BitVec.ofNat 32 (f i.val))
    (j : Fin M) : sums h1 h0 Nm1 hw hu hcat x (ix1 j) = BitVec.ofNat 32 ((List.range j.val).map f).sum := by
  unfold sums
  rcases Nat.eq_zero_or_pos j.val with hj | hj
  · rw [concatenate_pair_apply_left (t := shape1 M) (s₁ := shape1 1) (s₂ := shape1 N) (0 : Fin 1) _ _ hcat (ix1 j) rfl (ix1 (0 : Fin 1)) (fun b => by
      match b with
      | ⟨0, _⟩ => exact hj.symm), filled_apply, hj]
    rfl
  · have hjl := j.isLt
    have hlt : j.val - 1 < N := by omega
    rw [concatenate_pair_apply_right (t := shape1 M) (s₁ := shape1 1) (s₂ := shape1 N) (0 : Fin 1) _ _ hcat (ix1 j) rfl rfl (ix1 (⟨j.val - 1, hlt⟩ : Fin N)) (fun b h => by
        match b with
        | ⟨0, _⟩ => exact absurd rfl h) (by show j.val - 1 + 1 = j.val; omega)]
    rw [cumsum1 hN x f hx _ (filled_apply _ _ _ _) hw hu]
    rw [Nat.sub_add_cancel hj]

/-- The running sums of the counts: how many words are counted under a number below `j`. -/
theorem sums_counts (h1 : shape0.BroadcastsInDim (shape1 1) (![] : Fin 0 → Fin (shape1 1).rank)) (h0 : shape0.BroadcastsInDim shape0 (![] : Fin 0 → Fin shape0.rank))
    {Nm1 : ℕ} (hN1 : Nm1 + 1 = N) (hM : M = N + 1) (hw : (shape1 N).ReduceWindows (![N] : Fin 1 → Nat) ![1] ![Nm1] ![0] (shape1 N)) (hu : 0 < shape0.numel)
    (hcat : Shape.Concatenates [shape1 1, shape1 N] (shape1 M) 0)
    (hN : shape0.BroadcastsInDim (shape1 N) (![] : Fin 0 → Fin (shape1 N).rank))
    (d : ScatterDims (shape1 N) (shape2 n 1) (shape1 n)) (hiw : d.insertedWindowDims = [0])
    (hsd : d.scatterDimsToOperandDims = [0]) (hivd : d.indexVectorDim = 1) (k : BitVec 32) (x : IVec (shape1 n) 32) (j : Fin M) :
    sums h1 h0 Nm1 hw hu hcat (counts hb hc hN d k x) (ix1 j) = BitVec.ofNat 32 (Finset.univ.filter fun i : Fin n => clip (x (ix1 i)) < j.val).card := by
  rw [sums_spec h1 h0 hN1 hM hw hu hcat _ (fun b => (Finset.univ.filter fun i : Fin n => clip (x (ix1 i)) = b).card)
    (fun i => counts_spec hN d hiw hsd hivd k x i) j]
  congr 1
  generalize j.val = J
  induction J with
  | zero => simp
  | succ J ih =>
    rw [List.range_succ, List.map_append, List.sum_append, ih, List.map_singleton, List.sum_singleton, ← Finset.card_union_of_disjoint]
    · congr 1; ext i; simp only [Finset.mem_union, Finset.mem_filter, Finset.mem_univ, true_and]; omega
    · rw [Finset.disjoint_filter]; intro i _ h1 h2; omega

/-- Taking along an order reads the vector through the order's permutation. -/
theorem take_order {α : Type} (d : GatherDims (shape1 N) (shape2 n 1) (shape1 n)) (hcoll : d.collapsedSliceDims = [0])
    (hob : d.operandBatchingDims = []) (hsim : d.startIndexMap = [0]) (hivd : d.indexVectorDim = 1) (x : (shape1 N).Idx → α) (k : BitVec 32)
    (o : IVec (shape1 n) 32) (p : Fin n) (b : Fin N) (hN : N < 2 ^ 31) (ho : o (ix1 p) = BitVec.ofNat 32 b.val) :
    Host.gather d x (column hb hc k o) (ix1 p) = x (ix1 b) := by
  have hbl := b.isLt
  refine gather_take1 d hcoll hob hsim hivd x _ p b ?_ hN
  rw [column_apply _ _ _ (by rw [ho, toInt_ofNat_small _ (by omega)]; omega), ho]

end Facts

/-! ## Grouping by blocks of sixteen -/

/-- The remainder by sixteen, of any word, names one of sixteen planes. -/
theorem rem16_lt {s : Shape} (hb : shape0.BroadcastsInDim s (![] : Fin 0 → Fin s.rank)) (x : IVec s 32) (i : s.Idx) :
    (pyRem hb x (constantI shape0 32 16#32) i).toNat < 16 := by
  have hg := divGuard_ap (constantI shape0 32 16#32) (b := 16) rfl (by decide) (by decide)
  unfold pyRem
  simp only [select_at, cmpi_at, andi_at, addi_ap, Host.remsi_apply, bc0, constantI_at, hg]
  have hr : IntOp.remsi .host (x i) (BitVec.ofNat 32 16) = (x i).srem 16#32 := by
    unfold IntOp.remsi; rw [if_neg (by rintro (h | ⟨_, h⟩) <;> exact absurd h (by decide))]
  rw [hr]
  have hi : ((x i).srem 16#32).toInt = (x i).toInt.tmod 16 := by rw [BitVec.toInt_srem]; rfl
  have hlo := Int.lt_tmod_of_pos (x i).toInt (b := 16) (by decide)
  have hhi := Int.tmod_lt_of_pos (x i).toInt (b := 16) (by decide)
  generalize (x i).srem 16#32 = r at hi ⊢
  rw [← hi] at hlo hhi
  have hc : r.toInt = if 2 * r.toNat < 2 ^ 32 then (r.toNat : ℤ) else (r.toNat : ℤ) - (2 ^ 32 : ℕ) := BitVec.toInt_eq_toNat_cond r
  have hrl := r.isLt
  have h16 : IntOp.cmpi .slt (BitVec.ofNat 32 16) 0#32 = 0#1 := by decide
  rw [h16]
  by_cases hn : r.toInt < 0
  · have hs : IntOp.cmpi .slt r 0#32 = 1#1 := by
      show BitVec.ofBool (r.slt 0#32) = 1#1
      rw [show r.slt 0#32 = true by simp only [BitVec.slt, decide_eq_true_eq, BitVec.toInt_zero]; exact hn]; rfl
    have hz : IntOp.cmpi .ne r 0#32 = 1#1 := by
      show BitVec.ofBool (r != 0#32) = 1#1
      rw [show (r != 0#32) = true by rw [bne_iff_ne]; rintro rfl; simp at hn]; rfl
    rw [hs, hz]
    show (r + 16#32).toNat < 16
    rw [BitVec.toNat_add]
    split at hc <;> simp only [BitVec.toNat_ofNat] <;> omega
  · have hs : IntOp.cmpi .slt r 0#32 = 0#1 := by
      show BitVec.ofBool (r.slt 0#32) = 0#1
      rw [show r.slt 0#32 = false by simp only [BitVec.slt, decide_eq_false_iff_not, BitVec.toInt_zero]; exact hn]; rfl
    rw [hs]
    show (Scalar.select (0#1 &&& _) _ r).toNat < 16
    rw [BitVec.zero_and]
    show r.toNat < 16
    split at hc <;> omega

/-! ## Bounds of a loop over a stretch -/

/-- How many words are counted under a number below `j`. -/
def below {n : ℕ} (x : IVec (shape1 n) 32) (j : ℕ) : ℕ := (Finset.univ.filter fun i : Fin n => clip (x (ix1 i)) < j).card

theorem below_mono {n : ℕ} (x : IVec (shape1 n) 32) {i j : ℕ} (h : i ≤ j) : below x i ≤ below x j :=
  Finset.card_le_card fun _ hk => by
    simp only [Finset.mem_filter, Finset.mem_univ, true_and] at hk ⊢; exact lt_of_lt_of_le hk h

theorem below_le {n : ℕ} (x : IVec (shape1 n) 32) (j : ℕ) : below x j ≤ n :=
  (Finset.card_le_univ _).trans (by rw [Fintype.card_fin])

/-- The upper bound of a loop that runs over `hi - lo` steps from `lo` is `hi`. -/
theorem upper (lo hi : BitVec 32) : Scalar.addi lo (Scalar.muli (Scalar.divsi (Scalar.subi hi lo) 1#32) 1#32) = hi := by
  rw [Scalar.muli_divsi_one]
  show lo + (hi - lo) = hi
  rw [BitVec.add_comm, BitVec.sub_add_cancel]

theorem trips_nat {A B : ℕ} (hAB : A ≤ B) (hB : B < 2 ^ 31) : Scf.trips (BitVec.ofNat 32 A) (BitVec.ofNat 32 B) 1#32 = B - A := by
  unfold Scf.trips
  rw [toInt_ofNat_small _ (by omega), toInt_ofNat_small _ (by omega), show (1#32 : BitVec 32).toInt = 1 by decide]
  omega

theorem ok_nat {A B : ℕ} (hAB : A ≤ B) (hB : B < 2 ^ 31) : Scf.OK (BitVec.ofNat 32 A) (BitVec.ofNat 32 B) 1#32 := by
  refine ⟨by decide, ?_⟩
  rw [trips_nat hAB hB, toInt_ofNat_small _ (by omega), show (1#32 : BitVec 32).toInt = 1 by decide]
  push_cast [hAB]
  omega

theorem iv_nat (A k : ℕ) (h : A + k < 2 ^ 32) : (Scf.iv (BitVec.ofNat 32 A) 1#32 k).toNat = A + k := by
  unfold Scf.iv
  rw [BitVec.mul_one, BitVec.toNat_add, BitVec.toNat_ofNat, BitVec.toNat_ofNat]
  omega

end Cert.Proof.Grouping

end
-- ==== Proof.HostRead.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.LoopRemainder
public import Idealize.ShloMosaic.Lib.WritesUnit
public import Idealize.ShloMosaic.Lib.ValueLayout
public import Idealize.ShloMosaic.Lib.ValueIdx
public import proofs.«01_k».proof.Proof.Grouping
public import Idealize.ShloMosaic.Lib.StableHlo.RunRead
public import Idealize.ShloMosaic.Adequacy
public import Idealize.ShloMosaic.Init

@[expose] public section

set_option maxRecDepth 16384

noncomputable section

namespace Cert.Proof.KernelIdeal

open Cert.KernelIdeal
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.KernelIdeal.Gen (hostOps0)
open Idealize.ShloMosaic.StableHlo (after upto)
open Cert.Proof.Grouping
open Idealize.ShloMosaic.Routing (shape0 shape1 shape2 shape3 pyDiv pyRem)

/-! ## Reading the host code part by part -/

/-- The buffers that the host code before the launch writes, in the order in which it writes them. -/
def hostWrites : List (Ref sig .tc) := List.ofFn fun i : Fin 349 => ⟨.hbm, ⟨i.val + 5, lt_of_lt_of_le (Nat.add_lt_add_right i.isLt 5) (by decide)⟩, rfl⟩

theorem hostWrites_eq : (hostOps0 (F := F)).map HloOp.writes = hostWrites.map fun w => {Proc.devRef (τ := τ) .tc w} := rfl

/-- The operations `a`, …, `a + n - 1` of the host code. -/
abbrev part (a n : ℕ) : List (HloOp τ sig (Elt F)) := (hostOps0.drop a).take n

/-- A buffer that no operation from the `a`-th on writes. -/
theorem not_written {a : ℕ} (r : Ref sig .tc) (hs : r.space = .hbm) (hk : r.idx.val < a + 5) : r ∉ hostWrites.drop a := by
  intro hm
  obtain ⟨i, hi, e⟩ := List.getElem_of_mem hm
  rw [List.getElem_drop] at e
  unfold hostWrites at e
  rw [List.getElem_ofFn] at e
  subst e
  dsimp only at hk
  omega

/-- What the host code leaves in a buffer. -/
abbrev host (W : Valuation τ sig (Elt F)) (r : Ref sig .tc) := after hostOps0 W (Proc.devRef .tc r)

section Reads
variable (W : Valuation τ sig (Elt F))

/-- A buffer that no operation from the `a`-th on writes holds in the end what it holds before the `a`-th. -/
theorem settled (a : ℕ) (r : Ref sig .tc) (hs : r.space = .hbm) (hk : r.idx.val < a + 5) : upto hostOps0 W a (Proc.devRef .tc r) = host W r := by
  have e : after (hostOps0 (F := F)) W = after (hostOps0.drop a) (upto hostOps0 W a) := by
    unfold upto
    rw [← StableHlo.after_append, List.take_append_drop]
  unfold host
  rw [e]
  exact (StableHlo.after_unwritten (hostWrites.drop a) (by rw [List.map_drop, hostWrites_eq, List.map_drop]) (not_written r hs hk) _).symm

/-- A buffer that no operation after a part writes holds in the end what the part leaves in it. -/
theorem from_part (a n : ℕ) (r : Ref sig .tc) (hs : r.space = .hbm) (hk : r.idx.val < a + n + 5) :
    host W r = after (part a n) (upto hostOps0 W a) (Proc.devRef .tc r) := by
  rw [← settled W (a + n) r hs hk]
  unfold upto part
  rw [← StableHlo.after_append, ← List.take_add]

/-! ### The grid planes -/

/-- Coordinate 0 of the grid points. -/
theorem grid_x : (host W main_call0_v2 : Vec F (shape2 32 128) .f32) =
    shapeCast (shape2 32 128) (shapeCast (shape2 64 64)
      (extractStridedSlice (shape3 64 64 1) ![0, 0, 0] (host W main_arg0 : Vec F (shape3 64 64 2) .f32) Gen.slices_S64x64x2_S64x64x1_0_0_0) Gen.shapeCasts_S64x64x1_S64x64) Gen.shapeCasts_S64x64_S32x128 := by
  refine (from_part W 0 3 main_call0_v2 rfl (by decide)).trans ?_
  rw [← settled W 0 main_arg0 rfl (by decide)]
  generalize upto hostOps0 W 0 = U
  after_reads_simp [StableHlo.TRef.ofBuf_toBuf]
  rfl

/-- Coordinate 1 of the grid points. -/
theorem grid_y : (host W main_call0_v5 : Vec F (shape2 32 128) .f32) =
    shapeCast (shape2 32 128) (shapeCast (shape2 64 64)
      (extractStridedSlice (shape3 64 64 1) ![0, 0, 1] (host W main_arg0 : Vec F (shape3 64 64 2) .f32) Gen.slices_S64x64x2_S64x64x1_0_0_1) Gen.shapeCasts_S64x64x1_S64x64) Gen.shapeCasts_S64x64_S32x128 := by
  refine (from_part W 3 3 main_call0_v5 rfl (by decide)).trans ?_
  rw [← settled W 3 main_arg0 rfl (by decide)]
  generalize upto hostOps0 W 3 = U
  after_reads_simp [StableHlo.TRef.ofBuf_toBuf]
  rfl

/-- The squared length of each grid point, and the softening. -/
theorem grid_sq : (host W main_call0_v10 : Vec F (shape2 32 128) .f32) =
    addf (addf (mulf (host W main_call0_v2 : Vec F (shape2 32 128) .f32) (host W main_call0_v2 : Vec F (shape2 32 128) .f32)) (mulf (host W main_call0_v5 : Vec F (shape2 32 128) .f32) (host W main_call0_v5 : Vec F (shape2 32 128) .f32))) (broadcastInDim (shape2 32 128) ![] Gen.bcast_S_S32x128 (constant (F := F) shape0 .f32 0x358637BD#32)) := by
  refine (from_part W 6 6 main_call0_v10 rfl (by decide)).trans ?_
  rw [← settled W 6 main_call0_v2 rfl (by decide), ← settled W 6 main_call0_v5 rfl (by decide)]
  generalize upto hostOps0 W 6 = U
  after_reads_simp [StableHlo.TRef.ofBuf_toBuf]
  rfl

/-! ### The first family of lenses -/

/-- The list positions in the order of their systems. -/
theorem sis_order0 : (host W main_call0_v11 : IVec (shape1 4096) 32) =
    order comparator_i32_i32_d0 (host W main_arg3 : IVec (shape1 4096) 32) := by
  refine (from_part W 12 3 main_call0_v11 rfl (by decide)).trans ?_
  rw [← settled W 12 main_arg3 rfl (by decide)]
  generalize upto hostOps0 W 12 = U
  after_reads_simp [StableHlo.TRef.ofBuf_toBuf]
  rfl

/-- The systems in that order. -/
theorem sis_sid : (host W main_call0_v18 : IVec (shape1 4096) 32) =
    Host.gather gather_S4096_S4096x1_S4096_n_0_n_n_0_1_1 (host W main_arg3 : IVec (shape1 4096) 32) (column Gen.bcast_S_S4096 Gen.bcast_S4096_S4096x1_0 4096#32 (host W main_call0_v11 : IVec (shape1 4096) 32)) := by
  refine (from_part W 15 9 main_call0_v18 rfl (by decide)).trans ?_
  rw [← settled W 15 main_arg3 rfl (by decide), ← settled W 15 main_call0_v11 rfl (by decide)]
  generalize upto hostOps0 W 15 = U
  after_reads_simp [StableHlo.TRef.ofBuf_toBuf]
  rfl

/-- How many list entries each system has. -/
theorem sis_counts : (host W main_call0_v28 : IVec (shape1 2048) 32) =
    counts Gen.bcast_S_S4096 Gen.bcast_S4096_S4096x1_0 Gen.bcast_S_S2048 scatter_S2048_S4096x1_S4096_n_0_0_1 2048#32 (host W main_arg3 : IVec (shape1 4096) 32) := by
  refine (from_part W 24 17 main_call0_v28 rfl (by decide)).trans ?_
  rw [← settled W 24 main_arg3 rfl (by decide)]
  generalize upto hostOps0 W 24 = U
  after_reads_simp [StableHlo.TRef.ofBuf_toBuf]
  unfold counts column filled
  exact eq_of_heq ((cast_heq _ _).trans (heq_of_eq rfl))

/-- The zero in front of the running sums. -/
theorem sis_off_zero : (host W main_call0_v29 : IVec (shape1 1) 32) =
    filled _ Gen.bcast_S_S1 0#32 := by
  refine (from_part W 41 2 main_call0_v29 rfl (by decide)).trans ?_
  generalize upto hostOps0 W 41 = U
  after_reads_simp [StableHlo.TRef.ofBuf_toBuf]
  rfl

/-- The running sums. -/
theorem sis_off_sum : (host W main_call0_v30 : IVec (shape1 2048) 32) =
    Host.reduceWindow IntOp.addi ![2048] ![1] ![2047] ![0] (host W main_call0_v28 : IVec (shape1 2048) 32) (filled shape0 Gen.bcast_S_S_ 0#32) Gen.reduceWindows_S2048_S2048_w2048s1p2047_0 Gen.h_S_ := by
  refine (from_part W 43 3 main_call0_v30 rfl (by decide)).trans ?_
  rw [← settled W 43 main_call0_v28 rfl (by decide)]
  generalize upto hostOps0 W 43 = U
  after_reads_simp [StableHlo.TRef.ofBuf_toBuf]
  unfold filled
  exact eq_of_heq ((cast_heq _ _).trans (heq_of_eq rfl))

/-- The zero and the running sums, one after the other. -/
theorem sis_off_cat : (host W main_call0_v31 : IVec (shape1 2049) 32) =
    concatenate (shape1 2049) 0 [⟨shape1 1, (host W main_call0_v29 : IVec (shape1 1) 32)⟩, ⟨shape1 2048, (host W main_call0_v30 : IVec (shape1 2048) 32)⟩] Gen.concatenates_S1_S2048_S2049_d0 := by
  refine (from_part W 46 1 main_call0_v31 rfl (by decide)).trans ?_
  rw [← settled W 46 main_call0_v29 rfl (by decide), ← settled W 46 main_call0_v30 rfl (by decide)]
  generalize upto hostOps0 W 46 = U
  after_reads_simp [StableHlo.TRef.ofBuf_toBuf]
  rfl

/-- Where each system's stretch of that order begins. -/
theorem sis_off : (host W main_call0_v31 : IVec (shape1 2049) 32) =
    sums Gen.bcast_S_S1 Gen.bcast_S_S_ 2047 Gen.reduceWindows_S2048_S2048_w2048s1p2047_0 Gen.h_S_ Gen.concatenates_S1_S2048_S2049_d0 (host W main_call0_v28 : IVec (shape1 2048) 32) := by
  rw [sis_off_cat, sis_off_zero, sis_off_sum]
  rfl

/-- The place of each list entry within its system. -/
theorem sis_rank : (host W main_call0_v40 : IVec (shape1 4096) 32) =
    subi (iotaInDim (shape1 4096) 32 0) (Host.gather gather_S2049_S4096x1_S4096_n_0_n_n_0_1_1 (host W main_call0_v31 : IVec (shape1 2049) 32) (column Gen.bcast_S_S4096 Gen.bcast_S4096_S4096x1_0 2049#32 (host W main_call0_v18 : IVec (shape1 4096) 32))) := by
  refine (from_part W 47 11 main_call0_v40 rfl (by decide)).trans ?_
  rw [← settled W 47 main_call0_v18 rfl (by decide), ← settled W 47 main_call0_v31 rfl (by decide)]
  generalize upto hostOps0 W 47 = U
  after_reads_simp [StableHlo.TRef.ofBuf_toBuf]
  rfl

/-- The grid step of each list entry. -/
theorem sis_block : (host W main_call0_v41 : IVec (shape1 4096) 32) =
    pyDiv Gen.bcast_S_S4096 (host W main_call0_v18 : IVec (shape1 4096) 32) (constantI shape0 32 16#32) := by
  refine (from_part W 58 18 main_call0_v41 rfl (by decide)).trans ?_
  rw [← settled W 58 main_call0_v18 rfl (by decide)]
  generalize upto hostOps0 W 58 = U
  after_reads_simp [StableHlo.TRef.ofBuf_toBuf]
  rfl

/-- The slot of each list entry in its grid step. -/
theorem sis_slotOf : (host W main_call0_v42 : IVec (shape1 4096) 32) =
    pyRem Gen.bcast_S_S4096 (host W main_call0_v18 : IVec (shape1 4096) 32) (constantI shape0 32 16#32) := by
  refine (from_part W 76 22 main_call0_v42 rfl (by decide)).trans ?_
  rw [← settled W 76 main_call0_v18 rfl (by decide)]
  generalize upto hostOps0 W 76 = U
  after_reads_simp [StableHlo.TRef.ofBuf_toBuf]
  rfl

/-- The key of the second sort: grid step, place within the system, slot. -/
theorem sis_key : (host W main_call0_v48 : IVec (shape1 4096) 32) =
    addi (muli (addi (muli (host W main_call0_v41 : IVec (shape1 4096) 32) (filled _ Gen.bcast_S_S4096 8192#32)) (host W main_call0_v40 : IVec (shape1 4096) 32)) (filled _ Gen.bcast_S_S4096 16#32)) (host W main_call0_v42 : IVec (shape1 4096) 32) := by
  refine (from_part W 98 8 main_call0_v48 rfl (by decide)).trans ?_
  rw [← settled W 98 main_call0_v41 rfl (by decide), ← settled W 98 main_call0_v40 rfl (by decide), ← settled W 98 main_call0_v42 rfl (by decide)]
  generalize upto hostOps0 W 98 = U
  after_reads_simp [StableHlo.TRef.ofBuf_toBuf]
  rfl

/-- The second sort. -/
theorem sis_order1 : (host W main_call0_v49 : IVec (shape1 4096) 32) =
    order comparator_i32_i32_d0 (host W main_call0_v48 : IVec (shape1 4096) 32) := by
  refine (from_part W 106 3 main_call0_v49 rfl (by decide)).trans ?_
  rw [← settled W 106 main_call0_v48 rfl (by decide)]
  generalize upto hostOps0 W 106 = U
  after_reads_simp [StableHlo.TRef.ofBuf_toBuf]
  rfl

/-- The list positions in the order in which the kernel reads them. -/
theorem sis_perm : (host W main_call0_v56 : IVec (shape1 4096) 32) =
    Host.gather gather_S4096_S4096x1_S4096_n_0_n_n_0_1_1 (host W main_call0_v11 : IVec (shape1 4096) 32) (column Gen.bcast_S_S4096 Gen.bcast_S4096_S4096x1_0 4096#32 (host W main_call0_v49 : IVec (shape1 4096) 32)) := by
  refine (from_part W 109 9 main_call0_v56 rfl (by decide)).trans ?_
  rw [← settled W 109 main_call0_v11 rfl (by decide), ← settled W 109 main_call0_v49 rfl (by decide)]
  generalize upto hostOps0 W 109 = U
  after_reads_simp [StableHlo.TRef.ofBuf_toBuf]
  rfl

/-- How many list entries each grid step has. -/
theorem sis_steps : (host W main_call0_v66 : IVec (shape1 128) 32) =
    counts Gen.bcast_S_S4096 Gen.bcast_S4096_S4096x1_0 Gen.bcast_S_S128 scatter_S128_S4096x1_S4096_n_0_0_1 128#32 (host W main_call0_v41 : IVec (shape1 4096) 32) := by
  refine (from_part W 118 17 main_call0_v66 rfl (by decide)).trans ?_
  rw [← settled W 118 main_call0_v41 rfl (by decide)]
  generalize upto hostOps0 W 118 = U
  after_reads_simp [StableHlo.TRef.ofBuf_toBuf]
  unfold counts column filled
  exact eq_of_heq ((cast_heq _ _).trans (heq_of_eq rfl))

/-- The zero in front of the running sums. -/
theorem sis_bounds_zero : (host W main_call0_v67 : IVec (shape1 1) 32) =
    filled _ Gen.bcast_S_S1 0#32 := by
  refine (from_part W 135 2 main_call0_v67 rfl (by decide)).trans ?_
  generalize upto hostOps0 W 135 = U
  after_reads_simp [StableHlo.TRef.ofBuf_toBuf]
  rfl

/-- The running sums. -/
theorem sis_bounds_sum : (host W main_call0_v68 : IVec (shape1 128) 32) =
    Host.reduceWindow IntOp.addi ![128] ![1] ![127] ![0] (host W main_call0_v66 : IVec (shape1 128) 32) (filled shape0 Gen.bcast_S_S_ 0#32) Gen.reduceWindows_S128_S128_w128s1p127_0 Gen.h_S_ := by
  refine (from_part W 137 3 main_call0_v68 rfl (by decide)).trans ?_
  rw [← settled W 137 main_call0_v66 rfl (by decide)]
  generalize upto hostOps0 W 137 = U
  after_reads_simp [StableHlo.TRef.ofBuf_toBuf]
  unfold filled
  exact eq_of_heq ((cast_heq _ _).trans (heq_of_eq rfl))

/-- The zero and the running sums, one after the other. -/
theorem sis_bounds_cat : (host W main_call0_v69 : IVec (shape1 129) 32) =
    concatenate (shape1 129) 0 [⟨shape1 1, (host W main_call0_v67 : IVec (shape1 1) 32)⟩, ⟨shape1 128, (host W main_call0_v68 : IVec (shape1 128) 32)⟩] Gen.concatenates_S1_S128_S129_d0 := by
  refine (from_part W 140 1 main_call0_v69 rfl (by decide)).trans ?_
  rw [← settled W 140 main_call0_v67 rfl (by decide), ← settled W 140 main_call0_v68 rfl (by decide)]
  generalize upto hostOps0 W 140 = U
  after_reads_simp [StableHlo.TRef.ofBuf_toBuf]
  rfl

/-- Where each grid step's stretch begins. -/
theorem sis_bounds : (host W main_call0_v69 : IVec (shape1 129) 32) =
    sums Gen.bcast_S_S1 Gen.bcast_S_S_ 127 Gen.reduceWindows_S128_S128_w128s1p127_0 Gen.h_S_ Gen.concatenates_S1_S128_S129_d0 (host W main_call0_v66 : IVec (shape1 128) 32) := by
  rw [sis_bounds_cat, sis_bounds_zero, sis_bounds_sum]
  rfl

/-- The slots in the order in which the kernel reads the entries. -/
theorem sis_slots : (host W main_call0_v76 : IVec (shape1 4096) 32) =
    Host.gather gather_S4096_S4096x1_S4096_n_0_n_n_0_1_1 (host W main_call0_v42 : IVec (shape1 4096) 32) (column Gen.bcast_S_S4096 Gen.bcast_S4096_S4096x1_0 4096#32 (host W main_call0_v49 : IVec (shape1 4096) 32)) := by
  refine (from_part W 141 9 main_call0_v76 rfl (by decide)).trans ?_
  rw [← settled W 141 main_call0_v42 rfl (by decide), ← settled W 141 main_call0_v49 rfl (by decide)]
  generalize upto hostOps0 W 141 = U
  after_reads_simp [StableHlo.TRef.ofBuf_toBuf]
  rfl

/-- The parameters in that order. -/
theorem sis_rows : (host W main_call0_v83 : Vec F (shape2 4096 3) .f32) =
    Host.gather gather_S4096x3_S4096x1_S4096x3_1_0_n_n_0_1_13 (host W main_arg1 : Vec F (shape2 4096 3) .f32) (column Gen.bcast_S_S4096 Gen.bcast_S4096_S4096x1_0 4096#32 (host W main_call0_v56 : IVec (shape1 4096) 32)) := by
  refine (from_part W 150 9 main_call0_v83 rfl (by decide)).trans ?_
  rw [← settled W 150 main_arg1 rfl (by decide), ← settled W 150 main_call0_v56 rfl (by decide)]
  generalize upto hostOps0 W 150 = U
  after_reads_simp [StableHlo.TRef.ofBuf_toBuf]
  rfl

/-- The strengths. -/
theorem sis_theta : (host W main_call0_v85 : Vec F (shape1 4096) .f32) =
    shapeCast (shape1 4096) (extractStridedSlice (shape2 4096 1) ![0, 0] (host W main_call0_v83 : Vec F (shape2 4096 3) .f32) Gen.slices_S4096x3_S4096x1_0_0) Gen.shapeCasts_S4096x1_S4096 := by
  refine (from_part W 159 2 main_call0_v85 rfl (by decide)).trans ?_
  rw [← settled W 159 main_call0_v83 rfl (by decide)]
  generalize upto hostOps0 W 159 = U
  after_reads_simp [StableHlo.TRef.ofBuf_toBuf]
  rfl

/-- The first coordinates of the centres. -/
theorem sis_cx : (host W main_call0_v87 : Vec F (shape1 4096) .f32) =
    shapeCast (shape1 4096) (extractStridedSlice (shape2 4096 1) ![0, 1] (host W main_call0_v83 : Vec F (shape2 4096 3) .f32) Gen.slices_S4096x3_S4096x1_0_1) Gen.shapeCasts_S4096x1_S4096 := by
  refine (from_part W 161 2 main_call0_v87 rfl (by decide)).trans ?_
  rw [← settled W 161 main_call0_v83 rfl (by decide)]
  generalize upto hostOps0 W 161 = U
  after_reads_simp [StableHlo.TRef.ofBuf_toBuf]
  rfl

/-- The second coordinates of the centres. -/
theorem sis_cy : (host W main_call0_v89 : Vec F (shape1 4096) .f32) =
    shapeCast (shape1 4096) (extractStridedSlice (shape2 4096 1) ![0, 2] (host W main_call0_v83 : Vec F (shape2 4096 3) .f32) Gen.slices_S4096x3_S4096x1_0_2) Gen.shapeCasts_S4096x1_S4096 := by
  refine (from_part W 163 2 main_call0_v89 rfl (by decide)).trans ?_
  rw [← settled W 163 main_call0_v83 rfl (by decide)]
  generalize upto hostOps0 W 163 = U
  after_reads_simp [StableHlo.TRef.ofBuf_toBuf]
  rfl

/-- Minus twice the first coordinate of each centre. -/
theorem sis_m2cx : (host W main_call0_v91 : Vec F (shape1 4096) .f32) =
    mulf (broadcastInDim (shape1 4096) ![] Gen.bcast_S_S4096 (constant (F := F) shape0 .f32 0xC0000000#32)) (host W main_call0_v87 : Vec F (shape1 4096) .f32) := by
  refine (from_part W 165 3 main_call0_v91 rfl (by decide)).trans ?_
  rw [← settled W 165 main_call0_v87 rfl (by decide)]
  generalize upto hostOps0 W 165 = U
  after_reads_simp [StableHlo.TRef.ofBuf_toBuf]
  rfl

/-- Minus twice the second coordinate of each centre. -/
theorem sis_m2cy : (host W main_call0_v93 : Vec F (shape1 4096) .f32) =
    mulf (broadcastInDim (shape1 4096) ![] Gen.bcast_S_S4096 (constant (F := F) shape0 .f32 0xC0000000#32)) (host W main_call0_v89 : Vec F (shape1 4096) .f32) := by
  refine (from_part W 168 3 main_call0_v93 rfl (by decide)).trans ?_
  rw [← settled W 168 main_call0_v89 rfl (by decide)]
  generalize upto hostOps0 W 168 = U
  after_reads_simp [StableHlo.TRef.ofBuf_toBuf]
  rfl

/-- The squared length of each centre. -/
theorem sis_cc : (host W main_call0_v96 : Vec F (shape1 4096) .f32) =
    addf (mulf (host W main_call0_v87 : Vec F (shape1 4096) .f32) (host W main_call0_v87 : Vec F (shape1 4096) .f32)) (mulf (host W main_call0_v89 : Vec F (shape1 4096) .f32) (host W main_call0_v89 : Vec F (shape1 4096) .f32)) := by
  refine (from_part W 171 3 main_call0_v96 rfl (by decide)).trans ?_
  rw [← settled W 171 main_call0_v87 rfl (by decide), ← settled W 171 main_call0_v89 rfl (by decide)]
  generalize upto hostOps0 W 171 = U
  after_reads_simp [StableHlo.TRef.ofBuf_toBuf]
  rfl

/-! ### The second family of lenses -/

/-- The list positions in the order of their systems. -/
theorem pemd_order0 : (host W main_call0_v97 : IVec (shape1 2048) 32) =
    order comparator_i32_i32_d0 (host W main_arg4 : IVec (shape1 2048) 32) := by
  refine (from_part W 174 3 main_call0_v97 rfl (by decide)).trans ?_
  rw [← settled W 174 main_arg4 rfl (by decide)]
  generalize upto hostOps0 W 174 = U
  after_reads_simp [StableHlo.TRef.ofBuf_toBuf]
  rfl

/-- The systems in that order. -/
theorem pemd_sid : (host W main_call0_v104 : IVec (shape1 2048) 32) =
    Host.gather gather_S2048_S2048x1_S2048_n_0_n_n_0_1_1 (host W main_arg4 : IVec (shape1 2048) 32) (column Gen.bcast_S_S2048 Gen.bcast_S2048_S2048x1_0 2048#32 (host W main_call0_v97 : IVec (shape1 2048) 32)) := by
  refine (from_part W 177 9 main_call0_v104 rfl (by decide)).trans ?_
  rw [← settled W 177 main_arg4 rfl (by decide), ← settled W 177 main_call0_v97 rfl (by decide)]
  generalize upto hostOps0 W 177 = U
  after_reads_simp [StableHlo.TRef.ofBuf_toBuf]
  rfl

/-- How many list entries each system has. -/
theorem pemd_counts : (host W main_call0_v114 : IVec (shape1 2048) 32) =
    counts Gen.bcast_S_S2048 Gen.bcast_S2048_S2048x1_0 Gen.bcast_S_S2048 scatter_S2048_S2048x1_S2048_n_0_0_1 2048#32 (host W main_arg4 : IVec (shape1 2048) 32) := by
  refine (from_part W 186 17 main_call0_v114 rfl (by decide)).trans ?_
  rw [← settled W 186 main_arg4 rfl (by decide)]
  generalize upto hostOps0 W 186 = U
  after_reads_simp [StableHlo.TRef.ofBuf_toBuf]
  unfold counts column filled
  exact eq_of_heq ((cast_heq _ _).trans (heq_of_eq rfl))

/-- The zero in front of the running sums. -/
theorem pemd_off_zero : (host W main_call0_v115 : IVec (shape1 1) 32) =
    filled _ Gen.bcast_S_S1 0#32 := by
  refine (from_part W 203 2 main_call0_v115 rfl (by decide)).trans ?_
  generalize upto hostOps0 W 203 = U
  after_reads_simp [StableHlo.TRef.ofBuf_toBuf]
  rfl

/-- The running sums. -/
theorem pemd_off_sum : (host W main_call0_v116 : IVec (shape1 2048) 32) =
    Host.reduceWindow IntOp.addi ![2048] ![1] ![2047] ![0] (host W main_call0_v114 : IVec (shape1 2048) 32) (filled shape0 Gen.bcast_S_S_ 0#32) Gen.reduceWindows_S2048_S2048_w2048s1p2047_0 Gen.h_S_ := by
  refine (from_part W 205 3 main_call0_v116 rfl (by decide)).trans ?_
  rw [← settled W 205 main_call0_v114 rfl (by decide)]
  generalize upto hostOps0 W 205 = U
  after_reads_simp [StableHlo.TRef.ofBuf_toBuf]
  unfold filled
  exact eq_of_heq ((cast_heq _ _).trans (heq_of_eq rfl))

/-- The zero and the running sums, one after the other. -/
theorem pemd_off_cat : (host W main_call0_v117 : IVec (shape1 2049) 32) =
    concatenate (shape1 2049) 0 [⟨shape1 1, (host W main_call0_v115 : IVec (shape1 1) 32)⟩, ⟨shape1 2048, (host W main_call0_v116 : IVec (shape1 2048) 32)⟩] Gen.concatenates_S1_S2048_S2049_d0 := by
  refine (from_part W 208 1 main_call0_v117 rfl (by decide)).trans ?_
  rw [← settled W 208 main_call0_v115 rfl (by decide), ← settled W 208 main_call0_v116 rfl (by decide)]
  generalize upto hostOps0 W 208 = U
  after_reads_simp [StableHlo.TRef.ofBuf_toBuf]
  rfl

/-- Where each system's stretch of that order begins. -/
theorem pemd_off : (host W main_call0_v117 : IVec (shape1 2049) 32) =
    sums Gen.bcast_S_S1 Gen.bcast_S_S_ 2047 Gen.reduceWindows_S2048_S2048_w2048s1p2047_0 Gen.h_S_ Gen.concatenates_S1_S2048_S2049_d0 (host W main_call0_v114 : IVec (shape1 2048) 32) := by
  rw [pemd_off_cat, pemd_off_zero, pemd_off_sum]
  rfl

/-- The place of each list entry within its system. -/
theorem pemd_rank : (host W main_call0_v126 : IVec (shape1 2048) 32) =
    subi (iotaInDim (shape1 2048) 32 0) (Host.gather gather_S2049_S2048x1_S2048_n_0_n_n_0_1_1 (host W main_call0_v117 : IVec (shape1 2049) 32) (column Gen.bcast_S_S2048 Gen.bcast_S2048_S2048x1_0 2049#32 (host W main_call0_v104 : IVec (shape1 2048) 32))) := by
  refine (from_part W 209 11 main_call0_v126 rfl (by decide)).trans ?_
  rw [← settled W 209 main_call0_v104 rfl (by decide), ← settled W 209 main_call0_v117 rfl (by decide)]
  generalize upto hostOps0 W 209 = U
  after_reads_simp [StableHlo.TRef.ofBuf_toBuf]
  rfl

/-- The grid step of each list entry. -/
theorem pemd_block : (host W main_call0_v127 : IVec (shape1 2048) 32) =
    pyDiv Gen.bcast_S_S2048 (host W main_call0_v104 : IVec (shape1 2048) 32) (constantI shape0 32 16#32) := by
  refine (from_part W 220 18 main_call0_v127 rfl (by decide)).trans ?_
  rw [← settled W 220 main_call0_v104 rfl (by decide)]
  generalize upto hostOps0 W 220 = U
  after_reads_simp [StableHlo.TRef.ofBuf_toBuf]
  rfl

/-- The slot of each list entry in its grid step. -/
theorem pemd_slotOf : (host W main_call0_v128 : IVec (shape1 2048) 32) =
    pyRem Gen.bcast_S_S2048 (host W main_call0_v104 : IVec (shape1 2048) 32) (constantI shape0 32 16#32) := by
  refine (from_part W 238 22 main_call0_v128 rfl (by decide)).trans ?_
  rw [← settled W 238 main_call0_v104 rfl (by decide)]
  generalize upto hostOps0 W 238 = U
  after_reads_simp [StableHlo.TRef.ofBuf_toBuf]
  rfl

/-- The key of the second sort: grid step, place within the system, slot. -/
theorem pemd_key : (host W main_call0_v134 : IVec (shape1 2048) 32) =
    addi (muli (addi (muli (host W main_call0_v127 : IVec (shape1 2048) 32) (filled _ Gen.bcast_S_S2048 8192#32)) (host W main_call0_v126 : IVec (shape1 2048) 32)) (filled _ Gen.bcast_S_S2048 16#32)) (host W main_call0_v128 : IVec (shape1 2048) 32) := by
  refine (from_part W 260 8 main_call0_v134 rfl (by decide)).trans ?_
  rw [← settled W 260 main_call0_v127 rfl (by decide), ← settled W 260 main_call0_v126 rfl (by decide), ← settled W 260 main_call0_v128 rfl (by decide)]
  generalize upto hostOps0 W 260 = U
  after_reads_simp [StableHlo.TRef.ofBuf_toBuf]
  rfl

/-- The second sort. -/
theorem pemd_order1 : (host W main_call0_v135 : IVec (shape1 2048) 32) =
    order comparator_i32_i32_d0 (host W main_call0_v134 : IVec (shape1 2048) 32) := by
  refine (from_part W 268 3 main_call0_v135 rfl (by decide)).trans ?_
  rw [← settled W 268 main_call0_v134 rfl (by decide)]
  generalize upto hostOps0 W 268 = U
  after_reads_simp [StableHlo.TRef.ofBuf_toBuf]
  rfl

/-- The list positions in the order in which the kernel reads them. -/
theorem pemd_perm : (host W main_call0_v142 : IVec (shape1 2048) 32) =
    Host.gather gather_S2048_S2048x1_S2048_n_0_n_n_0_1_1 (host W main_call0_v97 : IVec (shape1 2048) 32) (column Gen.bcast_S_S2048 Gen.bcast_S2048_S2048x1_0 2048#32 (host W main_call0_v135 : IVec (shape1 2048) 32)) := by
  refine (from_part W 271 9 main_call0_v142 rfl (by decide)).trans ?_
  rw [← settled W 271 main_call0_v97 rfl (by decide), ← settled W 271 main_call0_v135 rfl (by decide)]
  generalize upto hostOps0 W 271 = U
  after_reads_simp [StableHlo.TRef.ofBuf_toBuf]
  rfl

/-- How many list entries each grid step has. -/
theorem pemd_steps : (host W main_call0_v152 : IVec (shape1 128) 32) =
    counts Gen.bcast_S_S2048 Gen.bcast_S2048_S2048x1_0 Gen.bcast_S_S128 scatter_S128_S2048x1_S2048_n_0_0_1 128#32 (host W main_call0_v127 : IVec (shape1 2048) 32) := by
  refine (from_part W 280 17 main_call0_v152 rfl (by decide)).trans ?_
  rw [← settled W 280 main_call0_v127 rfl (by decide)]
  generalize upto hostOps0 W 280 = U
  after_reads_simp [StableHlo.TRef.ofBuf_toBuf]
  unfold counts column filled
  exact eq_of_heq ((cast_heq _ _).trans (heq_of_eq rfl))

/-- The zero in front of the running sums. -/
theorem pemd_bounds_zero : (host W main_call0_v153 : IVec (shape1 1) 32) =
    filled _ Gen.bcast_S_S1 0#32 := by
  refine (from_part W 297 2 main_call0_v153 rfl (by decide)).trans ?_
  generalize upto hostOps0 W 297 = U
  after_reads_simp [StableHlo.TRef.ofBuf_toBuf]
  rfl

/-- The running sums. -/
theorem pemd_bounds_sum : (host W main_call0_v154 : IVec (shape1 128) 32) =
    Host.reduceWindow IntOp.addi ![128] ![1] ![127] ![0] (host W main_call0_v152 : IVec (shape1 128) 32) (filled shape0 Gen.bcast_S_S_ 0#32) Gen.reduceWindows_S128_S128_w128s1p127_0 Gen.h_S_ := by
  refine (from_part W 299 3 main_call0_v154 rfl (by decide)).trans ?_
  rw [← settled W 299 main_call0_v152 rfl (by decide)]
  generalize upto hostOps0 W 299 = U
  after_reads_simp [StableHlo.TRef.ofBuf_toBuf]
  unfold filled
  exact eq_of_heq ((cast_heq _ _).trans (heq_of_eq rfl))

/-- The zero and the running sums, one after the other. -/
theorem pemd_bounds_cat : (host W main_call0_v155 : IVec (shape1 129) 32) =
    concatenate (shape1 129) 0 [⟨shape1 1, (host W main_call0_v153 : IVec (shape1 1) 32)⟩, ⟨shape1 128, (host W main_call0_v154 : IVec (shape1 128) 32)⟩] Gen.concatenates_S1_S128_S129_d0 := by
  refine (from_part W 302 1 main_call0_v155 rfl (by decide)).trans ?_
  rw [← settled W 302 main_call0_v153 rfl (by decide), ← settled W 302 main_call0_v154 rfl (by decide)]
  generalize upto hostOps0 W 302 = U
  after_reads_simp [StableHlo.TRef.ofBuf_toBuf]
  rfl

/-- Where each grid step's stretch begins. -/
theorem pemd_bounds : (host W main_call0_v155 : IVec (shape1 129) 32) =
    sums Gen.bcast_S_S1 Gen.bcast_S_S_ 127 Gen.reduceWindows_S128_S128_w128s1p127_0 Gen.h_S_ Gen.concatenates_S1_S128_S129_d0 (host W main_call0_v152 : IVec (shape1 128) 32) := by
  rw [pemd_bounds_cat, pemd_bounds_zero, pemd_bounds_sum]
  rfl

/-- The slots in the order in which the kernel reads the entries. -/
theorem pemd_slots : (host W main_call0_v162 : IVec (shape1 2048) 32) =
    Host.gather gather_S2048_S2048x1_S2048_n_0_n_n_0_1_1 (host W main_call0_v128 : IVec (shape1 2048) 32) (column Gen.bcast_S_S2048 Gen.bcast_S2048_S2048x1_0 2048#32 (host W main_call0_v135 : IVec (shape1 2048) 32)) := by
  refine (from_part W 303 9 main_call0_v162 rfl (by decide)).trans ?_
  rw [← settled W 303 main_call0_v128 rfl (by decide), ← settled W 303 main_call0_v135 rfl (by decide)]
  generalize upto hostOps0 W 303 = U
  after_reads_simp [StableHlo.TRef.ofBuf_toBuf]
  rfl

/-- The parameters in that order. -/
theorem pemd_rows : (host W main_call0_v169 : Vec F (shape2 2048 4) .f32) =
    Host.gather gather_S2048x4_S2048x1_S2048x4_1_0_n_n_0_1_14 (host W main_arg2 : Vec F (shape2 2048 4) .f32) (column Gen.bcast_S_S2048 Gen.bcast_S2048_S2048x1_0 2048#32 (host W main_call0_v142 : IVec (shape1 2048) 32)) := by
  refine (from_part W 312 9 main_call0_v169 rfl (by decide)).trans ?_
  rw [← settled W 312 main_arg2 rfl (by decide), ← settled W 312 main_call0_v142 rfl (by decide)]
  generalize upto hostOps0 W 312 = U
  after_reads_simp [StableHlo.TRef.ofBuf_toBuf]
  rfl

/-- The strengths. -/
theorem pemd_theta : (host W main_call0_v171 : Vec F (shape1 2048) .f32) =
    shapeCast (shape1 2048) (extractStridedSlice (shape2 2048 1) ![0, 0] (host W main_call0_v169 : Vec F (shape2 2048 4) .f32) Gen.slices_S2048x4_S2048x1_0_0) Gen.shapeCasts_S2048x1_S2048 := by
  refine (from_part W 321 2 main_call0_v171 rfl (by decide)).trans ?_
  rw [← settled W 321 main_call0_v169 rfl (by decide)]
  generalize upto hostOps0 W 321 = U
  after_reads_simp [StableHlo.TRef.ofBuf_toBuf]
  rfl

/-- The slopes. -/
theorem pemd_gamma : (host W main_call0_v173 : Vec F (shape1 2048) .f32) =
    shapeCast (shape1 2048) (extractStridedSlice (shape2 2048 1) ![0, 1] (host W main_call0_v169 : Vec F (shape2 2048 4) .f32) Gen.slices_S2048x4_S2048x1_0_1) Gen.shapeCasts_S2048x1_S2048 := by
  refine (from_part W 323 2 main_call0_v173 rfl (by decide)).trans ?_
  rw [← settled W 323 main_call0_v169 rfl (by decide)]
  generalize upto hostOps0 W 323 = U
  after_reads_simp [StableHlo.TRef.ofBuf_toBuf]
  rfl

/-- The first coordinates of the centres. -/
theorem pemd_cx : (host W main_call0_v175 : Vec F (shape1 2048) .f32) =
    shapeCast (shape1 2048) (extractStridedSlice (shape2 2048 1) ![0, 2] (host W main_call0_v169 : Vec F (shape2 2048 4) .f32) Gen.slices_S2048x4_S2048x1_0_2) Gen.shapeCasts_S2048x1_S2048 := by
  refine (from_part W 325 2 main_call0_v175 rfl (by decide)).trans ?_
  rw [← settled W 325 main_call0_v169 rfl (by decide)]
  generalize upto hostOps0 W 325 = U
  after_reads_simp [StableHlo.TRef.ofBuf_toBuf]
  rfl

/-- The second coordinates of the centres. -/
theorem pemd_cy : (host W main_call0_v177 : Vec F (shape1 2048) .f32) =
    shapeCast (shape1 2048) (extractStridedSlice (shape2 2048 1) ![0, 3] (host W main_call0_v169 : Vec F (shape2 2048 4) .f32) Gen.slices_S2048x4_S2048x1_0_3) Gen.shapeCasts_S2048x1_S2048 := by
  refine (from_part W 327 2 main_call0_v177 rfl (by decide)).trans ?_
  rw [← settled W 327 main_call0_v169 rfl (by decide)]
  generalize upto hostOps0 W 327 = U
  after_reads_simp [StableHlo.TRef.ofBuf_toBuf]
  rfl

/-- The part of the exponent that does not depend on the distance. -/
theorem pemd_pow : (host W main_call0_v181 : Vec F (shape1 2048) .f32) =
    mulf (subf (host W main_call0_v173 : Vec F (shape1 2048) .f32) (broadcastInDim (shape1 2048) ![] Gen.bcast_S_S2048 (constant (F := F) shape0 .f32 0x3F800000#32))) (Host.log (host W main_call0_v171 : Vec F (shape1 2048) .f32)) := by
  refine (from_part W 329 5 main_call0_v181 rfl (by decide)).trans ?_
  rw [← settled W 329 main_call0_v173 rfl (by decide), ← settled W 329 main_call0_v171 rfl (by decide)]
  generalize upto hostOps0 W 329 = U
  after_reads_simp [StableHlo.TRef.ofBuf_toBuf]
  rfl

/-- The factor of the logarithm of the squared distance in the exponent. -/
theorem pemd_slope : (host W main_call0_v185 : Vec F (shape1 2048) .f32) =
    mulf (broadcastInDim (shape1 2048) ![] Gen.bcast_S_S2048 (constant (F := F) shape0 .f32 0x3F000000#32)) (subf (broadcastInDim (shape1 2048) ![] Gen.bcast_S_S2048 (constant (F := F) shape0 .f32 0x40000000#32)) (host W main_call0_v173 : Vec F (shape1 2048) .f32)) := by
  refine (from_part W 334 6 main_call0_v185 rfl (by decide)).trans ?_
  rw [← settled W 334 main_call0_v173 rfl (by decide)]
  generalize upto hostOps0 W 334 = U
  after_reads_simp [StableHlo.TRef.ofBuf_toBuf]
  rfl

/-- Minus twice the first coordinate of each centre. -/
theorem pemd_m2cx : (host W main_call0_v187 : Vec F (shape1 2048) .f32) =
    mulf (broadcastInDim (shape1 2048) ![] Gen.bcast_S_S2048 (constant (F := F) shape0 .f32 0xC0000000#32)) (host W main_call0_v175 : Vec F (shape1 2048) .f32) := by
  refine (from_part W 340 3 main_call0_v187 rfl (by decide)).trans ?_
  rw [← settled W 340 main_call0_v175 rfl (by decide)]
  generalize upto hostOps0 W 340 = U
  after_reads_simp [StableHlo.TRef.ofBuf_toBuf]
  rfl

/-- Minus twice the second coordinate of each centre. -/
theorem pemd_m2cy : (host W main_call0_v189 : Vec F (shape1 2048) .f32) =
    mulf (broadcastInDim (shape1 2048) ![] Gen.bcast_S_S2048 (constant (F := F) shape0 .f32 0xC0000000#32)) (host W main_call0_v177 : Vec F (shape1 2048) .f32) := by
  refine (from_part W 343 3 main_call0_v189 rfl (by decide)).trans ?_
  rw [← settled W 343 main_call0_v177 rfl (by decide)]
  generalize upto hostOps0 W 343 = U
  after_reads_simp [StableHlo.TRef.ofBuf_toBuf]
  rfl

/-- The squared length of each centre. -/
theorem pemd_cc : (host W main_call0_v192 : Vec F (shape1 2048) .f32) =
    addf (mulf (host W main_call0_v175 : Vec F (shape1 2048) .f32) (host W main_call0_v175 : Vec F (shape1 2048) .f32)) (mulf (host W main_call0_v177 : Vec F (shape1 2048) .f32) (host W main_call0_v177 : Vec F (shape1 2048) .f32)) := by
  refine (from_part W 346 3 main_call0_v192 rfl (by decide)).trans ?_
  rw [← settled W 346 main_call0_v175 rfl (by decide), ← settled W 346 main_call0_v177 rfl (by decide)]
  generalize upto hostOps0 W 346 = U
  after_reads_simp [StableHlo.TRef.ofBuf_toBuf]
  rfl

end Reads

end Cert.Proof.KernelIdeal

end
-- ==== Proof.Tables.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.LoopRemainder
public import Idealize.ShloMosaic.Lib.WritesUnit
public import Idealize.ShloMosaic.Lib.ValueLayout
public import Idealize.ShloMosaic.Lib.ValueIdx
public import proofs.«01_k».proof.Proof.HostRead
public import proofs.«01_k».proof.Proof.Blocks
public import Idealize.ShloMosaic.Lib.StableHlo.RunRead
public import Idealize.ShloMosaic.Adequacy
public import Idealize.ShloMosaic.Init

@[expose] public section

set_option maxRecDepth 16384

noncomputable section

namespace Cert.Proof.KernelIdeal

open Cert.KernelIdeal
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.KernelIdeal.Gen (V V0 hostOps0)
open Cert.Proof.Grouping
open Idealize.ShloMosaic.Routing (shape0 shape1 shape2 shape3 pyDiv pyRem)

/-! ## The integer tables are in range -/

section Checks
variable {lo hi : BitVec 32} {A B : ℕ} (hlo : lo = BitVec.ofNat 32 A) (hhi : hi = BitVec.ofNat 32 B) (hAB : A ≤ B)
include hlo hhi hAB

/-- The first loop makes one trip for each entry of the stretch. -/
theorem t1_trips (hB : B < 2 ^ 31) : (k0_t1_loop lo hi).trips = B - A := by
  show Scf.trips lo (Scalar.addi lo (Scalar.muli (Scalar.divsi (Scalar.subi hi lo) 1#32) 1#32)) 1#32 = _
  rw [upper, hlo, hhi, trips_nat hAB hB]

/-- So does the second. -/
theorem t3_trips (hB : B < 2 ^ 31) : (k0_t3_loop lo hi).trips = B - A := by
  show Scf.trips lo (Scalar.addi lo (Scalar.muli (Scalar.divsi (Scalar.subi hi lo) 1#32) 1#32)) 1#32 = _
  rw [upper, hlo, hhi, trips_nat hAB hB]

/-- A step of the first loop, between two numbers within the table, stays in the table. -/
theorem chk1_of (hB : B ≤ 4096) : k0_chk1 lo hi := by
  have hub := upper lo hi
  have hoff : ∀ k : Fin (k0_t1_loop lo hi).trips, (Scf.iv lo 1#32 k).toNat + 1 ≤ 4096 := fun k => by
    have hk := lt_of_lt_of_eq k.isLt (t1_trips hlo hhi hAB (by omega))
    generalize k.val = x at hk
    rw [hlo, iv_nat _ _ (by omega)]
    omega
  refine ⟨?_, fun k => Fin.forall_fin_one.2 (hoff k), fun k => Fin.forall_fin_one.2 (hoff k), Scf.rem_ok _ _, fun k => (Scf.rem_no_trip _ _ k).elim, fun k => (Scf.rem_no_trip _ _ k).elim⟩
  unfold k0_t1_loop Scf.Loop.OK
  dsimp only
  rw [hub, hlo, hhi]
  exact ok_nat hAB (by omega)

/-- A step of the second loop, between two numbers within the table, stays in the table. -/
theorem chk4_of (hB : B ≤ 2048) : k0_chk4 lo hi := by
  have hub := upper lo hi
  have hoff : ∀ k : Fin (k0_t3_loop lo hi).trips, (Scf.iv lo 1#32 k).toNat + 1 ≤ 2048 := fun k => by
    have hk := lt_of_lt_of_eq k.isLt (t3_trips hlo hhi hAB (by omega))
    generalize k.val = x at hk
    rw [hlo, iv_nat _ _ (by omega)]
    omega
  refine ⟨?_, fun k => Fin.forall_fin_one.2 (hoff k), fun k => Fin.forall_fin_one.2 (hoff k), Scf.rem_ok _ _, fun k => (Scf.rem_no_trip _ _ k).elim, fun k => (Scf.rem_no_trip _ _ k).elim⟩
  unfold k0_t3_loop Scf.Loop.OK
  dsimp only
  rw [hub, hlo, hhi]
  exact ok_nat hAB (by omega)

end Checks

section Host
variable (W : Valuation τ sig (Elt F))

/-- Each grid step's stretch begins where as many list entries as lie in earlier steps have passed. -/
theorem sis_bounds_val (j : Fin 129) : (host W main_call0_v69 : IVec (shape1 129) 32) (ix1 j) = BitVec.ofNat 32 (below (host W main_call0_v41 : IVec (shape1 4096) 32) j.val) := by
  rw [sis_bounds, sis_steps]
  exact sums_counts (hN1 := rfl) (hM := rfl) (hiw := rfl) (hsd := rfl) (hivd := rfl) (j := j) ..

theorem pemd_bounds_val (j : Fin 129) : (host W main_call0_v155 : IVec (shape1 129) 32) (ix1 j) = BitVec.ofNat 32 (below (host W main_call0_v127 : IVec (shape1 2048) 32) j.val) := by
  rw [pemd_bounds, pemd_steps]
  exact sums_counts (hN1 := rfl) (hM := rfl) (hiw := rfl) (hsd := rfl) (hivd := rfl) (j := j) ..

/-- Every slot names one of sixteen planes. -/
theorem sis_slots_lt (q : Fin 4096) : ((host W main_call0_v76 : IVec (shape1 4096) 32) (ix1 q)).toNat < 16 := by
  obtain ⟨σ, hσ, -⟩ := order_spec comparator_i32_i32_d0 (fun _ _ => rfl) (host W main_call0_v48 : IVec (shape1 4096) 32)
  rw [sis_slots, take_order (hcoll := rfl) (hob := rfl) (hsim := rfl) (hivd := rfl) (b := σ q) (hN := by decide) (ho := (by rw [sis_order1]; exact hσ q)), sis_slotOf]
  exact rem16_lt _ _ _

theorem pemd_slots_lt (q : Fin 2048) : ((host W main_call0_v162 : IVec (shape1 2048) 32) (ix1 q)).toNat < 16 := by
  obtain ⟨σ, hσ, -⟩ := order_spec comparator_i32_i32_d0 (fun _ _ => rfl) (host W main_call0_v134 : IVec (shape1 2048) 32)
  rw [pemd_slots, take_order (hcoll := rfl) (hob := rfl) (hsim := rfl) (hivd := rfl) (b := σ q) (hN := by decide) (ho := (by rw [pemd_order1]; exact hσ q)), pemd_slotOf]
  exact rem16_lt _ _ _

end Host

variable (m : (ℓ : Loc nD τ sig) → Buf (Elt F) ℓ)

/-- The buffers at the launch are what the host code leaves. -/
theorem V_eq (c : Dev nD) (r : Ref sig .tc) : V m c r = host (fun b => m (c, b)) r := by
  unfold V V0 host
  rw [List.flatten_singleton]

/-- The integer tables are in range, whatever the lists hold. -/
theorem tables (c : Dev nD) : Tables m c where
  chk1 b := by
    rw [V_eq]
    exact chk1_of (sis_bounds_val _ b.castSucc) (sis_bounds_val _ b.succ) (below_mono _ (Nat.le_succ _)) (below_le _ _)
  chk4 b := by
    rw [V_eq]
    exact chk4_of (pemd_bounds_val _ b.castSucc) (pemd_bounds_val _ b.succ) (below_mono _ (Nat.le_succ _)) (below_le _ _)
  slotS q := by
    rw [V_eq, eq_ix1 q]
    exact sis_slots_lt _ _
  slotP q := by
    rw [V_eq, eq_ix1 q]
    exact pemd_slots_lt _ _

end Cert.Proof.KernelIdeal

end
-- ==== Proof.Grouped.lean ====
module

public import proofs.«01_k».proof.Proof.Grouping

@[expose] public section

noncomputable section

namespace Cert.Proof.Grouping

open Idealize.ShloMosaic Idealize.ShloMosaic.ValueIdx Idealize.ShloMosaic.Routing
open Idealize.ShloMosaic.StableHlo.Predicate (toInt_ofNat_small)
open Idealize.ShloMosaic.WordCmp

/-! ## The two sorts put each block's list entries side by side -/

/-- A set of places that holds every place before one of its own is the first so many places. -/
theorem initial {n : ℕ} (S : Finset (Fin n)) (h : ∀ p q, p < q → q ∈ S → p ∈ S) (q : Fin n) : q.val < S.card ↔ q ∈ S := by
  constructor
  · intro hq
    by_contra hn
    have : S ⊆ Finset.Iio q := fun p hp => Finset.mem_Iio.2 (by
      rcases lt_trichotomy p q with hl | rfl | hg
      · exact hl
      · exact absurd hp hn
      · exact absurd (h q p hg hp) hn)
    have := Finset.card_le_card this
    rw [Fin.card_Iio] at this
    omega
  · intro hq
    have : Finset.Iic q ⊆ S := fun p hp => by
      rcases lt_or_eq_of_le (Finset.mem_Iic.1 hp) with hl | rfl
      · exact h p q hl hq
      · exact hq
    have := Finset.card_le_card this
    rw [Fin.card_Iic] at this
    omega

/-- The sum of two words, read with its sign, where it does not leave the range of a word. -/
theorem add_int {x y : BitVec 32} {a b : ℤ} (hx : x.toInt = a) (hy : y.toInt = b) (h1 : -2147483648 ≤ a + b) (h2 : a + b < 2147483648) :
    (IntOp.addi x y).toInt = a + b := by
  show (x + y).toInt = _
  rw [BitVec.toInt_add, hx, hy]
  unfold Int.bmod
  norm_num
  split <;> omega

/-- The difference of two words likewise. -/
theorem sub_int {x y : BitVec 32} {a b : ℤ} (hx : x.toInt = a) (hy : y.toInt = b) (h1 : -2147483648 ≤ a - b) (h2 : a - b < 2147483648) :
    (IntOp.subi x y).toInt = a - b := by
  show (x - y).toInt = _
  rw [BitVec.toInt_sub, hx, hy]
  unfold Int.bmod
  norm_num
  split <;> omega

/-- The product of two words likewise. -/
theorem mul_int {x y : BitVec 32} {a b : ℤ} (hx : x.toInt = a) (hy : y.toInt = b) (h1 : -2147483648 ≤ a * b) (h2 : a * b < 2147483648) :
    (IntOp.muli x y).toInt = a * b := by
  show (x * y).toInt = _
  rw [BitVec.toInt_mul, hx, hy]
  unfold Int.bmod
  norm_num
  generalize a * b = c at *
  split <;> omega

section Grouped

variable {n : ℕ} {hb : shape0.BroadcastsInDim (shape1 n) (![] : Fin 0 → Fin (shape1 n).rank)}

/-- Sorting by block, place within the system and slot keeps each block together: position `q` of that order is before
    the start of block `b` exactly when its entry belongs to an earlier block; and its slot is its system's. -/
theorem grouped (hn : n ≤ 4096) (idx sid rank blk slotOf key perm slots : IVec (shape1 n) 32) (σ0 σ1 : Equiv.Perm (Fin n))
    (hr : ∀ k, (idx (ix1 k)).toNat < 2048)
    (hsid : ∀ p, sid (ix1 p) = idx (ix1 (σ0 p)))
    (hperm : ∀ q, perm (ix1 q) = BitVec.ofNat 32 (σ0 (σ1 q)).val)
    (hslots : ∀ q, slots (ix1 q) = slotOf (ix1 (σ1 q)))
    (hrank : ∀ p : Fin n, ∃ f ≤ 4096, rank (ix1 p) = IntOp.subi (BitVec.ofNat 32 p.val) (BitVec.ofNat 32 f))
    (hblk : blk = pyDiv hb sid (constantI shape0 32 16#32)) (hslotOf : slotOf = pyRem hb sid (constantI shape0 32 16#32))
    (hkey : key = addi (muli (addi (muli blk (filled _ hb 8192#32)) rank) (filled _ hb 16#32)) slotOf)
    (hσ1 : ∀ p q, p < q → ¬ (key (ix1 (σ1 q))).toInt < (key (ix1 (σ1 p))).toInt) :
    ∃ π : Equiv.Perm (Fin n), (∀ q, perm (ix1 q) = BitVec.ofNat 32 (π q).val)
      ∧ (∀ q, (slots (ix1 q)).toNat = (idx (ix1 (π q))).toNat % 16)
      ∧ ∀ (b : ℕ) (q : Fin n), q.val < below blk b ↔ (idx (ix1 (π q))).toNat / 16 < b := by
  have hw : ∀ p, sid (ix1 p) = BitVec.ofNat 32 (idx (ix1 (σ0 p))).toNat := fun p => by rw [hsid, BitVec.ofNat_toNat, BitVec.setWidth_eq]
  have hB : ∀ p, blk (ix1 p) = BitVec.ofNat 32 ((idx (ix1 (σ0 p))).toNat / 16) := fun p => by
    rw [hblk]; exact pyDiv_ap hb _ _ _ (hw p) rfl (by have := hr (σ0 p); omega) (by decide) (by decide)
  have hS : ∀ p, slotOf (ix1 p) = BitVec.ofNat 32 ((idx (ix1 (σ0 p))).toNat % 16) := fun p => by
    rw [hslotOf]; exact pyRem_ap hb _ _ _ (hw p) rfl (by have := hr (σ0 p); omega) (by decide) (by decide)
  have hK : ∀ p : Fin n, ∃ r : ℤ, -4096 ≤ r ∧ r < 4096 ∧
      (key (ix1 p)).toInt = (((((idx (ix1 (σ0 p))).toNat / 16 : ℕ) : ℤ) * 8192 + r) * 16 + (((idx (ix1 (σ0 p))).toNat % 16 : ℕ) : ℤ)) := fun p => by
    obtain ⟨f, hf, e⟩ := hrank p
    have hp := p.isLt
    have hR := hr (σ0 p)
    have e1 : (blk (ix1 p)).toInt = (((idx (ix1 (σ0 p))).toNat / 16 : ℕ) : ℤ) := by rw [hB]; exact toInt_ofNat_small _ (by omega)
    have e2 : (rank (ix1 p)).toInt = (p.val : ℤ) - (f : ℤ) := by
      rw [e]; exact sub_int (toInt_ofNat_small _ (by omega)) (toInt_ofNat_small _ (by omega)) (by omega) (by omega)
    have e3 : (slotOf (ix1 p)).toInt = (((idx (ix1 (σ0 p))).toNat % 16 : ℕ) : ℤ) := by rw [hS]; exact toInt_ofNat_small _ (by omega)
    have c1 : (filled _ hb 8192#32 (ix1 p)).toInt = 8192 := by rw [filled_apply]; decide
    have c2 : (filled _ hb 16#32 (ix1 p)).toInt = 16 := by rw [filled_apply]; decide
    refine ⟨(p.val : ℤ) - f, by omega, by omega, ?_⟩
    rw [hkey]
    exact add_int (mul_int (add_int (mul_int e1 c1 (by omega) (by omega)) e2 (by omega) (by omega)) c2 (by omega) (by omega)) e3 (by omega) (by omega)
  have hmono : ∀ p q, p < q → (idx (ix1 (σ0 (σ1 p)))).toNat / 16 ≤ (idx (ix1 (σ0 (σ1 q)))).toNat / 16 := fun p q hpq => by
    have h := hσ1 p q hpq
    obtain ⟨r, hr1, hr2, er⟩ := hK (σ1 p)
    obtain ⟨s, hs1, hs2, es⟩ := hK (σ1 q)
    rw [er, es] at h
    by_contra hlt
    apply h
    have : (idx (ix1 (σ0 (σ1 p)))).toNat % 16 < 16 := Nat.mod_lt _ (by decide)
    have : (idx (ix1 (σ0 (σ1 q)))).toNat % 16 < 16 := Nat.mod_lt _ (by decide)
    omega
  refine ⟨σ1.trans σ0, hperm, fun q => ?_, fun b q => ?_⟩
  · rw [hslots, hS, BitVec.toNat_ofNat]
    show _ = (idx (ix1 (σ0 (σ1 q)))).toNat % 16
    have : (idx (ix1 (σ0 (σ1 q)))).toNat % 16 < 16 := Nat.mod_lt _ (by decide)
    omega
  · have hcard : below blk b = (Finset.univ.filter fun q : Fin n => (idx (ix1 (σ0 (σ1 q)))).toNat / 16 < b).card := by
      unfold below
      refine (Finset.card_equiv σ1 fun q => ?_).symm
      simp only [Finset.mem_filter, Finset.mem_univ, true_and]
      have := hr (σ0 (σ1 q))
      unfold clip
      rw [hB, toInt_ofNat_small _ (by omega), Int.toNat_natCast]
    rw [hcard]
    refine (initial _ (fun p q hpq hq => ?_) q).trans ?_
    · simp only [Finset.mem_filter, Finset.mem_univ, true_and] at hq ⊢
      exact lt_of_le_of_lt (hmono p q hpq) hq
    · simp only [Finset.mem_filter, Finset.mem_univ, true_and]
      rfl

end Grouped

/-! ## Sums over one block's positions are sums over one system's list entries -/

/-- The positions of block `b` whose slot is `j`, summed over, are the list entries of system `16 b + j`. -/
theorem sum_block {M : Type} [AddCommMonoid M] {n : ℕ} (sys slot : Fin n → ℕ) (A B b j : ℕ) (π : Equiv.Perm (Fin n)) (hj : j < 16)
    (hA : ∀ q : Fin n, q.val < A ↔ sys (π q) / 16 < b) (hB : ∀ q : Fin n, q.val < B ↔ sys (π q) / 16 < b + 1)
    (hs : ∀ q, slot q = sys (π q) % 16) (f g : Fin n → M) (hfg : ∀ q, g q = f (π q)) :
    ∑ i ∈ Finset.range (B - A), (if h : A + i < n then (if slot ⟨A + i, h⟩ = j then g ⟨A + i, h⟩ else 0) else 0)
      = ∑ k : Fin n, if sys k = 16 * b + j then f k else 0 := by
  rw [← Equiv.sum_comp π]
  set T : ℕ → M := fun p => if h : p < n then (if A ≤ p ∧ p < B ∧ slot ⟨p, h⟩ = j then g ⟨p, h⟩ else 0) else 0 with hT
  have e1 : ∀ q : Fin n, (if sys (π q) = 16 * b + j then f (π q) else 0) = T q.val := fun q => by
    rw [hT]
    dsimp only
    rw [dif_pos q.isLt, ← hfg]
    have ha := hA q; have hb' := hB q; have hc := hs q
    have : sys (π q) = 16 * b + j ↔ (A ≤ q.val ∧ q.val < B ∧ slot q = j) := by
      constructor
      · intro h; rw [hc]; refine ⟨?_, ?_, ?_⟩ <;> omega
      · rintro ⟨h1, h2, h3⟩; omega
    by_cases h : sys (π q) = 16 * b + j
    · rw [if_pos h, if_pos (this.1 h)]
    · rw [if_neg h, if_neg fun x => h (this.2 x)]
  rw [Finset.sum_congr rfl fun q _ => e1 q, Fin.sum_univ_eq_sum_range T n]
  by_cases hAB : A ≤ B
  · have e2 : ∀ i ∈ Finset.range (B - A), (if h : A + i < n then (if slot ⟨A + i, h⟩ = j then g ⟨A + i, h⟩ else 0) else 0) = T (A + i) := fun i hi => by
      rw [Finset.mem_range] at hi
      rw [hT]
      dsimp only
      by_cases h : A + i < n
      · rw [dif_pos h, dif_pos h]
        congr 1
        simp only [eq_iff_iff]
        constructor
        · intro x; exact ⟨by omega, by omega, x⟩
        · exact fun x => x.2.2
      · rw [dif_neg h, dif_neg h]
    rw [Finset.sum_congr rfl e2, ← Finset.sum_Ico_eq_sum_range]
    have hz : ∀ p, ¬ (A ≤ p ∧ p < B ∧ p < n) → T p = 0 := fun p hp => by
      rw [hT]; dsimp only
      by_cases h : p < n
      · rw [dif_pos h, if_neg fun x => hp ⟨x.1, x.2.1, h⟩]
      · rw [dif_neg h]
    have s1 : ∑ p ∈ Finset.Ico A B, T p = ∑ p ∈ Finset.Ico A B ∩ Finset.range n, T p := by
      symm; refine Finset.sum_subset Finset.inter_subset_left fun p hp hn => hz p fun x => hn ?_
      rw [Finset.mem_inter, Finset.mem_Ico, Finset.mem_range]; omega
    have s2 : ∑ p ∈ Finset.range n, T p = ∑ p ∈ Finset.Ico A B ∩ Finset.range n, T p := by
      symm; refine Finset.sum_subset Finset.inter_subset_right fun p hp hn => hz p fun x => hn ?_
      rw [Finset.mem_inter, Finset.mem_Ico, Finset.mem_range]; omega
    rw [s1, s2]
  · rw [show B - A = 0 by omega, Finset.range_zero, Finset.sum_empty]
    symm
    refine Finset.sum_eq_zero fun p hp => ?_
    rw [hT]; dsimp only
    rw [dif_pos (Finset.mem_range.1 hp), if_neg fun x => hAB (by omega)]

end Cert.Proof.Grouping

end
-- ==== Proof.Lists.lean ====
module

public import proofs.«01_k».proof.Proof.Grouped
public import proofs.«01_k».proof.Proof.HostRead

@[expose] public section

noncomputable section

namespace Cert.Proof.KernelIdeal

open Cert.KernelIdeal
open Idealize.ShloMosaic Idealize.ShloMosaic.ValueIdx
open Cert.Proof.Grouping
open Idealize.ShloMosaic.Routing (shape0 shape1 shape2 shape3 pyDiv pyRem)

/-! ## The two lists after the host code's sorts -/

/-- The host code's regrouping of a list of indices, as a permutation of its entries. -/
theorem regrouped {n M : ℕ} (hn : n ≤ 4096) {hb : shape0.BroadcastsInDim (shape1 n) (![] : Fin 0 → Fin (shape1 n).rank)}
    {hc : (shape1 n).BroadcastsInDim (shape2 n 1) (![0] : Fin 1 → Fin (shape2 n 1).rank)}
    {cmp : BitVec 32 × BitVec 32 → BitVec 32 × BitVec 32 → BitVec 1} (hcmp : ∀ l r, cmp l r = IntOp.cmpi .slt l.1 r.1)
    {d : GatherDims (shape1 n) (shape2 n 1) (shape1 n)} (hcoll : d.collapsedSliceDims = [0])
    (hob : d.operandBatchingDims = []) (hsim : d.startIndexMap = [0]) (hivd : d.indexVectorDim = 1)
    {d' : GatherDims (shape1 M) (shape2 n 1) (shape1 n)} {k k' : BitVec 32}
    (idx sid rank blk slotOf key perm slots o0 o1 : IVec (shape1 n) 32) (off : IVec (shape1 M) 32)
    (hr : ∀ k, (idx (ix1 k)).toNat < 2048)
    (ho0 : o0 = order cmp idx) (hsid : sid = Host.gather d idx (column hb hc k o0))
    (hoff : ∀ j, ∃ f ≤ 4096, off (ix1 j) = BitVec.ofNat 32 f)
    (hrank : rank = subi (iotaInDim (shape1 n) 32 0) (Host.gather d' off (column hb hc k' sid)))
    (hblk : blk = pyDiv hb sid (constantI shape0 32 16#32)) (hslotOf : slotOf = pyRem hb sid (constantI shape0 32 16#32))
    (hkey : key = addi (muli (addi (muli blk (filled _ hb 8192#32)) rank) (filled _ hb 16#32)) slotOf)
    (ho1 : o1 = order cmp key) (hperm : perm = Host.gather d o0 (column hb hc k o1)) (hslots : slots = Host.gather d slotOf (column hb hc k o1)) :
    ∃ π : Equiv.Perm (Fin n), (∀ q, perm (ix1 q) = BitVec.ofNat 32 (π q).val)
      ∧ (∀ q, (slots (ix1 q)).toNat = (idx (ix1 (π q))).toNat % 16)
      ∧ ∀ (b : ℕ) (q : Fin n), q.val < below blk b ↔ (idx (ix1 (π q))).toNat / 16 < b := by
  obtain ⟨σ0, h0, -⟩ := order_spec cmp hcmp idx
  obtain ⟨σ1, h1, h1'⟩ := order_spec cmp hcmp key
  have take : ∀ {α : Type} (x : (shape1 n).Idx → α) (o : IVec (shape1 n) 32) (q b : Fin n), o (ix1 q) = BitVec.ofNat 32 b.val →
      Host.gather d x (column hb hc k o) (ix1 q) = x (ix1 b) := fun x o q b ho =>
    take_order (hcoll := hcoll) (hob := hob) (hsim := hsim) (hivd := hivd) (b := b) (hN := by omega) (ho := ho) ..
  refine grouped hn idx sid rank blk slotOf key perm slots σ0 σ1 hr ?_ ?_ ?_ ?_ hblk hslotOf hkey h1'
  · intro p; rw [hsid]; exact take _ _ _ _ (by rw [ho0]; exact h0 p)
  · intro q; rw [hperm, take _ _ _ (σ1 q) (by rw [ho1]; exact h1 q), ho0]; exact h0 _
  · intro q; rw [hslots]; exact take _ _ _ _ (by rw [ho1]; exact h1 q)
  · intro p
    rw [hrank]
    obtain ⟨c, hc'⟩ : ∃ c, Host.gather d' off (column hb hc k' sid) (ix1 p) = off c := ⟨_, rfl⟩
    obtain ⟨j, rfl⟩ : ∃ j : Fin M, c = ix1 j := ⟨c 0, eq_ix1 c⟩
    obtain ⟨f, hf, e⟩ := hoff j
    refine ⟨f, hf, ?_⟩
    show IntOp.subi (iotaInDim (shape1 n) 32 0 (ix1 p)) (Host.gather d' off (column hb hc k' sid) (ix1 p)) = _
    rw [hc', e]
    rfl

variable {F : FTy → Type} [FloatOps F] (W : Valuation τ sig (Elt F))

/-- The spheres' list after the sorts: which entry stands at each position, its slot, and where each step's stretch begins. -/
theorem sis_regrouped (hr : ∀ k, ((host W main_arg3 : IVec (shape1 4096) 32) (ix1 k)).toNat < 2048) :
    ∃ π : Equiv.Perm (Fin 4096), (∀ q, (host W main_call0_v56 : IVec (shape1 4096) 32) (ix1 q) = BitVec.ofNat 32 (π q).val)
      ∧ (∀ q, ((host W main_call0_v76 : IVec (shape1 4096) 32) (ix1 q)).toNat = ((host W main_arg3 : IVec (shape1 4096) 32) (ix1 (π q))).toNat % 16)
      ∧ ∀ (b : ℕ) (q : Fin 4096), q.val < below (host W main_call0_v41 : IVec (shape1 4096) 32) b ↔ ((host W main_arg3 : IVec (shape1 4096) 32) (ix1 (π q))).toNat / 16 < b :=
  regrouped (M := 2049) le_rfl (fun _ _ => rfl) rfl rfl rfl rfl _ _ _ _ _ _ _ _ _ _ (host W main_call0_v31 : IVec (shape1 2049) 32) hr
    (sis_order0 W) (sis_sid W)
    (fun j => ⟨below (host W main_arg3 : IVec (shape1 4096) 32) j.val, below_le _ _, by
      rw [sis_off, sis_counts]
      exact sums_counts (hN1 := rfl) (hM := rfl) (hiw := rfl) (hsd := rfl) (hivd := rfl) (j := j) ..⟩)
    (sis_rank W) (sis_block W) (sis_slotOf W) (sis_key W) (sis_order1 W) (sis_perm W) (sis_slots W)

/-- The power laws' list likewise. -/
theorem pemd_regrouped (hr : ∀ k, ((host W main_arg4 : IVec (shape1 2048) 32) (ix1 k)).toNat < 2048) :
    ∃ π : Equiv.Perm (Fin 2048), (∀ q, (host W main_call0_v142 : IVec (shape1 2048) 32) (ix1 q) = BitVec.ofNat 32 (π q).val)
      ∧ (∀ q, ((host W main_call0_v162 : IVec (shape1 2048) 32) (ix1 q)).toNat = ((host W main_arg4 : IVec (shape1 2048) 32) (ix1 (π q))).toNat % 16)
      ∧ ∀ (b : ℕ) (q : Fin 2048), q.val < below (host W main_call0_v127 : IVec (shape1 2048) 32) b ↔ ((host W main_arg4 : IVec (shape1 2048) 32) (ix1 (π q))).toNat / 16 < b :=
  regrouped (M := 2049) (by decide) (fun _ _ => rfl) rfl rfl rfl rfl _ _ _ _ _ _ _ _ _ _ (host W main_call0_v117 : IVec (shape1 2049) 32) hr
    (pemd_order0 W) (pemd_sid W)
    (fun j => ⟨below (host W main_arg4 : IVec (shape1 2048) 32) j.val, (below_le _ _).trans (by decide), by
      rw [pemd_off, pemd_counts]
      exact sums_counts (hN1 := rfl) (hM := rfl) (hiw := rfl) (hsd := rfl) (hivd := rfl) (j := j) ..⟩)
    (pemd_rank W) (pemd_block W) (pemd_slotOf W) (pemd_key W) (pemd_order1 W) (pemd_perm W) (pemd_slots W)

end Cert.Proof.KernelIdeal

end
-- ==== Proof.Fields.lean ====
module

public import proofs.«01_k».proof.Proof.Lists
public import proofs.«01_k».proof.Proof.Trip
public import Idealize.ShloMosaic.Lib.Pointwise

@[expose] public section

noncomputable section

namespace Cert.Proof.KernelIdeal

open Cert.KernelIdeal
open Idealize.ShloMosaic
open Cert.Proof.Grouping
open Idealize.ShloMosaic.Routing (shape0 shape1 shape2 shape3)

/-! ## What the planes of the two loops hold, entry by entry, over the extended reals -/

variable (W : Valuation τ sig (Elt Ideal))

/-- The softened squared distance of the grid point `(gx, gy)` from the centre `(cx, cy)`, multiplied out as the kernel does. -/
def square (gx gy cx cy : EReal) : EReal :=
  gx * gx + gy * gy + Ideal.ofBits .f32 0x358637BD#32 + (cx * cx + cy * cy) + Ideal.ofBits .f32 0xC0000000#32 * cx * gx + Ideal.ofBits .f32 0xC0000000#32 * cy * gy

/-- A sphere's factor at a grid point. -/
def sphere (gx gy θ cx cy : EReal) : EReal := θ * Ideal.rsqrt (square gx gy cx cy)

/-- A power law's factor at a grid point. -/
def power (gx gy θ γ cx cy : EReal) : EReal :=
  Ideal.exp ((γ - Ideal.ofBits .f32 0x3F800000#32) * Ideal.log θ
    + Ideal.ofBits .f32 0x3F000000#32 * (Ideal.ofBits .f32 0x40000000#32 - γ) * Ideal.log (square gx gy cx cy)) * Ideal.rsqrt (square gx gy cx cy)

/-- A grid plane: the points in rows of 128. -/
theorem plane_x (a0 : FVec Ideal S64x64x2 .f32) (y : Fin 32) (x : Fin 128) (h w : Fin 64) (e : 128 * y.val + x.val = 64 * h.val + w.val) :
    (shapeCast (shape2 32 128) (shapeCast (shape2 64 64)
      (extractStridedSlice (shape3 64 64 1) ![0, 0, 0] a0 Gen.slices_S64x64x2_S64x64x1_0_0_0) Gen.shapeCasts_S64x64x1_S64x64) Gen.shapeCasts_S64x64_S32x128 : FVec Ideal (shape2 32 128) .f32) (ix2 y x) = a0 (ix3 h w 0) := by
  pointwise
  congr 2 <;> apply Fin.ext <;> dsimp only <;> omega

/-- The other coordinate likewise. -/
theorem plane_y (a0 : FVec Ideal S64x64x2 .f32) (y : Fin 32) (x : Fin 128) (h w : Fin 64) (e : 128 * y.val + x.val = 64 * h.val + w.val) :
    (shapeCast (shape2 32 128) (shapeCast (shape2 64 64)
      (extractStridedSlice (shape3 64 64 1) ![0, 0, 1] a0 Gen.slices_S64x64x2_S64x64x1_0_0_1) Gen.shapeCasts_S64x64x1_S64x64) Gen.shapeCasts_S64x64_S32x128 : FVec Ideal (shape2 32 128) .f32) (ix2 y x) = a0 (ix3 h w 1) := by
  pointwise
  congr 2 <;> apply Fin.ext <;> dsimp only <;> omega

section Entries
variable (y : Fin 32) (x : Fin 128) (h w : Fin 64) (e : 128 * y.val + x.val = 64 * h.val + w.val)
include e

theorem gx_at : (host W main_call0_v2 : FVec Ideal S32x128 .f32) (ix2 y x) = (host W main_arg0 : FVec Ideal S64x64x2 .f32) (ix3 h w 0) := by
  rw [grid_x]; exact plane_x _ y x h w e

theorem gy_at : (host W main_call0_v5 : FVec Ideal S32x128 .f32) (ix2 y x) = (host W main_arg0 : FVec Ideal S64x64x2 .f32) (ix3 h w 1) := by
  rw [grid_y]; exact plane_y _ y x h w e

end Entries

theorem g2_at (y : Fin 32) (x : Fin 128) (p q : EReal) (hp : (host W main_call0_v2 : FVec Ideal S32x128 .f32) (ix2 y x) = p)
    (hq : (host W main_call0_v5 : FVec Ideal S32x128 .f32) (ix2 y x) = q) :
    (host W main_call0_v10 : FVec Ideal S32x128 .f32) (ix2 y x) = p * p + q * q + Ideal.ofBits .f32 0x358637BD#32 := by
  rw [grid_sq, ← hp, ← hq]
  generalize (host W main_call0_v2 : FVec Ideal S32x128 .f32) = gx
  generalize (host W main_call0_v5 : FVec Ideal S32x128 .f32) = gy
  pointwise

/-- A column of a table, as a list. -/
theorem col4096 (t : FVec Ideal (shape2 4096 3) .f32) (q : Fin 4096) :
    (shapeCast (shape1 4096) (extractStridedSlice (shape2 4096 1) ![0, 0] t Gen.slices_S4096x3_S4096x1_0_0) Gen.shapeCasts_S4096x1_S4096 : FVec Ideal (shape1 4096) .f32) (ix1 q) = t (ix2 q 0)
    ∧ (shapeCast (shape1 4096) (extractStridedSlice (shape2 4096 1) ![0, 1] t Gen.slices_S4096x3_S4096x1_0_1) Gen.shapeCasts_S4096x1_S4096 : FVec Ideal (shape1 4096) .f32) (ix1 q) = t (ix2 q 1)
    ∧ (shapeCast (shape1 4096) (extractStridedSlice (shape2 4096 1) ![0, 2] t Gen.slices_S4096x3_S4096x1_0_2) Gen.shapeCasts_S4096x1_S4096 : FVec Ideal (shape1 4096) .f32) (ix1 q) = t (ix2 q 2) := by
  refine ⟨?_, ?_, ?_⟩ <;> pointwise

theorem col2048 (t : FVec Ideal (shape2 2048 4) .f32) (q : Fin 2048) :
    (shapeCast (shape1 2048) (extractStridedSlice (shape2 2048 1) ![0, 0] t Gen.slices_S2048x4_S2048x1_0_0) Gen.shapeCasts_S2048x1_S2048 : FVec Ideal (shape1 2048) .f32) (ix1 q) = t (ix2 q 0)
    ∧ (shapeCast (shape1 2048) (extractStridedSlice (shape2 2048 1) ![0, 1] t Gen.slices_S2048x4_S2048x1_0_1) Gen.shapeCasts_S2048x1_S2048 : FVec Ideal (shape1 2048) .f32) (ix1 q) = t (ix2 q 1)
    ∧ (shapeCast (shape1 2048) (extractStridedSlice (shape2 2048 1) ![0, 2] t Gen.slices_S2048x4_S2048x1_0_2) Gen.shapeCasts_S2048x1_S2048 : FVec Ideal (shape1 2048) .f32) (ix1 q) = t (ix2 q 2)
    ∧ (shapeCast (shape1 2048) (extractStridedSlice (shape2 2048 1) ![0, 3] t Gen.slices_S2048x4_S2048x1_0_3) Gen.shapeCasts_S2048x1_S2048 : FVec Ideal (shape1 2048) .f32) (ix1 q) = t (ix2 q 3) := by
  refine ⟨?_, ?_, ?_, ?_⟩ <;> pointwise

/-- A row of the spheres' table after the sort: the row of the entry that stands there. -/
theorem sis_row (π : Equiv.Perm (Fin 4096)) (hπ : ∀ q, (host W main_call0_v56 : IVec (shape1 4096) 32) (ValueIdx.ix1 q) = BitVec.ofNat 32 (π q).val)
    (q : Fin 4096) (z : Fin 3) : (host W main_call0_v83 : FVec Ideal (shape2 4096 3) .f32) (ix2 q z) = (host W main_arg1 : FVec Ideal S4096x3 .f32) (ix2 (π q) z) := by
  have hq := (π q).isLt
  rw [sis_rows, ix2_eq_valueIdx, ix2_eq_valueIdx]
  refine Routing.gather_row (nb := 4096) (B := 3) (n := 4096) _ rfl rfl rfl rfl rfl _ _ q z (π q) ?_ (by decide)
  rw [column_apply _ _ _ (by rw [hπ, StableHlo.Predicate.toInt_ofNat_small _ (by omega)]; omega), hπ]

/-- The power laws' table likewise. -/
theorem pemd_row (π : Equiv.Perm (Fin 2048)) (hπ : ∀ q, (host W main_call0_v142 : IVec (shape1 2048) 32) (ValueIdx.ix1 q) = BitVec.ofNat 32 (π q).val)
    (q : Fin 2048) (z : Fin 4) : (host W main_call0_v169 : FVec Ideal (shape2 2048 4) .f32) (ix2 q z) = (host W main_arg2 : FVec Ideal S2048x4 .f32) (ix2 (π q) z) := by
  have hq := (π q).isLt
  rw [pemd_rows, ix2_eq_valueIdx, ix2_eq_valueIdx]
  refine Routing.gather_row (nb := 2048) (B := 4) (n := 2048) _ rfl rfl rfl rfl rfl _ _ q z (π q) ?_ (by decide)
  rw [column_apply _ _ _ (by rw [hπ, StableHlo.Predicate.toInt_ofNat_small _ (by omega)]; omega), hπ]

/-- The plane a sphere adds, at an entry. -/
theorem coefS_at (v1 v3 v5 : FVec Ideal S32x128 .f32) (w4 w5 w6 w7 : S4096.Idx → EReal) (q : Fin 4096) (y : Fin 32) (x : Fin 128) :
    (coefS v1 v3 v5 w4 w5 w6 w7 q : FVec Ideal S32x128 .f32) (ix2 y x)
      = w7 (ix1 q) * Ideal.rsqrt (v1 (ix2 y x) + w6 (ix1 q) + w4 (ix1 q) * v3 (ix2 y x) + w5 (ix1 q) * v5 (ix2 y x)) := by
  unfold coefS
  rw [← ix1_eq_valueIdx]
  generalize w4 (ix1 q) = z4
  generalize w5 (ix1 q) = z5
  generalize w6 (ix1 q) = z6
  generalize w7 (ix1 q) = z7
  pointwise [Gen.k0_pay4]

/-- The plane a power law adds, at an entry. -/
theorem coefP_at (v1 v3 v5 : FVec Ideal S32x128 .f32) (w11 w12 w13 w14 w15 : S2048.Idx → EReal) (q : Fin 2048) (y : Fin 32) (x : Fin 128) :
    (coefP v1 v3 v5 w11 w12 w13 w14 w15 q : FVec Ideal S32x128 .f32) (ix2 y x)
      = Ideal.exp (w14 (ix1 q) + w15 (ix1 q) * Ideal.log (v1 (ix2 y x) + w13 (ix1 q) + w11 (ix1 q) * v3 (ix2 y x) + w12 (ix1 q) * v5 (ix2 y x)))
        * Ideal.rsqrt (v1 (ix2 y x) + w13 (ix1 q) + w11 (ix1 q) * v3 (ix2 y x) + w12 (ix1 q) * v5 (ix2 y x)) := by
  unfold coefP
  rw [← ix1_eq_valueIdx]
  generalize w11 (ix1 q) = z11
  generalize w12 (ix1 q) = z12
  generalize w13 (ix1 q) = z13
  generalize w14 (ix1 q) = z14
  generalize w15 (ix1 q) = z15
  pointwise [Gen.k0_pay12]

/-- The spheres' tables at a place, from the row there. -/
theorem sis_tables (q : Fin 4096) (t : FVec Ideal (shape2 4096 3) .f32) (ht : (host W main_call0_v83 : FVec Ideal (shape2 4096 3) .f32) = t) :
    (host W main_call0_v85 : FVec Ideal S4096 .f32) (ix1 q) = t (ix2 q 0)
    ∧ (host W main_call0_v87 : FVec Ideal S4096 .f32) (ix1 q) = t (ix2 q 1) ∧ (host W main_call0_v89 : FVec Ideal S4096 .f32) (ix1 q) = t (ix2 q 2)
    ∧ (host W main_call0_v91 : FVec Ideal S4096 .f32) (ix1 q) = Ideal.ofBits .f32 0xC0000000#32 * t (ix2 q 1)
    ∧ (host W main_call0_v93 : FVec Ideal S4096 .f32) (ix1 q) = Ideal.ofBits .f32 0xC0000000#32 * t (ix2 q 2)
    ∧ (host W main_call0_v96 : FVec Ideal S4096 .f32) (ix1 q) = t (ix2 q 1) * t (ix2 q 1) + t (ix2 q 2) * t (ix2 q 2) := by
  obtain ⟨c0, c1, c2⟩ := col4096 t q
  have e0 : (host W main_call0_v85 : FVec Ideal S4096 .f32) (ix1 q) = t (ix2 q 0) := by rw [sis_theta, ht]; exact c0
  have e1 : (host W main_call0_v87 : FVec Ideal S4096 .f32) (ix1 q) = t (ix2 q 1) := by rw [sis_cx, ht]; exact c1
  have e2 : (host W main_call0_v89 : FVec Ideal S4096 .f32) (ix1 q) = t (ix2 q 2) := by rw [sis_cy, ht]; exact c2
  refine ⟨e0, e1, e2, ?_, ?_, ?_⟩
  · rw [sis_m2cx, ← e1]; generalize (host W main_call0_v87 : FVec Ideal S4096 .f32) = z; pointwise
  · rw [sis_m2cy, ← e2]; generalize (host W main_call0_v89 : FVec Ideal S4096 .f32) = z; pointwise
  · rw [sis_cc, ← e1, ← e2]; generalize (host W main_call0_v87 : FVec Ideal S4096 .f32) = z; generalize (host W main_call0_v89 : FVec Ideal S4096 .f32) = z'; pointwise

/-- The power laws' tables at a place, from the row there. -/
theorem pemd_tables (q : Fin 2048) (t : FVec Ideal (shape2 2048 4) .f32) (ht : (host W main_call0_v169 : FVec Ideal (shape2 2048 4) .f32) = t) :
    (host W main_call0_v175 : FVec Ideal S2048 .f32) (ix1 q) = t (ix2 q 2) ∧ (host W main_call0_v177 : FVec Ideal S2048 .f32) (ix1 q) = t (ix2 q 3)
    ∧ (host W main_call0_v181 : FVec Ideal S2048 .f32) (ix1 q) = (t (ix2 q 1) - Ideal.ofBits .f32 0x3F800000#32) * Ideal.log (t (ix2 q 0))
    ∧ (host W main_call0_v185 : FVec Ideal S2048 .f32) (ix1 q) = Ideal.ofBits .f32 0x3F000000#32 * (Ideal.ofBits .f32 0x40000000#32 - t (ix2 q 1))
    ∧ (host W main_call0_v187 : FVec Ideal S2048 .f32) (ix1 q) = Ideal.ofBits .f32 0xC0000000#32 * t (ix2 q 2)
    ∧ (host W main_call0_v189 : FVec Ideal S2048 .f32) (ix1 q) = Ideal.ofBits .f32 0xC0000000#32 * t (ix2 q 3)
    ∧ (host W main_call0_v192 : FVec Ideal S2048 .f32) (ix1 q) = t (ix2 q 2) * t (ix2 q 2) + t (ix2 q 3) * t (ix2 q 3) := by
  obtain ⟨c0, c1, c2, c3⟩ := col2048 t q
  have e0 : (host W main_call0_v171 : FVec Ideal S2048 .f32) (ix1 q) = t (ix2 q 0) := by rw [pemd_theta, ht]; exact c0
  have e1 : (host W main_call0_v173 : FVec Ideal S2048 .f32) (ix1 q) = t (ix2 q 1) := by rw [pemd_gamma, ht]; exact c1
  have e2 : (host W main_call0_v175 : FVec Ideal S2048 .f32) (ix1 q) = t (ix2 q 2) := by rw [pemd_cx, ht]; exact c2
  have e3 : (host W main_call0_v177 : FVec Ideal S2048 .f32) (ix1 q) = t (ix2 q 3) := by rw [pemd_cy, ht]; exact c3
  refine ⟨e2, e3, ?_, ?_, ?_, ?_, ?_⟩
  · rw [pemd_pow, ← e0, ← e1]; generalize (host W main_call0_v171 : FVec Ideal S2048 .f32) = z; generalize (host W main_call0_v173 : FVec Ideal S2048 .f32) = z'; pointwise [Ideal.ofBits_one_f32]
  · rw [pemd_slope, ← e1]; generalize (host W main_call0_v173 : FVec Ideal S2048 .f32) = z; pointwise
  · rw [pemd_m2cx, ← e2]; generalize (host W main_call0_v175 : FVec Ideal S2048 .f32) = z; pointwise
  · rw [pemd_m2cy, ← e3]; generalize (host W main_call0_v177 : FVec Ideal S2048 .f32) = z; pointwise
  · rw [pemd_cc, ← e2, ← e3]; generalize (host W main_call0_v175 : FVec Ideal S2048 .f32) = z; generalize (host W main_call0_v177 : FVec Ideal S2048 .f32) = z'; pointwise

/-! ## The planes by list entry -/

section Args
variable (a0 : FVec Ideal S64x64x2 .f32) (a1 : FVec Ideal S4096x3 .f32) (a2 : FVec Ideal S2048x4 .f32) (a3 : IVec S4096 32) (a4 : IVec S2048 32)

/-- The factor of sphere `k` at the grid point in row `h`, column `w`. -/
def sphereAt (h w : Fin 64) (k : Fin 4096) : EReal :=
  sphere (a0 (ix3 h w 0)) (a0 (ix3 h w 1)) (a1 (ix2 k 0)) (a1 (ix2 k 1)) (a1 (ix2 k 2))

/-- The factor of power law `k` there. -/
def powerAt (h w : Fin 64) (k : Fin 2048) : EReal :=
  power (a0 (ix3 h w 0)) (a0 (ix3 h w 1)) (a2 (ix2 k 0)) (a2 (ix2 k 1)) (a2 (ix2 k 2)) (a2 (ix2 k 3))

/-- A sum over the spheres and the power laws of system `s`. -/
def total (s : ℕ) (f : Fin 4096 → EReal) (g : Fin 2048 → EReal) : EReal :=
  (∑ k, if (a3 (ix1 k)).toNat = s then f k else 0) + ∑ k, if (a4 (ix1 k)).toNat = s then g k else 0

/-- Coordinate `c` of the centre of sphere `k`. -/
def centreS (c : Fin 2) (k : Fin 4096) : EReal := a1 (ix2 k ⟨1 + c.val, by omega⟩)

/-- Coordinate `c` of the centre of power law `k`. -/
def centreP (c : Fin 2) (k : Fin 2048) : EReal := a2 (ix2 k ⟨2 + c.val, by omega⟩)

/-- What the kernel leaves for system `s`, direction `c`. -/
def entry (s : ℕ) (h w : Fin 64) (c : Fin 2) : EReal :=
  a0 (ix3 h w c) * (1 - total a3 a4 s (sphereAt a0 a1 h w) (powerAt a0 a2 h w))
    + total a3 a4 s (fun k => centreS a1 c k * sphereAt a0 a1 h w k) (fun k => centreP a2 c k * powerAt a0 a2 h w k)

end Args

section Planes
variable (y : Fin 32) (x : Fin 128) (h w : Fin 64) (e : 128 * y.val + x.val = 64 * h.val + w.val)
include e

/-- The plane of the sphere that stands at `q`. -/
theorem sphere_plane (π : Equiv.Perm (Fin 4096)) (hπ : ∀ q, (host W main_call0_v56 : IVec (shape1 4096) 32) (ValueIdx.ix1 q) = BitVec.ofNat 32 (π q).val) (q : Fin 4096) :
    (coefS (F := Ideal) (host W main_call0_v10) (host W main_call0_v2) (host W main_call0_v5) (host W main_call0_v91) (host W main_call0_v93) (host W main_call0_v96) (host W main_call0_v85) q : FVec Ideal S32x128 .f32) (ix2 y x)
      = sphereAt (host W main_arg0) (host W main_arg1) h w (π q) := by
  obtain ⟨t0, t1, t2, t3, t4, t5⟩ := sis_tables W q _ rfl
  rw [coefS_at, g2_at W y x _ _ (gx_at W y x h w e) (gy_at W y x h w e), gx_at W y x h w e, gy_at W y x h w e, t0, t3, t4, t5]
  rw [sis_row W π hπ q 0, sis_row W π hπ q 1, sis_row W π hπ q 2]
  rfl

/-- The plane of the power law that stands at `q`. -/
theorem power_plane (π : Equiv.Perm (Fin 2048)) (hπ : ∀ q, (host W main_call0_v142 : IVec (shape1 2048) 32) (ValueIdx.ix1 q) = BitVec.ofNat 32 (π q).val) (q : Fin 2048) :
    (coefP (F := Ideal) (host W main_call0_v10) (host W main_call0_v2) (host W main_call0_v5) (host W main_call0_v187) (host W main_call0_v189) (host W main_call0_v192) (host W main_call0_v181) (host W main_call0_v185) q : FVec Ideal S32x128 .f32) (ix2 y x)
      = powerAt (host W main_arg0) (host W main_arg2) h w (π q) := by
  obtain ⟨t0, t1, t2, t3, t4, t5, t6⟩ := pemd_tables W q _ rfl
  rw [coefP_at, g2_at W y x _ _ (gx_at W y x h w e) (gy_at W y x h w e), gx_at W y x h w e, gy_at W y x h w e, t2, t3, t4, t5, t6]
  rw [pemd_row W π hπ q 0, pemd_row W π hπ q 1, pemd_row W π hπ q 2, pemd_row W π hπ q 3]
  rfl

end Planes

end Cert.Proof.KernelIdeal

end
-- ==== Proof.Sums.lean ====
module

public import Idealize.ShloMosaic.PureOps.Ideal.Laws
public import proofs.«01_k».proof.Proof.Grouped
public import proofs.«01_k».proof.Proof.Step
public import proofs.«01_k».proof.Proof.Tables
public import Idealize.ShloMosaic.PureOps.Ideal

@[expose] public section

noncomputable section

namespace Cert.Proof.KernelIdeal

open Cert.KernelIdeal
open Idealize.ShloMosaic Idealize.ShloMosaic.ValueIdx
open Cert.Proof.Grouping
open Idealize.ShloMosaic.Routing (shape0 shape1 shape2 shape3 pyDiv pyRem)

/-! ## What the two loops leave in an accumulator, over the extended reals -/

/-- After `k` trips, plane `j` has gained the planes of the trips whose slot is `j`. -/
theorem accum_row {n : ℕ} (slot : Fin n → ℕ) (P : Fin n → FVec Ideal S32x128 .f32) (A : FVec Ideal S16x32x128 .f32)
    (j : Fin 16) (a : Fin 32) (b : Fin 128) : ∀ k ≤ n,
    (accum n (fun k A => addRow A (slot k) (P k)) A k : FVec Ideal S16x32x128 .f32) (ix3 j a b)
      = A (ix3 j a b) + ∑ i ∈ Finset.range k, (if h : i < n then (if slot ⟨i, h⟩ = j.val then P ⟨i, h⟩ (ix2 a b) else 0) else 0)
  | 0, _ => by rw [Finset.range_zero, Finset.sum_empty, add_zero]; rfl
  | k + 1, hk => by
    have ih := accum_row slot P A j a b k (by omega)
    have hk' : k < n := hk
    rw [accum, dif_pos hk', Finset.sum_range_succ, dif_pos hk', ← add_assoc, ← ih]
    unfold addRow
    by_cases h : slot ⟨k, hk'⟩ = j.val
    · rw [if_pos h, if_pos (by exact h.symm)]
      rfl
    · rw [if_neg h, if_neg (by exact fun e => h e.symm), add_zero]

section Loops
variable {lo hi : BitVec 32} {A B : ℕ} (hlo : lo = BitVec.ofNat 32 A) (hhi : hi = BitVec.ofNat 32 B) (hAB : A ≤ B)
include hlo hhi hAB

/-- The first loop over the stretch from `A` to `B`. -/
theorem accS_value (hB : B ≤ 4096) (hw : k0_chk1 lo hi) (w : S4096.Idx → BitVec 32) (P : Fin 4096 → FVec Ideal S32x128 .f32)
    (Z : FVec Ideal S16x32x128 .f32) (j : Fin 16) (a : Fin 32) (b : Fin 128) :
    accS lo hi hw w P Z (k0_t1_loop lo hi).trips (ix3 j a b)
      = Z (ix3 j a b) + ∑ i ∈ Finset.range (B - A), (if h : A + i < 4096 then (if (w (ix1 ⟨A + i, h⟩)).toNat = j.val then P ⟨A + i, h⟩ (ix2 a b) else 0) else 0) := by
  have ht := t1_trips hlo hhi hAB (by omega)
  unfold accS
  rw [accum_row _ _ _ _ _ _ _ le_rfl]
  congr 1
  refine Finset.sum_congr (by rw [ht]) fun i hi' => ?_
  have hi2 : i < B - A := Finset.mem_range.1 hi'
  rw [dif_pos (lt_of_lt_of_eq hi2 ht.symm), dif_pos (by omega)]
  have e : ixS lo hi hw ⟨i, lt_of_lt_of_eq hi2 ht.symm⟩ = ⟨A + i, by omega⟩ := by
    apply Fin.ext
    show (Scf.iv lo 1#32 i).toNat = _
    rw [hlo, iv_nat _ _ (by omega)]
  rw [e]

/-- The second loop likewise. -/
theorem accP_value (hB : B ≤ 2048) (hw : k0_chk4 lo hi) (w : S2048.Idx → BitVec 32) (P : Fin 2048 → FVec Ideal S32x128 .f32)
    (Z : FVec Ideal S16x32x128 .f32) (j : Fin 16) (a : Fin 32) (b : Fin 128) :
    accP lo hi hw w P Z (k0_t3_loop lo hi).trips (ix3 j a b)
      = Z (ix3 j a b) + ∑ i ∈ Finset.range (B - A), (if h : A + i < 2048 then (if (w (ix1 ⟨A + i, h⟩)).toNat = j.val then P ⟨A + i, h⟩ (ix2 a b) else 0) else 0) := by
  have ht := t3_trips hlo hhi hAB (by omega)
  unfold accP
  rw [accum_row _ _ _ _ _ _ _ le_rfl]
  congr 1
  refine Finset.sum_congr (by rw [ht]) fun i hi' => ?_
  have hi2 : i < B - A := Finset.mem_range.1 hi'
  rw [dif_pos (lt_of_lt_of_eq hi2 ht.symm), dif_pos (by omega)]
  have e : ixP lo hi hw ⟨i, lt_of_lt_of_eq hi2 ht.symm⟩ = ⟨A + i, by omega⟩ := by
    apply Fin.ext
    show (Scf.iv lo 1#32 i).toNat = _
    rw [hlo, iv_nat _ _ (by omega)]
  rw [e]

end Loops

/-- Both loops, over lists that are grouped by step: each accumulator's plane `j` holds the sums over the entries of system `16 b + j`. -/
theorem accBoth_value {lo hi plo phi : BitVec 32} (h1 : k0_chk1 lo hi) (h4 : k0_chk4 plo phi) {w3 : S4096.Idx → BitVec 32} {w10 : S2048.Idx → BitVec 32}
    {sysS : Fin 4096 → ℕ} {sysP : Fin 2048 → ℕ} {cutS cutP : ℕ → ℕ} (mS : ∀ b, cutS b ≤ cutS (b + 1)) (mP : ∀ b, cutP b ≤ cutP (b + 1))
    (lS : ∀ b, cutS b ≤ 4096) (lP : ∀ b, cutP b ≤ 2048) (π : Equiv.Perm (Fin 4096)) (ρ : Equiv.Perm (Fin 2048)) (b : ℕ)
    (elo : lo = BitVec.ofNat 32 (cutS b)) (ehi : hi = BitVec.ofNat 32 (cutS (b + 1)))
    (eplo : plo = BitVec.ofNat 32 (cutP b)) (ephi : phi = BitVec.ofNat 32 (cutP (b + 1)))
    (sS : ∀ q, (w3 (ix1 q)).toNat = sysS (π q) % 16) (sP : ∀ q, (w10 (ix1 q)).toNat = sysP (ρ q) % 16)
    (cS : ∀ b (q : Fin 4096), q.val < cutS b ↔ sysS (π q) / 16 < b) (cP : ∀ b (q : Fin 2048), q.val < cutP b ↔ sysP (ρ q) / 16 < b)
    (P : Fin 4096 → FVec Ideal S32x128 .f32) (Q : Fin 2048 → FVec Ideal S32x128 .f32) (j : Fin 16) (y : Fin 32) (x : Fin 128)
    (f : Fin 4096 → EReal) (g : Fin 2048 → EReal) (hf : ∀ q, P q (ix2 y x) = f (π q)) (hg : ∀ q, Q q (ix2 y x) = g (ρ q)) :
    (accBoth lo hi plo phi h1 h4 w3 w10 P Q : FVec Ideal S16x32x128 .f32) (ix3 j y x)
      = (∑ k, if sysS k = 16 * b + j.val then f k else 0) + ∑ k, if sysP k = 16 * b + j.val then g k else 0 := by
  unfold accBoth
  rw [accP_value eplo ephi (mP b) (lP _), accS_value elo ehi (mS b) (lS _)]
  rw [sum_block sysS (fun q => (w3 (ix1 q)).toNat) _ _ b j.val π j.isLt (cS b) (cS (b + 1)) sS f (fun q => P q (ix2 y x)) hf,
    sum_block sysP (fun q => (w10 (ix1 q)).toNat) _ _ b j.val ρ j.isLt (cP b) (cP (b + 1)) sP g (fun q => Q q (ix2 y x)) hg]
  congr 1
  have hz : (zeros16 : FVec Ideal S16x32x128 .f32) (ix3 j y x) = (0 : EReal) := Ideal.ofBits_zero_f32
  rw [hz, zero_add]

end Cert.Proof.KernelIdeal

end
-- ==== Proof.Output.lean ====
module

public import proofs.«01_k».proof.Proof.Fields
public import proofs.«01_k».proof.Proof.Sums
public import proofs.«01_k».proof.Proof.Tables

@[expose] public section

noncomputable section

namespace Cert.Proof.KernelIdeal

open Cert.KernelIdeal
open Idealize.ShloMosaic hiding ix0 ix1 ix2 ix3 ix4 ix5 ix6
open Idealize.ShloMosaic.ValueIdx
open Cert.Proof.Grouping
open Idealize.ShloMosaic.Routing (shape0 shape1 shape2 shape3)

/-! ## The block of one step, entry by entry, over the extended reals -/

variable (W : Valuation τ sig (Elt Ideal))

/-- The first direction of a stored block. -/
theorem outBlk_at0 (v3 v5 : FVec Ideal S32x128 .f32) (A22 A23 A24 : FVec Ideal S16x32x128 .f32) (j : Fin 16) (y : Fin 32) (x : Fin 128) :
    (outBlk v3 v5 A22 A23 A24 : FVec Ideal S16x2x32x128 .f32) (ix4 j 0 y x)
      = v3 (ix2 y x) * (Ideal.ofBits .f32 0x3F800000#32 - A22 (ix3 j y x)) + A23 (ix3 j y x) := rfl

/-- The second direction of a stored block. -/
theorem outBlk_at1 (v3 v5 : FVec Ideal S32x128 .f32) (A22 A23 A24 : FVec Ideal S16x32x128 .f32) (j : Fin 16) (y : Fin 32) (x : Fin 128) :
    (outBlk v3 v5 A22 A23 A24 : FVec Ideal S16x2x32x128 .f32) (ix4 j 1 y x)
      = v5 (ix2 y x) * (Ideal.ofBits .f32 0x3F800000#32 - A22 (ix3 j y x)) + A24 (ix3 j y x) := rfl

/-- Entry `(j, c, y, x)` of the block of step `b` is the entry of system `16 b + j`. -/
theorem block_at (h3 : ∀ k, ((host W main_arg3 : IVec (shape1 4096) 32) (ix1 k)).toNat < 2048) (h4 : ∀ k, ((host W main_arg4 : IVec (shape1 2048) 32) (ix1 k)).toNat < 2048)
    (b : Fin 128) (hc1 : k0_chk1 ((host W main_call0_v69 : S129.Idx → BitVec 32) (ix1 b.castSucc)) ((host W main_call0_v69 : S129.Idx → BitVec 32) (ix1 b.succ)))
    (hc4 : k0_chk4 ((host W main_call0_v155 : S129.Idx → BitVec 32) (ix1 b.castSucc)) ((host W main_call0_v155 : S129.Idx → BitVec 32) (ix1 b.succ)))
    (j : Fin 16) (c : Fin 2) (y : Fin 32) (x : Fin 128) (h w : Fin 64) (e : 128 * y.val + x.val = 64 * h.val + w.val) :
    (blockOf (F := Ideal) _ _ _ _ hc1 hc4 (host W main_call0_v76) (host W main_call0_v91) (host W main_call0_v93) (host W main_call0_v96) (host W main_call0_v85) (host W main_call0_v87) (host W main_call0_v89)
      (host W main_call0_v162) (host W main_call0_v187) (host W main_call0_v189) (host W main_call0_v192) (host W main_call0_v181) (host W main_call0_v185) (host W main_call0_v175) (host W main_call0_v177)
      (host W main_call0_v10) (host W main_call0_v2) (host W main_call0_v5) : FVec Ideal S16x2x32x128 .f32) (ix4 j c y x)
    = entry (host W main_arg0) (host W main_arg1) (host W main_arg2) (host W main_arg3) (host W main_arg4) (16 * b.val + j.val) h w c := by
  obtain ⟨π, p1, p2, p3⟩ := sis_regrouped W h3
  obtain ⟨ρ, r1, r2, r3⟩ := pemd_regrouped W h4
  have value : ∀ (P : Fin 4096 → FVec Ideal S32x128 .f32) (Q : Fin 2048 → FVec Ideal S32x128 .f32) (f : Fin 4096 → EReal) (g : Fin 2048 → EReal)
      (hf : ∀ q, P q (ix2 y x) = f (π q)) (hg : ∀ q, Q q (ix2 y x) = g (ρ q)),
      (accBoth _ _ _ _ hc1 hc4 (host W main_call0_v76) (host W main_call0_v162) P Q : FVec Ideal S16x32x128 .f32) (ix3 j y x)
        = total (host W main_arg3) (host W main_arg4) (16 * b.val + j.val) f g := by
    intro P Q f g hf hg
    refine (accBoth_value (cutS := fun i => below (host W main_call0_v41 : IVec (shape1 4096) 32) i) (cutP := fun i => below (host W main_call0_v127 : IVec (shape1 2048) 32) i)
      (sysS := fun k => ((host W main_arg3 : IVec (shape1 4096) 32) (ix1 k)).toNat) (sysP := fun k => ((host W main_arg4 : IVec (shape1 2048) 32) (ix1 k)).toNat)
      hc1 hc4 (fun i => below_mono _ (Nat.le_succ _)) (fun i => below_mono _ (Nat.le_succ _)) (fun i => below_le _ _) (fun i => below_le _ _) π ρ b.val
      (sis_bounds_val W b.castSucc) (sis_bounds_val W b.succ) (pemd_bounds_val W b.castSucc) (pemd_bounds_val W b.succ) p2 r2 p3 r3 P Q j y x f g hf hg).trans ?_
    unfold total
    simp only [ix1_eq_valueIdx]
  have hs : ∀ q, (coefS (F := Ideal) (host W main_call0_v10) (host W main_call0_v2) (host W main_call0_v5) (host W main_call0_v91) (host W main_call0_v93) (host W main_call0_v96) (host W main_call0_v85) q : FVec Ideal S32x128 .f32) (ix2 y x)
      = sphereAt (host W main_arg0) (host W main_arg1) h w (π q) := fun q => by
    rw [← ix2_eq_valueIdx]; exact sphere_plane W y x h w e π p1 q
  have hp : ∀ q, (coefP (F := Ideal) (host W main_call0_v10) (host W main_call0_v2) (host W main_call0_v5) (host W main_call0_v187) (host W main_call0_v189) (host W main_call0_v192) (host W main_call0_v181) (host W main_call0_v185) q : FVec Ideal S32x128 .f32) (ix2 y x)
      = powerAt (host W main_arg0) (host W main_arg2) h w (ρ q) := fun q => by
    rw [← ix2_eq_valueIdx]; exact power_plane W y x h w e ρ r1 q
  have scale : ∀ (z z' p : EReal) (P : FVec Ideal S32x128 .f32) (hz : z = z') (hP : P (ix2 y x) = p), (scaled (F := Ideal) z P : FVec Ideal S32x128 .f32) (ix2 y x) = z' * p := by
    intro z z' p P hz hP
    rw [← hz, ← hP]; rfl
  have sx : ∀ q, (host W main_call0_v87 : FVec Ideal (shape1 4096) .f32) (ix1 q) = centreS (host W main_arg1) 0 (π q) := fun q => by
    obtain ⟨-, t, -⟩ := sis_tables W q _ rfl
    rw [← ix1_eq_valueIdx]; exact t.trans (sis_row W π p1 q 1)
  have sy : ∀ q, (host W main_call0_v89 : FVec Ideal (shape1 4096) .f32) (ix1 q) = centreS (host W main_arg1) 1 (π q) := fun q => by
    obtain ⟨-, -, t, -⟩ := sis_tables W q _ rfl
    rw [← ix1_eq_valueIdx]; exact t.trans (sis_row W π p1 q 2)
  have px : ∀ q, (host W main_call0_v175 : FVec Ideal (shape1 2048) .f32) (ix1 q) = centreP (host W main_arg2) 0 (ρ q) := fun q => by
    obtain ⟨t, -⟩ := pemd_tables W q _ rfl
    rw [← ix1_eq_valueIdx]; exact t.trans (pemd_row W ρ r1 q 2)
  have py : ∀ q, (host W main_call0_v177 : FVec Ideal (shape1 2048) .f32) (ix1 q) = centreP (host W main_arg2) 1 (ρ q) := fun q => by
    obtain ⟨-, t, -⟩ := pemd_tables W q _ rfl
    rw [← ix1_eq_valueIdx]; exact t.trans (pemd_row W ρ r1 q 3)
  have c2 : c = 0 ∨ c = 1 := by omega
  unfold blockOf
  rcases c2 with rfl | rfl
  · rw [outBlk_at0, value _ _ _ _ hs hp, value _ _ (fun k => centreS (host W main_arg1) 0 k * sphereAt (host W main_arg0) (host W main_arg1) h w k)
      (fun k => centreP (host W main_arg2) 0 k * powerAt (host W main_arg0) (host W main_arg2) h w k)
      (fun q => scale _ _ _ _ (sx q) (hs q)) (fun q => scale _ _ _ _ (px q) (hp q)), ← ix2_eq_valueIdx, gx_at W y x h w e, Ideal.ofBits_one_f32]
    rfl
  · rw [outBlk_at1, value _ _ _ _ hs hp, value _ _ (fun k => centreS (host W main_arg1) 1 k * sphereAt (host W main_arg0) (host W main_arg1) h w k)
      (fun k => centreP (host W main_arg2) 1 k * powerAt (host W main_arg0) (host W main_arg2) h w k)
      (fun q => scale _ _ _ _ (sy q) (hs q)) (fun q => scale _ _ _ _ (py q) (hp q)), ← ix2_eq_valueIdx, gy_at W y x h w e, Ideal.ofBits_one_f32]
    rfl

/-- The same for tables that hold what the host code leaves. -/
theorem block_from (T : (r : Ref sig .tc) → (Proc.devRef (τ := τ) .tc r).ty.Contents (Elt Ideal)) (hT : T = fun r => host W r)
    (h3 : ∀ k, ((host W main_arg3 : IVec (shape1 4096) 32) (ix1 k)).toNat < 2048) (h4 : ∀ k, ((host W main_arg4 : IVec (shape1 2048) 32) (ix1 k)).toNat < 2048)
    (b : Fin 128) (hc1 : k0_chk1 ((T main_call0_v69 : S129.Idx → BitVec 32) (ix1 b.castSucc)) ((T main_call0_v69 : S129.Idx → BitVec 32) (ix1 b.succ)))
    (hc4 : k0_chk4 ((T main_call0_v155 : S129.Idx → BitVec 32) (ix1 b.castSucc)) ((T main_call0_v155 : S129.Idx → BitVec 32) (ix1 b.succ)))
    (j : Fin 16) (c : Fin 2) (y : Fin 32) (x : Fin 128) (h w : Fin 64) (e : 128 * y.val + x.val = 64 * h.val + w.val) :
    (blockOf (F := Ideal) _ _ _ _ hc1 hc4 (T main_call0_v76) (T main_call0_v91) (T main_call0_v93) (T main_call0_v96) (T main_call0_v85) (T main_call0_v87) (T main_call0_v89)
      (T main_call0_v162) (T main_call0_v187) (T main_call0_v189) (T main_call0_v192) (T main_call0_v181) (T main_call0_v185) (T main_call0_v175) (T main_call0_v177)
      (T main_call0_v10) (T main_call0_v2) (T main_call0_v5) : FVec Ideal S16x2x32x128 .f32) (ix4 j c y x)
    = entry (host W main_arg0) (host W main_arg1) (host W main_arg2) (host W main_arg3) (host W main_arg4) (16 * b.val + j.val) h w c := by
  subst hT
  exact block_at W h3 h4 b hc1 hc4 j c y x h w e

end Cert.Proof.KernelIdeal

end
-- ==== Proof.Result.lean ====
module

public import proofs.«01_k».proof.Proof.Output
public import proofs.«01_k».proof.Proof.Region
public import Idealize.ShloMosaic.Lib.Pipeline.ValueKit.Geometry
public import Idealize.ShloMosaic.Lib.Pipeline.Covers
public import Idealize.ShloMosaic.Lib.StableHlo.RunRead

@[expose] public section

set_option maxRecDepth 16384

noncomputable section

namespace Cert.Proof.KernelIdeal

open Cert.KernelIdeal
open Idealize.ShloMosaic Idealize.ShloMosaic.TcCoe
open Idealize.SL.Sem
open Cert.KernelIdeal.Gen (V V0 iblk)

/-! ## What a run of the kernel leaves -/

variable (m : (ℓ : Loc nD τ sig) → Buf (Elt Ideal) ℓ) (c : Dev nD)

/-- The grid, as launched. -/
abbrev arg0 : FVec Ideal S64x64x2 .f32 := m ((c.tc : Thread nD τ).loc main_arg0)
/-- The spheres' parameters, as launched. -/
abbrev arg1 : FVec Ideal S4096x3 .f32 := m ((c.tc : Thread nD τ).loc main_arg1)
/-- The power laws' parameters, as launched. -/
abbrev arg2 : FVec Ideal S2048x4 .f32 := m ((c.tc : Thread nD τ).loc main_arg2)
/-- The spheres' systems, as launched. -/
abbrev arg3 : IVec S4096 32 := m ((c.tc : Thread nD τ).loc main_arg3)
/-- The power laws' systems, as launched. -/
abbrev arg4 : IVec S2048 32 := m ((c.tc : Thread nD τ).loc main_arg4)

theorem host_arg0 : host (fun b => m (c, b)) main_arg0 = arg0 m c := (V_eq m c main_arg0).symm.trans (Gen.V_main_arg0 m c)
theorem host_arg1 : host (fun b => m (c, b)) main_arg1 = arg1 m c := (V_eq m c main_arg1).symm.trans (Gen.V_main_arg1 m c)
theorem host_arg2 : host (fun b => m (c, b)) main_arg2 = arg2 m c := (V_eq m c main_arg2).symm.trans (Gen.V_main_arg2 m c)
theorem host_arg3 : host (fun b => m (c, b)) main_arg3 = arg3 m c := (V_eq m c main_arg3).symm.trans (Gen.V_main_arg3 m c)
theorem host_arg4 : host (fun b => m (c, b)) main_arg4 = arg4 m c := (V_eq m c main_arg4).symm.trans (Gen.V_main_arg4 m c)

/-- The entry of the argument arrays. -/
abbrev entryOf (s : ℕ) (h w : Fin 64) (d : Fin 2) : EReal := entry (arg0 m c) (arg1 m c) (arg2 m c) (arg3 m c) (arg4 m c) s h w d

/-- The launch's output array. -/
def stacked : FVec Ideal S2048x2x32x128 .f32 := fun i =>
  entryOf m c (i 0).val
    ⟨(128 * (i 2).val + (i 3).val) / 64, by have h2 : (i 2).val < 32 := (i 2).isLt; have h3 : (i 3).val < 128 := (i 3).isLt; omega⟩
    ⟨(128 * (i 2).val + (i 3).val) % 64, Nat.mod_lt _ (by decide)⟩ (i 1)

/-- The kernel's result. -/
def result : FVec Ideal S2048x64x64x2 .f32 := fun i => entryOf m c (i 0).val (i 1) (i 2) (i 3)

/-- The host code after the launch turns the one into the other. -/
theorem tail_value : transpose S2048x64x64x2 [0, 2, 3, 1] (shapeCast S2048x2x64x64 (stacked m c) Gen.shapeCasts_S2048x2x32x128_S2048x2x64x64) Gen.transposes_S2048x2x64x64_S2048x64x64x2_0_2_3_1 = result m c := by
  funext i
  rw [eq_ix4 i]
  generalize i 0 = s
  generalize i 1 = h
  generalize i 2 = w
  generalize i 3 = d
  pointwise
  have hh : h.val < 64 := h.isLt
  have hw : w.val < 64 := w.isLt
  have e1 : (128 * (h.val / 2) + (h.val % 2 * 64 + w.val)) / 64 = h.val := by omega
  have e2 : (128 * (h.val / 2) + (h.val % 2 * 64 + w.val)) % 64 = w.val := by omega
  show entryOf m c s.val ⟨(128 * (h.val / 2) + (h.val % 2 * 64 + w.val)) / 64, _⟩ ⟨(128 * (h.val / 2) + (h.val % 2 * 64 + w.val)) % 64, _⟩ d = entryOf m c s.val h w d
  exact congrArg₂ (fun a b => entryOf m c s.val a b d) (Fin.ext e1) (Fin.ext e2)

/-- The block a step writes is the step's own. -/
theorem index20 : ∀ t : Fin cfg0.N, (cfg0.win 20).index t = ![t.val, 0, 0, 0] := by
  decide +kernel

variable (h3 : ∀ k, (arg3 m c (ix1 k)).toNat < 2048) (h4 : ∀ k, (arg4 m c (ix1 k)).toNat < 2048)

include h3 h4 in
/-- The block of a step, entry by entry. -/
theorem stepBlk_at (b : Fin 128) (j : Fin 16) (d : Fin 2) (p : Fin 32) (q : Fin 128) :
    (stepBlk m (tables m) c b : FVec Ideal S16x2x32x128 .f32) (ValueIdx.ix4 j d p q)
      = entryOf m c (16 * b.val + j.val) ⟨(128 * p.val + q.val) / 64, by omega⟩ ⟨(128 * p.val + q.val) % 64, Nat.mod_lt _ (by decide)⟩ d := by
  have e := block_from (fun b => m (c, b)) (fun r => V m c r) (funext fun r => V_eq m c r)
    (by rw [host_arg3]; simpa only [ix1_eq_valueIdx] using h3) (by rw [host_arg4]; simpa only [ix1_eq_valueIdx] using h4)
    b (((tables m) c).chk1 b) (((tables m) c).chk4 b) j d p q ⟨(128 * p.val + q.val) / 64, by omega⟩ ⟨(128 * p.val + q.val) % 64, Nat.mod_lt _ (by decide)⟩ (by dsimp only; omega)
  rw [host_arg0, host_arg1, host_arg2, host_arg3, host_arg4] at e
  exact e

include h3 h4 in
/-- The launch's output array. -/
theorem array_value : (dats m (tables m) 0 c).arrAt 20 cfg0.N = stacked m c := by
  refine (dats m (tables m) 0 c).arrAt_eq_of_covers 20 _ (by decide +kernel) fun t hf y => ?_
  blk_simp
  rw [after20]
  obtain ⟨j, d, p, q, rfl⟩ : ∃ (j : Fin 16) (d : Fin 2) (p : Fin 32) (q : Fin 128), y = ValueIdx.ix4 j d p q := ⟨y 0, y 1, y 2, y 3, ValueIdx.eq_ix4 y⟩
  have i0 : win0_20.index t 0 = t.val := congrFun (index20 t) 0
  have i1 : win0_20.index t 1 = 0 := congrFun (index20 t) 1
  have i2 : win0_20.index t 2 = 0 := congrFun (index20 t) 2
  have i3 : win0_20.index t 3 = 0 := congrFun (index20 t) 3
  have e0 : ((win0_20.blk t).view.emb (ValueIdx.ix4 j d p q) 0).val = 16 * t.val + j.val := by
    blk_simp
    rw [i0, Nat.mul_comm]; rfl
  have e1 : (win0_20.blk t).view.emb (ValueIdx.ix4 j d p q) 1 = d := Fin.ext (by blk_simp; rw [i1, Nat.zero_mul, Nat.zero_add]; rfl)
  have e2 : ((win0_20.blk t).view.emb (ValueIdx.ix4 j d p q) 2).val = p.val := by blk_simp; rw [i2, Nat.zero_mul, Nat.zero_add]; rfl
  have e3 : ((win0_20.blk t).view.emb (ValueIdx.ix4 j d p q) 3).val = q.val := by blk_simp; rw [i3, Nat.zero_mul, Nat.zero_add]; rfl
  refine (stepBlk_at m c h3 h4 (stepOf t) j d p q).trans ?_
  unfold stacked
  rw [e0, e1]
  simp only [e2, e3]
  rfl

/-- The result after the host code, from the launch's output array. -/
theorem out_value : Pipeline.afterTail₀ cfgs (dats m (tables m)) 0 (V0 m) [Gen.hostOps1] c main_v0
    = transpose S2048x64x64x2 [0, 2, 3, 1] (shapeCast S2048x2x64x64 ((dats m (tables m) 0 c).arrAt 20 cfg0.N : FVec Ideal S2048x2x32x128 .f32) Gen.shapeCasts_S2048x2x32x128_S2048x2x64x64) Gen.transposes_S2048x2x64x64_S2048x64x64x2_0_2_3_1 := by
  unfold Pipeline.afterTail₀
  have e := Pipeline.withArrays_arr spec0 (by decide) c (V0 m c) (fun w => (dats m (tables m) 0 c).arrAt w cfg0.N) 20
  after_reads_simp [StableHlo.TRef.ofBuf_toBuf]
  exact congrArg (fun z : FVec Ideal S2048x2x32x128 .f32 => transpose S2048x64x64x2 [0, 2, 3, 1] (shapeCast S2048x2x64x64 z Gen.shapeCasts_S2048x2x32x128_S2048x2x64x64) Gen.transposes_S2048x2x64x64_S2048x64x64x2_0_2_3_1) e

include h3 h4 in
/-- The kernel's result, entry by entry. -/
theorem run_value : Pipeline.afterTail₀ cfgs (dats m (tables m)) 0 (V0 m) [Gen.hostOps1] c main_v0 = result m c := by
  rw [out_value, array_value m c h3 h4]
  exact tail_value m c

end Cert.Proof.KernelIdeal

end
-- ==== Proof.Landing.lean ====
module

public import Idealize.ShloMosaic.PureOps.Ideal
public import Idealize.ShloMosaic.Lib.ValueIdx
public import Idealize.ShloMosaic.Lib.Routing.Ops

@[expose] public section

noncomputable section

namespace Cert.Proof.Landing

open Idealize.ShloMosaic Idealize.ShloMosaic.ValueIdx
open Idealize.ShloMosaic.Routing (shape2)

/-! ## A scatter of whole fields: field `k` is added to the field that its index names -/

/-- Four axes. -/
abbrev shape4 (n A B C : ℕ) : Shape := ⟨4, ![n, A, B, C]⟩

variable {N n A B C : ℕ} (wf : ScatterDims.WF (shape4 N A B C) (shape2 n 1) (shape4 n A B C) [1, 2, 3] [0] [0] 1)

/-- The dimension numbers of such a scatter. -/
abbrev fields : ScatterDims (shape4 N A B C) (shape2 n 1) (shape4 n A B C) := ⟨[1, 2, 3], [0], [0], 1, wf⟩

theorem window0 (j : (shape4 n A B C).Idx) : (fields wf).window j 0 = 0 := rfl
theorem window1 (j : (shape4 n A B C).Idx) : (fields wf).window j 1 = (j 1).val := rfl
theorem window2 (j : (shape4 n A B C).Idx) : (fields wf).window j 2 = (j 2).val := rfl
theorem window3 (j : (shape4 n A B C).Idx) : (fields wf).window j 3 = (j 3).val := rfl

variable (idx : IVec (shape2 n 1) 32)

theorem start0 (j : (shape4 n A B C).Idx) : (fields wf).start j idx 0 = (idx (ix2 (j 0) (0 : Fin 1))).toInt := by
  have e : (fields wf).siIdx j ⟨0, Nat.zero_lt_one⟩ = ix2 (j 0) (0 : Fin 1) := by
    funext b
    match b with
    | ⟨0, _⟩ => rfl
    | ⟨1, _⟩ => rfl
  exact congrArg (fun z => (idx z).toInt) e
theorem start1 (j : (shape4 n A B C).Idx) : (fields wf).start j idx 1 = 0 := rfl
theorem start2 (j : (shape4 n A B C).Idx) : (fields wf).start j idx 2 = 0 := rfl
theorem start3 (j : (shape4 n A B C).Idx) : (fields wf).start j idx 3 = 0 := rfl

/-- Where an entry of the updates lands. -/
theorem field_lands (j : (shape4 n A B C).Idx) (s : Fin N) (h : Fin A) (w : Fin B) (c : Fin C) :
    (fields wf).resultIdx? j idx = some (ix4 s h w c)
      ↔ (idx (ix2 (j 0) (0 : Fin 1))).toInt = (s.val : ℤ) ∧ j 1 = h ∧ j 2 = w ∧ j 3 = c := by
  have b1 : (j 1).val < A := (j 1).isLt
  have b2 : (j 2).val < B := (j 2).isLt
  have b3 : (j 3).val < C := (j 3).isLt
  unfold ScatterDims.resultIdx?
  constructor
  · intro q
    split at q
    · rename_i hb
      have q := Option.some.inj q
      have q0 : ((fields wf).start j idx 0 + (fields wf).window j 0).toNat = s.val := congrArg (fun z => (z 0).val) q
      have q1 : ((fields wf).start j idx 1 + (fields wf).window j 1).toNat = h.val := congrArg (fun z => (z 1).val) q
      have q2 : ((fields wf).start j idx 2 + (fields wf).window j 2).toNat = w.val := congrArg (fun z => (z 2).val) q
      have q3 : ((fields wf).start j idx 3 + (fields wf).window j 3).toNat = c.val := congrArg (fun z => (z 3).val) q
      have h0 := (hb 0).1
      rw [start0, window0] at q0 h0
      rw [start1, window1] at q1
      rw [start2, window2] at q2
      rw [start3, window3] at q3
      exact ⟨by omega, Fin.ext (by omega), Fin.ext (by omega), Fin.ext (by omega)⟩
    · exact absurd q (by simp)
  · rintro ⟨e0, e1, e2, e3⟩
    have hs := s.isLt
    have a0 : 0 ≤ (fields wf).start j idx 0 + (fields wf).window j 0 ∧ (fields wf).start j idx 0 + (fields wf).window j 0 < (N : ℤ) := by
      rw [start0, window0]; omega
    have a1 : 0 ≤ (fields wf).start j idx 1 + (fields wf).window j 1 ∧ (fields wf).start j idx 1 + (fields wf).window j 1 < (A : ℤ) := by
      rw [start1, window1]; omega
    have a2 : 0 ≤ (fields wf).start j idx 2 + (fields wf).window j 2 ∧ (fields wf).start j idx 2 + (fields wf).window j 2 < (B : ℤ) := by
      rw [start2, window2]; omega
    have a3 : 0 ≤ (fields wf).start j idx 3 + (fields wf).window j 3 ∧ (fields wf).start j idx 3 + (fields wf).window j 3 < (C : ℤ) := by
      rw [start3, window3]; omega
    rw [dif_pos fun a => by
      match a with
      | ⟨0, _⟩ => exact a0
      | ⟨1, _⟩ => exact a1
      | ⟨2, _⟩ => exact a2
      | ⟨3, _⟩ => exact a3]
    congr 1
    funext a
    apply Fin.ext
    match a with
    | ⟨0, _⟩ => show ((fields wf).start j idx 0 + (fields wf).window j 0).toNat = s.val; rw [start0, window0]; omega
    | ⟨1, _⟩ => show ((fields wf).start j idx 1 + (fields wf).window j 1).toNat = h.val; rw [start1, window1, e1]; omega
    | ⟨2, _⟩ => show ((fields wf).start j idx 2 + (fields wf).window j 2).toNat = w.val; rw [start2, window2, e2]; omega
    | ⟨3, _⟩ => show ((fields wf).start j idx 3 + (fields wf).window j 3).toNat = c.val; rw [start3, window3, e3]; omega

/-- One entry of the scatter's result: what was there, and the entries of the fields whose index names this one. -/
theorem scatter_value (x : FVec Ideal (shape4 N A B C) .f32) (u : FVec Ideal (shape4 n A B C) .f32) (s : Fin N) (h : Fin A) (w : Fin B) (c : Fin C) :
    (Host.scatterAdd (fields wf) x idx u : FVec Ideal (shape4 N A B C) .f32) (ix4 s h w c)
      = x (ix4 s h w c) + ∑ k : Fin n, if (idx (ix2 k (0 : Fin 1))).toInt = (s.val : ℤ) then u (ix4 k h w c) else (0 : EReal) := by
  show (x (ix4 s h w c) : EReal) + ∑ j ∈ Finset.univ.filter (fun j => (fields wf).resultIdx? j idx = some (ix4 s h w c)), (u j : EReal) = _
  congr 1
  rw [← Finset.sum_filter]
  refine Finset.sum_bij' (fun j _ => (j 0 : Fin n)) (fun k _ => ix4 k h w c) ?_ ?_ ?_ ?_ ?_
  · intro j hj
    rw [Finset.mem_filter] at hj
    exact Finset.mem_filter.2 ⟨Finset.mem_univ _, ((field_lands wf idx j s h w c).1 hj.2).1⟩
  · intro k hk
    rw [Finset.mem_filter] at hk ⊢
    exact ⟨Finset.mem_univ _, (field_lands wf idx _ s h w c).2 ⟨hk.2, rfl, rfl, rfl⟩⟩
  · intro j hj
    rw [Finset.mem_filter] at hj
    obtain ⟨-, e1, e2, e3⟩ := (field_lands wf idx j s h w c).1 hj.2
    subst e1 e2 e3
    exact (eq_ix4 j).symm
  · intro k hk; rfl
  · intro j hj
    rw [Finset.mem_filter] at hj
    obtain ⟨-, e1, e2, e3⟩ := (field_lands wf idx j s h w c).1 hj.2
    subst e1 e2 e3
    exact congrArg u (eq_ix4 j)

end Cert.Proof.Landing

end
-- ==== Proof.Reference.lean ====
module

public import proofs.«01_k».proof.Proof.Gen.ReferenceIdeal.Run
public import proofs.«01_k».proof.Proof.Landing
public import Idealize.ShloMosaic.Lib.Pointwise

@[expose] public section

noncomputable section

namespace Cert.Proof.ReferenceIdeal

open Cert.ReferenceIdeal Cert.ReferenceIdeal.Gen Idealize.ShloMosaic Idealize.ShloMosaic.TcCoe
open Cert.Proof.Landing

/-! ## The reference, one entry at a time, over the extended reals -/

variable (a0 : FVec Ideal S64x64x2 .f32) (a1 : FVec Ideal S4096x3 .f32) (a2 : FVec Ideal S2048x4 .f32) (a3 : IVec S4096 32) (a4 : IVec S2048 32)

/-- From each sphere's centre to each grid point. -/
def dS : FVec Ideal S4096x64x64x2 .f32 :=
  subf (broadcastInDim S4096x64x64x2 ![0, 1, 2, 3] bcast_S1x64x64x2_S4096x64x64x2_0_1_2_3 (broadcastInDim S1x64x64x2 ![1, 2, 3] bcast_S64x64x2_S1x64x64x2_1_2_3 a0)) (broadcastInDim S4096x64x64x2 ![0, 1, 2, 3] bcast_S4096x1x1x2_S4096x64x64x2_0_1_2_3 (broadcastInDim S4096x1x1x2 ![0, 3] bcast_S4096x2_S4096x1x1x2_0_3 (extractStridedSlice S4096x2 ![0, 1] a1 slices_S4096x3_S4096x2_0_1)))

/-- From each power law's centre to each grid point. -/
def dP : FVec Ideal S2048x64x64x2 .f32 :=
  subf (broadcastInDim S2048x64x64x2 ![0, 1, 2, 3] bcast_S1x64x64x2_S2048x64x64x2_0_1_2_3 (broadcastInDim S1x64x64x2 ![1, 2, 3] bcast_S64x64x2_S1x64x64x2_1_2_3 a0)) (broadcastInDim S2048x64x64x2 ![0, 1, 2, 3] bcast_S2048x1x1x2_S2048x64x64x2_0_1_2_3 (broadcastInDim S2048x1x1x2 ![0, 3] bcast_S2048x2_S2048x1x1x2_0_3 (extractStridedSlice S2048x2 ![0, 2] a2 slices_S2048x4_S2048x2_0_2)))

/-- The softened distances from the spheres. -/
def rS : FVec Ideal S4096x64x64 .f32 :=
  Host.sqrt (addf (Host.reduceAdd (mulf (dS a0 a1) (dS a0 a1)) (constant S_ .f32 0x00000000#32) reducesTo_S4096x64x64x2_S4096x64x64_d3 h_S_) (broadcastInDim S4096x64x64 ![] bcast_S_S4096x64x64 (constant S_ .f32 0x358637BD#32)))

/-- The softened distances from the power laws. -/
def rP : FVec Ideal S2048x64x64 .f32 :=
  Host.sqrt (addf (Host.reduceAdd (mulf (dP a0 a2) (dP a0 a2)) (constant S_ .f32 0x00000000#32) reducesTo_S2048x64x64x2_S2048x64x64_d3 h_S_) (broadcastInDim S2048x64x64 ![] bcast_S_S2048x64x64 (constant S_ .f32 0x358637BD#32)))

/-- The spheres' deflections. -/
def uS : FVec Ideal S4096x64x64x2 .f32 :=
  mulf (broadcastInDim S4096x64x64x2 ![0, 1, 2, 3] bcast_S4096x64x64x1_S4096x64x64x2_0_1_2_3 (broadcastInDim S4096x64x64x1 ![0, 1, 2] bcast_S4096x64x64_S4096x64x64x1_0_1_2 (Host.divf (broadcastInDim S4096x64x64 ![0, 1, 2] bcast_S4096x1x1_S4096x64x64_0_1_2 (broadcastInDim S4096x1x1 ![0] bcast_S4096_S4096x1x1_0 (shapeCast _ (extractStridedSlice S4096x1 ![0, 0] a1 slices_S4096x3_S4096x1_0_0) shapeCasts_S4096x1_S4096))) (rS a0 a1)))) (dS a0 a1)

/-- The power laws' deflections. -/
def uP : FVec Ideal S2048x64x64x2 .f32 :=
  mulf (broadcastInDim S2048x64x64x2 ![0, 1, 2, 3] bcast_S2048x64x64x1_S2048x64x64x2_0_1_2_3 (broadcastInDim S2048x64x64x1 ![0, 1, 2] bcast_S2048x64x64_S2048x64x64x1_0_1_2 (Host.divf (mulf (broadcastInDim S2048x64x64 ![0, 1, 2] bcast_S2048x1x1_S2048x64x64_0_1_2 (broadcastInDim S2048x1x1 ![0] bcast_S2048_S2048x1x1_0 (shapeCast _ (extractStridedSlice S2048x1 ![0, 0] a2 slices_S2048x4_S2048x1_0_0) shapeCasts_S2048x1_S2048))) (Host.powf (Host.divf (rP a0 a2) (broadcastInDim S2048x64x64 ![0, 1, 2] bcast_S2048x1x1_S2048x64x64_0_1_2 (broadcastInDim S2048x1x1 ![0] bcast_S2048_S2048x1x1_0 (shapeCast _ (extractStridedSlice S2048x1 ![0, 0] a2 slices_S2048x4_S2048x1_0_0) shapeCasts_S2048x1_S2048)))) (broadcastInDim S2048x64x64 ![0, 1, 2] bcast_S2048x1x1_S2048x64x64_0_1_2 (subf (broadcastInDim S2048x1x1 ![] bcast_S_S2048x1x1 (constant S_ .f32 0x40000000#32)) (broadcastInDim S2048x1x1 ![0] bcast_S2048_S2048x1x1_0 (shapeCast _ (extractStridedSlice S2048x1 ![0, 1] a2 slices_S2048x4_S2048x1_0_1) shapeCasts_S2048x1_S2048)))))) (rP a0 a2)))) (dP a0 a2)

/-- The spheres' systems, as the scatter reads them. -/
def iS : IVec S4096x1 32 :=
  broadcastInDim S4096x1 ![0] bcast_S4096_S4096x1_0 (select (cmpi .slt a3 (broadcastInDim S4096 ![] bcast_S_S4096 (constantI S_ 32 0#32))) (addi a3 (broadcastInDim S4096 ![] bcast_S_S4096 (constantI S_ 32 2048#32))) a3)

/-- The power laws' systems, as the scatter reads them. -/
def iP : IVec S2048x1 32 :=
  broadcastInDim S2048x1 ![0] bcast_S2048_S2048x1_0 (select (cmpi .slt a4 (broadcastInDim S2048 ![] bcast_S_S2048 (constantI S_ 32 0#32))) (addi a4 (broadcastInDim S2048 ![] bcast_S_S2048 (constantI S_ 32 2048#32))) a4)

/-- The reference's result. -/
def whole : FVec Ideal S2048x64x64x2 .f32 :=
  subf (broadcastInDim S2048x64x64x2 ![0, 1, 2, 3] bcast_S1x64x64x2_S2048x64x64x2_0_1_2_3 (broadcastInDim S1x64x64x2 ![1, 2, 3] bcast_S64x64x2_S1x64x64x2_1_2_3 a0)) (Host.scatterAdd scatter_S2048x64x64x2_S2048x1_S2048x64x64x2_123_0_0_1 (Host.scatterAdd scatter_S2048x64x64x2_S4096x1_S4096x64x64x2_123_0_0_1 (broadcastInDim S2048x64x64x2 ![] bcast_S_S2048x64x64x2 (constant S_ .f32 0x00000000#32)) (iS a3) (uS a0 a1)) (iP a4) (uP a0 a2))

theorem dS_at0 (k : Fin 4096) (h w : Fin 64) : dS a0 a1 (ix4 k h w 0) = a0 (ix3 h w 0) - a1 (ix2 k 1) := by pointwise [dS]
theorem dS_at1 (k : Fin 4096) (h w : Fin 64) : dS a0 a1 (ix4 k h w 1) = a0 (ix3 h w 1) - a1 (ix2 k 2) := by pointwise [dS]
theorem dP_at0 (k : Fin 2048) (h w : Fin 64) : dP a0 a2 (ix4 k h w 0) = a0 (ix3 h w 0) - a2 (ix2 k 2) := by pointwise [dP]
theorem dP_at1 (k : Fin 2048) (h w : Fin 64) : dP a0 a2 (ix4 k h w 1) = a0 (ix3 h w 1) - a2 (ix2 k 3) := by pointwise [dP]

theorem rS_at (k : Fin 4096) (h w : Fin 64) : rS a0 a1 (ix3 k h w)
    = Ideal.sqrt ((dS a0 a1 (ix4 k h w 0) * dS a0 a1 (ix4 k h w 0) + dS a0 a1 (ix4 k h w 1) * dS a0 a1 (ix4 k h w 1)) + Ideal.ofBits .f32 0x358637BD#32) := by
  pointwise [rS, Fin.sum_univ_two]

theorem rP_at (k : Fin 2048) (h w : Fin 64) : rP a0 a2 (ix3 k h w)
    = Ideal.sqrt ((dP a0 a2 (ix4 k h w 0) * dP a0 a2 (ix4 k h w 0) + dP a0 a2 (ix4 k h w 1) * dP a0 a2 (ix4 k h w 1)) + Ideal.ofBits .f32 0x358637BD#32) := by
  pointwise [rP, Fin.sum_univ_two]

theorem uS_at (k : Fin 4096) (h w : Fin 64) (c : Fin 2) : uS a0 a1 (ix4 k h w c)
    = Ideal.div (a1 (ix2 k 0)) (rS a0 a1 (ix3 k h w)) * dS a0 a1 (ix4 k h w c) := by
  pointwise [uS]

theorem uP_at (k : Fin 2048) (h w : Fin 64) (c : Fin 2) : uP a0 a2 (ix4 k h w c)
    = Ideal.div (a2 (ix2 k 0) * Ideal.pow (Ideal.div (rP a0 a2 (ix3 k h w)) (a2 (ix2 k 0))) (Ideal.ofBits .f32 0x40000000#32 - a2 (ix2 k 1))) (rP a0 a2 (ix3 k h w)) * dP a0 a2 (ix4 k h w c) := by
  pointwise [uP]

/-- A word that is not negative is read as it is. -/
theorem select_self (x y : BitVec 32) (h : 0 ≤ x.toInt) : Scalar.select (IntOp.cmpi .slt x 0#32) y x = x := by
  have hs : IntOp.cmpi .slt x 0#32 = 0#1 := by
    show BitVec.ofBool (x.slt 0#32) = 0#1
    have : x.slt 0#32 = false := by simp only [BitVec.slt, decide_eq_false_iff_not, BitVec.toInt_zero]; omega
    rw [this]; rfl
  rw [hs]; rfl

theorem iS_at (k : Fin 4096) (h : 0 ≤ (a3 (ix1 k)).toInt) : iS a3 (ix2 k 0) = a3 (ix1 k) := by
  pointwise [iS]
  exact select_self _ _ h
theorem iP_at (k : Fin 2048) (h : 0 ≤ (a4 (ix1 k)).toInt) : iP a4 (ix2 k 0) = a4 (ix1 k) := by
  pointwise [iP]
  exact select_self _ _ h

/-- The reference's entry: the grid coordinate less the deflections of the system's spheres and power laws. -/
theorem whole_at (h3 : ∀ k, 0 ≤ (a3 (ix1 k)).toInt) (h4 : ∀ k, 0 ≤ (a4 (ix1 k)).toInt) (s : Fin 2048) (h w : Fin 64) (c : Fin 2) :
    whole a0 a1 a2 a3 a4 (ix4 s h w c) = a0 (ix3 h w c) -
      ((∑ k : Fin 4096, if (a3 (ix1 k)).toInt = (s.val : ℤ) then uS a0 a1 (ix4 k h w c) else 0)
        + ∑ k : Fin 2048, if (a4 (ix1 k)).toInt = (s.val : ℤ) then uP a0 a2 (ix4 k h w c) else 0) := by
  have e2 := scatter_value (N := 2048) scatter_S2048x64x64x2_S2048x1_S2048x64x64x2_123_0_0_1_wf (iP a4)
    (Host.scatterAdd scatter_S2048x64x64x2_S4096x1_S4096x64x64x2_123_0_0_1 (broadcastInDim S2048x64x64x2 ![] bcast_S_S2048x64x64x2 (constant S_ .f32 0x00000000#32)) (iS a3) (uS a0 a1)) (uP a0 a2) s h w c
  have e1 := scatter_value (N := 2048) scatter_S2048x64x64x2_S4096x1_S4096x64x64x2_123_0_0_1_wf (iS a3)
    (broadcastInDim S2048x64x64x2 ![] bcast_S_S2048x64x64x2 (constant S_ .f32 0x00000000#32)) (uS a0 a1) s h w c
  simp only [← ix4_eq_valueIdx, ← ix2_eq_valueIdx] at e1 e2
  simp only [iS_at a3 _ (h3 _)] at e1
  simp only [iP_at a4 _ (h4 _)] at e2
  have ez : (broadcastInDim S2048x64x64x2 ![] bcast_S_S2048x64x64x2 (constant (F := Ideal) S_ .f32 0x00000000#32) : FVec Ideal S2048x64x64x2 .f32) (ix4 s h w c) = (0 : EReal) := by pointwise
  rw [ez, zero_add] at e1
  have e0 : whole a0 a1 a2 a3 a4 (ix4 s h w c) = a0 (ix3 h w c) - (Host.scatterAdd scatter_S2048x64x64x2_S2048x1_S2048x64x64x2_123_0_0_1 (Host.scatterAdd scatter_S2048x64x64x2_S4096x1_S4096x64x64x2_123_0_0_1 (broadcastInDim S2048x64x64x2 ![] bcast_S_S2048x64x64x2 (constant S_ .f32 0x00000000#32)) (iS a3) (uS a0 a1)) (iP a4) (uP a0 a2) : FVec Ideal S2048x64x64x2 .f32) (ix4 s h w c) := by
    pointwise [whole]
  rw [e0]
  congr 1
  refine e2.trans ?_
  congr 1

open Idealize.SL.Sem in
/-- What a run of the reference leaves. -/
theorem result (m : (ℓ : Loc nD τ sig) → Buf (Elt Ideal) ℓ) (c : Dev nD) : Value.res_main_v65 m c
    = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.Proof.ReferenceIdeal

end
-- ==== Proof.Equation.lean ====
module

public import proofs.«01_k».proof.Proof.Fields
public import proofs.«01_k».proof.Proof.Reference
public import Mathlib.Tactic.LinearCombination
public import Mathlib.Tactic.Positivity

@[expose] public section

noncomputable section

namespace Cert.Proof.Equation

open Idealize.ShloMosaic
open Cert.Proof.KernelIdeal (sphere power square sphereAt powerAt total entry centreS centreP)
open Cert.Proof.ReferenceIdeal (uS uP rS rP dS dP whole)

/-! ## The constants of the two programs -/

theorem two : Ideal.ofBits .f32 0x40000000#32 = ((2 : ℝ) : EReal) := by
  simp [Ideal.ofBits, Ideal.ieee, -EReal.coe_mul]; norm_num

theorem minus_two : Ideal.ofBits .f32 0xC0000000#32 = ((-2 : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

/-- The softening is a positive real. -/
theorem softening : ∃ ε : ℝ, 0 < ε ∧ Ideal.ofBits .f32 0x358637BD#32 = (ε : EReal) := by
  refine ⟨_, ?_, by simp [Ideal.ofBits, Ideal.ieee, -EReal.coe_mul]; rfl⟩
  positivity

/-! ## One lens at one grid point, in real numbers -/

section Point
variable (ε : ℝ) (hε : 0 < ε) (he : Ideal.ofBits .f32 0x358637BD#32 = (ε : EReal)) (gx gy cx cy θ γ : ℝ)

/-- The softened squared distance. -/
def dist2 : ℝ := (gx - cx) * (gx - cx) + (gy - cy) * (gy - cy) + ε

include hε in
theorem dist2_pos : 0 < dist2 ε gx gy cx cy := by
  unfold dist2; nlinarith [mul_self_nonneg (gx - cx), mul_self_nonneg (gy - cy)]

include he in
theorem square_real : square gx gy cx cy = (dist2 ε gx gy cx cy : EReal) := by
  unfold square dist2
  rw [he, minus_two]
  have e : ∀ t : ℝ, (gx : EReal) * gx + (gy : EReal) * gy + (ε : EReal) + ((cx : EReal) * cx + (cy : EReal) * cy) + (t : EReal) * cx * gx + (t : EReal) * cy * gy
      = ((gx * gx + gy * gy + ε + (cx * cx + cy * cy) + t * cx * gx + t * cy * gy : ℝ) : EReal) := fun t => by norm_cast
  rw [e]
  congr 1
  ring

/-- A sphere's factor. -/
def alphaS : ℝ := θ * (Real.sqrt (dist2 ε gx gy cx cy))⁻¹

include hε he in
theorem sphere_real : sphere gx gy θ cx cy = (alphaS ε gx gy cx cy θ : EReal) := by
  have hp := dist2_pos ε hε gx gy cx cy
  unfold sphere alphaS
  rw [square_real ε he, Ideal.rsqrt_coe, if_neg (not_lt.2 hp.le), if_neg hp.ne']
  norm_cast

/-- A power law's factor. -/
def alphaP : ℝ := θ * Real.rpow (Real.sqrt (dist2 ε gx gy cx cy) / θ) (2 - γ) * (Real.sqrt (dist2 ε gx gy cx cy))⁻¹

include hε he in
theorem power_real (hθ : 0 < θ) : power gx gy θ γ cx cy = (alphaP ε gx gy cx cy θ γ : EReal) := by
  have hp := dist2_pos ε hε gx gy cx cy
  unfold power alphaP
  rw [square_real ε he, Ideal.rsqrt_coe, if_neg (not_lt.2 hp.le), if_neg hp.ne', Ideal.log_coe, if_neg (not_le.2 hθ), Ideal.log_coe, if_neg (not_le.2 hp),
    Ideal.ofBits_one_f32, half, two]
  have e : θ * Real.rpow (Real.sqrt (dist2 ε gx gy cx cy) / θ) (2 - γ)
      = Real.exp ((γ - 1) * Real.log θ + 1 / 2 * (2 - γ) * Real.log (dist2 ε gx gy cx cy)) := by
    have hs := Real.sqrt_pos.2 hp
    have hl : Real.log (Real.sqrt (dist2 ε gx gy cx cy)) = Real.log (dist2 ε gx gy cx cy) / 2 := Real.log_sqrt hp.le
    show θ * (Real.sqrt (dist2 ε gx gy cx cy) / θ) ^ (2 - γ) = _
    rw [Real.rpow_def_of_pos (div_pos hs hθ), Real.log_div hs.ne' hθ.ne', hl]
    conv_lhs => rw [← Real.exp_log hθ]
    rw [Real.log_exp, ← Real.exp_add]
    congr 1
    ring
  rw [e]
  have l : ((γ : EReal) - 1) * (Real.log θ : EReal) + ((1 / 2 : ℝ) : EReal) * (((2 : ℝ) : EReal) - γ) * (Real.log (dist2 ε gx gy cx cy) : EReal)
      = (((γ - 1) * Real.log θ + 1 / 2 * (2 - γ) * Real.log (dist2 ε gx gy cx cy) : ℝ) : EReal) := by
    norm_cast
  rw [l, Ideal.exp_coe]
  norm_cast

end Point

/-! ## The sums over the lenses of one system -/

/-- A sum of reals over the lenses that meet a condition is the real sum. -/
theorem sum_real {n : ℕ} (p : Fin n → Prop) [DecidablePred p] (f : Fin n → ℝ) :
    (∑ k, if p k then (f k : EReal) else 0) = ((∑ k, if p k then f k else 0 : ℝ) : EReal) := by
  have h : ∀ t : Finset (Fin n), (∑ k ∈ t, if p k then (f k : EReal) else 0) = ((∑ k ∈ t, if p k then f k else 0 : ℝ) : EReal) := by
    intro t
    induction t using Finset.induction_on with
    | empty => simp
    | insert a t ha ih =>
      rw [Finset.sum_insert ha, Finset.sum_insert ha, EReal.coe_add, ih]
      congr 1
      split <;> rfl
  exact h Finset.univ

/-- Pulling the grid coordinate out of a sum of factors times displacements. -/
theorem sum_linear {n : ℕ} (p : Fin n → Prop) [DecidablePred p] (x : ℝ) (α c : Fin n → ℝ) :
    (∑ k, if p k then α k * (x - c k) else 0) = x * (∑ k, if p k then α k else 0) - ∑ k, if p k then c k * α k else 0 := by
  rw [Finset.mul_sum, ← Finset.sum_sub_distrib]
  refine Finset.sum_congr rfl fun k _ => ?_
  split <;> ring

/-! ## The two programs on finite data -/

section Programs
variable (ε : ℝ) (hε : 0 < ε) (he : Ideal.ofBits .f32 0x358637BD#32 = (ε : EReal))
variable (a0 : FVec Ideal Cert.KernelIdeal.S64x64x2 .f32) (a1 : FVec Ideal Cert.KernelIdeal.S4096x3 .f32) (a2 : FVec Ideal Cert.KernelIdeal.S2048x4 .f32)
variable (a3 : IVec Cert.KernelIdeal.S4096 32) (a4 : IVec Cert.KernelIdeal.S2048 32)
variable (G : Cert.KernelIdeal.S64x64x2.Idx → ℝ) (S : Cert.KernelIdeal.S4096x3.Idx → ℝ) (P : Cert.KernelIdeal.S2048x4.Idx → ℝ)
variable (hG : ∀ i, a0 i = (G i : EReal)) (hS : ∀ i, a1 i = (S i : EReal)) (hP : ∀ i, a2 i = (P i : EReal))

/-- A coordinate of a sphere's centre, a real number. -/
def cS (c : Fin 2) (k : Fin 4096) : ℝ := S (ix2 k ⟨1 + c.val, by omega⟩)
/-- A coordinate of a power law's centre, a real number. -/
def cP (c : Fin 2) (k : Fin 2048) : ℝ := P (ix2 k ⟨2 + c.val, by omega⟩)
/-- A sphere's factor at a grid point, a real number. -/
def fS (h w : Fin 64) (k : Fin 4096) : ℝ := alphaS ε (G (ix3 h w 0)) (G (ix3 h w 1)) (S (ix2 k 1)) (S (ix2 k 2)) (S (ix2 k 0))
/-- A power law's factor at a grid point, a real number. -/
def fP (h w : Fin 64) (k : Fin 2048) : ℝ := alphaP ε (G (ix3 h w 0)) (G (ix3 h w 1)) (P (ix2 k 2)) (P (ix2 k 3)) (P (ix2 k 0)) (P (ix2 k 1))

include hG hS in
theorem dS_real (k : Fin 4096) (h w : Fin 64) (c : Fin 2) : dS a0 a1 (ix4 k h w c) = ((G (ix3 h w c) - cS S c k : ℝ) : EReal) := by
  match c with
  | 0 => rw [Cert.Proof.ReferenceIdeal.dS_at0, hG, hS, ← EReal.coe_sub]; rfl
  | 1 => rw [Cert.Proof.ReferenceIdeal.dS_at1, hG, hS, ← EReal.coe_sub]; rfl

include hG hP in
theorem dP_real (k : Fin 2048) (h w : Fin 64) (c : Fin 2) : dP a0 a2 (ix4 k h w c) = ((G (ix3 h w c) - cP P c k : ℝ) : EReal) := by
  match c with
  | 0 => rw [Cert.Proof.ReferenceIdeal.dP_at0, hG, hP, ← EReal.coe_sub]; rfl
  | 1 => rw [Cert.Proof.ReferenceIdeal.dP_at1, hG, hP, ← EReal.coe_sub]; rfl

include hε he in
/-- The root of the softened squared distance, from the two displacements. -/
theorem root_real (gx gy cx cy : ℝ) :
    Ideal.sqrt ((((gx - cx : ℝ) : EReal) * ((gx - cx : ℝ) : EReal) + ((gy - cy : ℝ) : EReal) * ((gy - cy : ℝ) : EReal)) + Ideal.ofBits .f32 0x358637BD#32)
      = ((Real.sqrt (dist2 ε gx gy cx cy) : ℝ) : EReal) := by
  have e : (((gx - cx : ℝ) : EReal) * ((gx - cx : ℝ) : EReal) + ((gy - cy : ℝ) : EReal) * ((gy - cy : ℝ) : EReal)) + (ε : EReal) = ((dist2 ε gx gy cx cy : ℝ) : EReal) := by
    unfold dist2; norm_cast
  rw [he, e, Ideal.sqrt_coe, if_neg (not_lt.2 (dist2_pos ε hε gx gy cx cy).le)]

include hG hS hε he in
/-- The reference's deflection by a sphere: its factor times the displacement. -/
theorem uS_real (k : Fin 4096) (h w : Fin 64) (c : Fin 2) :
    uS a0 a1 (ix4 k h w c) = ((fS ε G S h w k * (G (ix3 h w c) - cS S c k) : ℝ) : EReal) := by
  have hs : Real.sqrt (dist2 ε (G (ix3 h w 0)) (G (ix3 h w 1)) (S (ix2 k 1)) (S (ix2 k 2))) ≠ 0 := (Real.sqrt_pos.2 (dist2_pos ε hε _ _ _ _)).ne'
  have hr : rS a0 a1 (ix3 k h w) = ((Real.sqrt (dist2 ε (G (ix3 h w 0)) (G (ix3 h w 1)) (S (ix2 k 1)) (S (ix2 k 2))) : ℝ) : EReal) := by
    rw [Cert.Proof.ReferenceIdeal.rS_at, dS_real a0 a1 G S hG hS k h w 0, dS_real a0 a1 G S hG hS k h w 1]
    exact root_real ε hε he _ _ _ _
  rw [Cert.Proof.ReferenceIdeal.uS_at, hr, dS_real a0 a1 G S hG hS, hS, Ideal.div_coe hs, ← EReal.coe_mul, ← EReal.coe_mul, one_div]
  rfl

include hG hP hε he in
/-- The reference's deflection by a power law: its factor times the displacement. -/
theorem uP_real (k : Fin 2048) (hθ : 0 < P (ix2 k 0)) (h w : Fin 64) (c : Fin 2) :
    uP a0 a2 (ix4 k h w c) = ((fP ε G P h w k * (G (ix3 h w c) - cP P c k) : ℝ) : EReal) := by
  have hs : Real.sqrt (dist2 ε (G (ix3 h w 0)) (G (ix3 h w 1)) (P (ix2 k 2)) (P (ix2 k 3))) ≠ 0 := (Real.sqrt_pos.2 (dist2_pos ε hε _ _ _ _)).ne'
  have hr : rP a0 a2 (ix3 k h w) = ((Real.sqrt (dist2 ε (G (ix3 h w 0)) (G (ix3 h w 1)) (P (ix2 k 2)) (P (ix2 k 3))) : ℝ) : EReal) := by
    rw [Cert.Proof.ReferenceIdeal.rP_at, dP_real a0 a2 G P hG hP k h w 0, dP_real a0 a2 G P hG hP k h w 1]
    exact root_real ε hε he _ _ _ _
  rw [Cert.Proof.ReferenceIdeal.uP_at, hr, dP_real a0 a2 G P hG hP, hP, hP, two, Ideal.div_coe hθ.ne', Ideal.div_coe hs, ← EReal.coe_sub, ← EReal.coe_mul, Ideal.pow_coe_coe,
    ← EReal.coe_mul, ← EReal.coe_mul, ← EReal.coe_mul, one_div, one_div, ← div_eq_mul_inv]
  rfl

include hG hS hε he in
theorem sphereAt_real (h w : Fin 64) (k : Fin 4096) : sphereAt a0 a1 h w k = (fS ε G S h w k : EReal) := by
  unfold sphereAt fS
  rw [hG, hG, hS, hS, hS]
  exact sphere_real ε hε he _ _ _ _ _

include hG hP hε he in
theorem powerAt_real (k : Fin 2048) (hθ : 0 < P (ix2 k 0)) (h w : Fin 64) : powerAt a0 a2 h w k = (fP ε G P h w k : EReal) := by
  unfold powerAt fP
  rw [hG, hG, hP, hP, hP, hP]
  exact power_real ε hε he _ _ _ _ _ _ hθ

/-- The sum over a system's spheres and power laws, of real numbers. -/
def sumOf (s : ℕ) (f : Fin 4096 → ℝ) (g : Fin 2048 → ℝ) : ℝ :=
  (∑ k, if (a3 (ix1 k)).toNat = s then f k else 0) + ∑ k, if (a4 (ix1 k)).toNat = s then g k else 0

theorem total_real (s : ℕ) (f : Fin 4096 → ℝ) (g : Fin 2048 → ℝ) :
    total a3 a4 s (fun k => (f k : EReal)) (fun k => (g k : EReal)) = (sumOf a3 a4 s f g : EReal) := by
  unfold total sumOf
  rw [sum_real, sum_real, ← EReal.coe_add]

include hG hS hP in
/-- On finite data, with positive power-law radii and indices that name systems, the kernel's entry is the reference's. -/
theorem entry_eq (hθ : ∀ k, 0 < P (ix2 k 0)) (h3 : ∀ k, (a3 (ix1 k)).toNat < 2048) (h4 : ∀ k, (a4 (ix1 k)).toNat < 2048)
    (s : Fin 2048) (h w : Fin 64) (c : Fin 2) : entry a0 a1 a2 a3 a4 s.val h w c = whole a0 a1 a2 a3 a4 (ix4 s h w c) := by
  obtain ⟨ε, hε, he⟩ := softening
  have i3 : ∀ k, (a3 (ix1 k)).toInt = ((a3 (ix1 k)).toNat : ℤ) := fun k => BitVec.toInt_eq_toNat_of_lt (by have := h3 k; omega)
  have i4 : ∀ k, (a4 (ix1 k)).toInt = ((a4 (ix1 k)).toNat : ℤ) := fun k => BitVec.toInt_eq_toNat_of_lt (by have := h4 k; omega)
  have fs : sphereAt a0 a1 h w = fun k => (fS ε G S h w k : EReal) := funext fun k => sphereAt_real ε hε he a0 a1 G S hG hS h w k
  have fp : powerAt a0 a2 h w = fun k => (fP ε G P h w k : EReal) := funext fun k => powerAt_real ε hε he a0 a2 G P hG hP k (hθ k) h w
  have gs : (fun k => centreS a1 c k * sphereAt a0 a1 h w k) = fun k => ((cS S c k * fS ε G S h w k : ℝ) : EReal) := by
    funext k; rw [fs, EReal.coe_mul]; unfold centreS cS; rw [hS]
  have gp : (fun k => centreP a2 c k * powerAt a0 a2 h w k) = fun k => ((cP P c k * fP ε G P h w k : ℝ) : EReal) := by
    funext k; rw [fp, EReal.coe_mul]; unfold centreP cP; rw [hP]
  have us : ∀ k, uS a0 a1 (ix4 k h w c) = ((fS ε G S h w k * (G (ix3 h w c) - cS S c k) : ℝ) : EReal) := fun k => uS_real ε hε he a0 a1 G S hG hS k h w c
  have up : ∀ k, uP a0 a2 (ix4 k h w c) = ((fP ε G P h w k * (G (ix3 h w c) - cP P c k) : ℝ) : EReal) := fun k => uP_real ε hε he a0 a2 G P hG hP k (hθ k) h w c
  rw [Cert.Proof.ReferenceIdeal.whole_at a0 a1 a2 a3 a4 (fun k => by rw [i3]; positivity) (fun k => by rw [i4]; positivity)]
  simp only [i3, i4, Nat.cast_inj, us, up]
  unfold entry
  rw [gs, gp, fs, fp, total_real, total_real, hG, sum_real, sum_real, ← EReal.coe_add, ← EReal.coe_sub, ← EReal.coe_one, ← EReal.coe_sub, ← EReal.coe_mul, ← EReal.coe_add]
  congr 1
  rw [sum_linear, sum_linear]
  unfold sumOf
  ring

end Programs

end Cert.Proof.Equation

end
-- ==== Proof.Domain.lean ====
module

public import proofs.«01_k».proof.Pre_finite_and_in_range
public import Idealize.ShloMosaic.Lib.Pointwise
public import Idealize.ShloMosaic.Lib.ReduceAll
public import Idealize.ShloMosaic.Lib.Affine
public import Idealize.ShloMosaic.PureOps.Ideal.Laws

@[expose] public section

noncomputable section

namespace Cert.Proof.Domain

open Idealize.ShloMosaic
open Cert.Pre_finite_and_in_range

/-! ## What the precondition says of each argument -/

/-- An extended real whose absolute value is below the infinite word is a real. -/
theorem real_of_lt {x : EReal} (h : Ideal.cmp .olt (max x (-x)) (Ideal.ofBits .f32 0x7F800000#32) = 1#1) : ∃ r : ℝ, x = (r : EReal) := by
  have top : Ideal.ofBits .f32 0x7F800000#32 = ⊤ := by simp [Ideal.ofBits, Ideal.ieee]
  rw [top] at h
  unfold Ideal.cmp at h
  induction x with
  | bot => simp at h
  | top => simp at h
  | coe r => exact ⟨r, rfl⟩

/-- An extended real above the zero word is positive. -/
theorem pos_of_gt {x : EReal} (h : Ideal.cmp .ogt x (Ideal.ofBits .f32 0x00000000#32) = 1#1) : 0 < x := by
  rw [Ideal.ofBits_zero_f32] at h
  unfold Ideal.cmp at h
  by_contra hx
  simp [hx] at h

/-- A word between zero and a small bound is small as a natural number. -/
theorem small_of_range {x : BitVec 32} (h : IntOp.andi (IntOp.cmpi .sge x 0#32) (IntOp.cmpi .slt x 2048#32) = 1#1) : x.toNat < 2048 := by
  obtain ⟨l, u⟩ := IntOp.andi_eq_one.1 h
  have hl : (0#32).toInt ≤ x.toInt := IntOp.cmpi_sge.1 l
  have hu : x.toInt < (2048#32).toInt := IntOp.cmpi_slt.1 u
  have z : (0#32 : BitVec 32).toInt = 0 := rfl
  have b : (2048#32 : BitVec 32).toInt = 2048 := rfl
  rw [z] at hl; rw [b] at hu
  rw [BitVec.toInt_eq_toNat_cond] at hl hu
  have := x.isLt
  split at hl <;> omega

instance : Subsingleton S_.Idx := ⟨fun a b => funext fun i => i.elim0⟩

variable [Facts] (a0 : FVec Ideal S64x64x2 .f32) (a1 : FVec Ideal S4096x3 .f32) (a2 : FVec Ideal S2048x4 .f32) (a3 : IVec S4096 32) (a4 : IVec S2048 32)

/-- A table whose conjunction of finiteness tests is one has real entries. -/
theorem finite_of_all {s : Shape} {axes : List (Fin s.rank)} (a : FVec Ideal s .f32) (hb : S_.BroadcastsInDim s (![] : Fin 0 → Fin s.rank)) (init : S_.Idx → BitVec 1)
    (h : s.ReducesTo axes S_) (hu : 0 < S_.numel) (j : S_.Idx)
    (e : Host.reduce IntOp.andi (cmpf .olt (Host.absf a) (broadcastInDim s ![] hb (constant S_ .f32 0x7F800000#32))) init h hu j = 1#1) (i : s.Idx) : ∃ r : ℝ, a i = (r : EReal) :=
  real_of_lt (Host.reduce_andi_all _ init h hu j e i)

/-- A list whose conjunction of sign tests is one is positive. -/
theorem pos_of_all {s : Shape} {axes : List (Fin s.rank)} (a : FVec Ideal s .f32) (hb : S_.BroadcastsInDim s (![] : Fin 0 → Fin s.rank)) (init : S_.Idx → BitVec 1)
    (h : s.ReducesTo axes S_) (hu : 0 < S_.numel) (j : S_.Idx)
    (e : Host.reduce IntOp.andi (cmpf .ogt a (broadcastInDim s ![] hb (constant S_ .f32 0x00000000#32))) init h hu j = 1#1) (i : s.Idx) : (0 : EReal) < a i :=
  pos_of_gt (Host.reduce_andi_all _ init h hu j e i)

/-- A list whose conjunction of range tests is one names systems. -/
theorem range_of_all {s : Shape} {axes : List (Fin s.rank)} (a : IVec s 32) (hb : S_.BroadcastsInDim s (![] : Fin 0 → Fin s.rank)) (init : S_.Idx → BitVec 1)
    (h : s.ReducesTo axes S_) (hu : 0 < S_.numel) (j : S_.Idx)
    (e : Host.reduce IntOp.andi (andi (cmpi .sge a (broadcastInDim s ![] hb (constantI S_ 32 0#32))) (cmpi .slt a (broadcastInDim s ![] hb (constantI S_ 32 2048#32)))) init h hu j = 1#1)
    (i : s.Idx) : (a i).toNat < 2048 :=
  small_of_range (Host.reduce_andi_all _ init h hu j e i)

/-- The first column of the power laws' table. -/
theorem radius_at (hs : S2048x4.Slices ![0, 0] S2048x1) (hc : S2048x1.ShapeCasts S2048) (k : Fin 2048) :
    (shapeCast S2048 (extractStridedSlice S2048x1 ![0, 0] a2 hs) hc : FVec Ideal S2048 .f32) (ix1 k) = a2 (ix2 k 0) := by
  pointwise

/-- The precondition read back: real entries, positive radii of the power laws, indices that name systems. -/
theorem read (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ k, (0 : EReal) < a2 (ix2 k 0)) ∧ (∀ k, (a3 (ix1 k)).toNat < 2048) ∧ ∀ k, (a4 (ix1 k)).toNat < 2048 := by
  have e := congrFun h ix0
  unfold fn fn_part1 at e
  obtain ⟨e, h4⟩ := IntOp.andi_eq_one.1 e
  obtain ⟨e, h3⟩ := IntOp.andi_eq_one.1 e
  obtain ⟨e, hp⟩ := IntOp.andi_eq_one.1 e
  obtain ⟨e, h2⟩ := IntOp.andi_eq_one.1 e
  obtain ⟨h0, h1⟩ := IntOp.andi_eq_one.1 e
  refine ⟨finite_of_all a0 _ _ _ _ _ h0, finite_of_all a1 _ _ _ _ _ h1, finite_of_all a2 _ _ _ _ _ h2, fun k => ?_,
    fun k => range_of_all a3 _ _ _ _ _ h3 (ix1 k), fun k => range_of_all a4 _ _ _ _ _ h4 (ix1 k)⟩
  exact lt_of_lt_of_eq (pos_of_all _ _ _ _ _ _ hp (ix1 k)) (radius_at a2 _ _ k)

end Cert.Proof.Domain

end
-- ==== Proof.lean ====
/- The claims of `Cert.Claim`: the runs of the kernel at both instances, the run of the reference, and the equality of the two results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_and_in_range
public import proofs.«01_k».proof.Proof.Region
public import proofs.«01_k».proof.Proof.Tables
public import proofs.«01_k».proof.Proof.Bits.Region
public import proofs.«01_k».proof.Proof.Bits.Tables
public import proofs.«01_k».proof.Proof.Result
public import proofs.«01_k».proof.Proof.Equation
public import proofs.«01_k».proof.Proof.Domain

@[expose] public section

noncomputable section

namespace Cert.Proof

open Idealize.ShloMosaic Idealize.SL.Sem

/-- The reference runs, its arguments end unchanged, and it has no semaphore counter that could be nonzero. -/
theorem reference_quiet [Cert.ReferenceIdeal.Facts] : Cert.quiescent_ReferenceIdeal := by
  intro m g _
  exact (θ_run Cert.ReferenceIdeal.defs _ _).mono
    (fun r h => ⟨fun c => (h c).2, sem_eq_zero_of_no_sems (by decide) r.2⟩)
    (Cert.ReferenceIdeal.Value.run (F := Ideal) m g)

section Values
open Cert.KernelIdeal Cert.KernelIdeal.Gen Cert.Proof.KernelIdeal

variable (m : (ℓ : Loc nD τ sig) → Buf (Elt Ideal) ℓ) (g : Dev nD → PrngReg)

/-- The kernel runs, its result is `result`, and its arguments end unchanged, when the indices name systems. -/
theorem kernel_value (h3 : ∀ c k, (arg3 m c (ix1 k)).toNat < 2048) (h4 : ∀ c k, (arg4 m c (ix1 k)).toNat < 2048) :
    θ_run defs (onTc (τ := τ) (main (F := Ideal))) ⟨m, fun _ => 0, g⟩ (fun r => ∀ c : Dev nD,
      r.2.mem ((c.tc : Thread nD τ).loc main_v0) = Cert.Proof.KernelIdeal.result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h.1 c).2 main_v0 (Pipeline.mem_restRefs_of main_v0 (by decide) (by decide))).trans (run_value m c (h3 c) (h4 c)),
     ((h.1 c).2 main_arg0 (Pipeline.mem_restRefs_of main_arg0 (by decide) (by decide))).trans (W_main_arg0 m (dats m (tables m)) c),
     ((h.1 c).2 main_arg1 (Pipeline.mem_restRefs_of main_arg1 (by decide) (by decide))).trans (W_main_arg1 m (dats m (tables m)) c),
     ((h.1 c).2 main_arg2 (Pipeline.mem_restRefs_of main_arg2 (by decide) (by decide))).trans (W_main_arg2 m (dats m (tables m)) c),
     ((h.1 c).2 main_arg3 (Pipeline.mem_restRefs_of main_arg3 (by decide) (by decide))).trans (W_main_arg3 m (dats m (tables m)) c),
     ((h.1 c).2 main_arg4 (Pipeline.mem_restRefs_of main_arg4 (by decide) (by decide))).trans (W_main_arg4 m (dats m (tables m)) c)⟩)
    (run_main m g (tables m))

end Values

/-- On data that meets the precondition, the kernel's result is the reference's function of the arguments. -/
theorem values_eq (a0 : FVec Ideal Cert.KernelIdeal.S64x64x2 .f32) (a1 : FVec Ideal Cert.KernelIdeal.S4096x3 .f32) (a2 : FVec Ideal Cert.KernelIdeal.S2048x4 .f32)
    (a3 : IVec Cert.KernelIdeal.S4096 32) (a4 : IVec Cert.KernelIdeal.S2048 32) [Cert.Pre_finite_and_in_range.Facts]
    (h : Cert.Pre_finite_and_in_range.fn (F := Ideal) a0 a1 a2 a3 a4 = fun _ => 1#1) :
    (fun i : Cert.KernelIdeal.S2048x64x64x2.Idx => Cert.Proof.KernelIdeal.entry a0 a1 a2 a3 a4 (i 0).val (i 1) (i 2) (i 3)) = Cert.Proof.ReferenceIdeal.whole a0 a1 a2 a3 a4 := by
  obtain ⟨h0, h1, h2, hp, h3, h4⟩ := Cert.Proof.Domain.read a0 a1 a2 a3 a4 h
  choose G hG using h0
  choose S hS using h1
  choose P hP using h2
  have hθ : ∀ k, 0 < P (ix2 k 0) := fun k => by have := hp k; rw [hP] at this; exact_mod_cast this
  funext i
  refine (Cert.Proof.Equation.entry_eq a0 a1 a2 a3 a4 G S P hG hS hP hθ h3 h4 (i 0) (i 1) (i 2) (i 3)).trans ?_
  exact congrArg _ (eq_ix4 i).symm

/-- The kernel and the reference end with equal results. -/
theorem values : Cert.algebraic_KernelIdeal_ReferenceIdeal_pre_finite_and_in_range (hKernelIdeal := Cert.KernelIdeal.Gen.facts)
    (hReferenceIdeal := Cert.ReferenceIdeal.Gen.facts) (hPre_finite_and_in_range := Cert.Pre_finite_and_in_range.Gen.facts) := by
  letI := Cert.Pre_finite_and_in_range.Gen.facts
  intro m g m' g' hpre heq
  refine ⟨fun c => Cert.Proof.KernelIdeal.result m c,
    kernel_value m g (fun c => (Cert.Proof.Domain.read _ _ _ _ _ (hpre c)).2.2.2.2.1) (fun c => (Cert.Proof.Domain.read _ _ _ _ _ (hpre c)).2.2.2.2.2),
    (θ_run Cert.ReferenceIdeal.defs _ _).mono (fun r h c => ⟨(h c).1.trans ?_, (h c).2⟩) (Cert.ReferenceIdeal.Value.run (F := Ideal) m' g')⟩
  obtain ⟨e0, e1, e2, e3, e4⟩ := heq c
  rw [Cert.Proof.ReferenceIdeal.result, e0, e1, e2, e3, e4]
  exact (values_eq _ _ _ _ _ (hpre c)).symm

/-- Everything the certificate claims. -/
theorem claim : Cert.Claim :=
  ⟨Cert.Kernel.Gen.facts, Cert.KernelIdeal.Gen.facts, Cert.ReferenceIdeal.Gen.facts, Cert.Pre_finite_and_in_range.Gen.facts,
    fun m g _ => Cert.Proof.Kernel.quiet m g (Cert.Proof.Kernel.tables m),
    fun m g _ => Cert.Proof.KernelIdeal.quiet m g (Cert.Proof.KernelIdeal.tables m),
    fun m g _ => Cert.Proof.KernelIdeal.quiet m g (Cert.Proof.KernelIdeal.tables m),
    reference_quiet, fun m g _ => reference_quiet m g trivial, trivial, values⟩

end Cert.Proof
